-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4RefIdeal (m : (ℓ : Loc Cert.Attn4RefIdeal.nD Cert.Attn4RefIdeal.τ Cert.Attn4RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0)
      ∧ r.2.mem ((c.tc : Thread Cert.Attn4.nD Cert.Attn4.τ).loc Cert.Attn4.main_arg1) = m ((c.tc : Thread Cert.Attn4.nD Cert.Attn4.τ).loc Cert.Attn4.main_arg1)
      ∧ r.2.mem ((c.tc : Thread Cert.Attn4.nD Cert.Attn4.τ).loc Cert.Attn4.main_arg2) = m ((c.tc : Thread Cert.Attn4.nD Cert.Attn4.τ).loc Cert.Attn4.main_arg2)
      ∧ r.2.mem ((c.tc : Thread Cert.Attn4.nD Cert.Attn4.τ).loc Cert.Attn4.main_arg3) = m ((c.tc : Thread Cert.Attn4.nD Cert.Attn4.τ).loc Cert.Attn4.main_arg3))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3))
      ∧ r.2.sem = fun _ => 0)

def quiescent_Attn4RefIdeal [hAttn4RefIdeal : Cert.Attn4RefIdeal.Facts] : Prop :=
  ∀ (m : (ℓ : Loc Cert.Attn4RefIdeal.nD Cert.Attn4RefIdeal.τ Cert.Attn4RefIdeal.sig) → Buf (Elt Ideal) ℓ) (g : Dev Cert.Attn4RefIdeal.nD → PrngReg), Pre_Attn4RefIdeal m →
    θ_run (Cert.Attn4RefIdeal.defs (F := Ideal)) (onTc (τ := Cert.Attn4RefIdeal.τ) (Cert.Attn4RefIdeal.main (F := Ideal))) ⟨m, fun _ => 0, g⟩ (fun r => (∀ c : Dev Cert.Attn4RefIdeal.nD,
      r.2.mem ((c.tc : Thread Cert.Attn4RefIdeal.nD Cert.Attn4RefIdeal.τ).loc Cert.Attn4RefIdeal.main_arg0) = m ((c.tc : Thread Cert.Attn4RefIdeal.nD Cert.Attn4RefIdeal.τ).loc Cert.Attn4RefIdeal.main_arg0)
      ∧ r.2.mem ((c.tc : Thread Cert.Attn4RefIdeal.nD Cert.Attn4RefIdeal.τ).loc Cert.Attn4RefIdeal.main_arg1) = m ((c.tc : Thread Cert.Attn4RefIdeal.nD Cert.Attn4RefIdeal.τ).loc Cert.Attn4RefIdeal.main_arg1)
      ∧ r.2.mem ((c.tc : Thread Cert.Attn4RefIdeal.nD Cert.Attn4RefIdeal.τ).loc Cert.Attn4RefIdeal.main_arg2) = m ((c.tc : Thread Cert.Attn4RefIdeal.nD Cert.Attn4RefIdeal.τ).loc Cert.Attn4RefIdeal.main_arg2)
      ∧ r.2.mem ((c.tc : Thread Cert.Attn4RefIdeal.nD Cert.Attn4RefIdeal.τ).loc Cert.Attn4RefIdeal.main_arg3) = m ((c.tc : Thread Cert.Attn4RefIdeal.nD Cert.Attn4RefIdeal.τ).loc Cert.Attn4RefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Attn4_Attn4Ideal : Prop :=
  True

def algebraic_Attn4Ideal_Attn4RefIdeal [hAttn4Ideal : Cert.Attn4Ideal.Facts] [hAttn4RefIdeal : Cert.Attn4RefIdeal.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Attn4RefIdeal.nD Cert.Attn4RefIdeal.τ Cert.Attn4RefIdeal.sig) → Buf (Elt Ideal) ℓ) (g' : Dev Cert.Attn4RefIdeal.nD → PrngReg), Pre_Attn4Ideal m →
    (∀ c : Dev Cert.Attn4Ideal.nD,
      m' ((c.tc : Thread Cert.Attn4RefIdeal.nD Cert.Attn4RefIdeal.τ).loc Cert.Attn4RefIdeal.main_arg0) = m ((c.tc : Thread Cert.Attn4Ideal.nD Cert.Attn4Ideal.τ).loc Cert.Attn4Ideal.main_arg0)
      ∧ m' ((c.tc : Thread Cert.Attn4RefIdeal.nD Cert.Attn4RefIdeal.τ).loc Cert.Attn4RefIdeal.main_arg1) = m ((c.tc : Thread Cert.Attn4Ideal.nD Cert.Attn4Ideal.τ).loc Cert.Attn4Ideal.main_arg1)
      ∧ m' ((c.tc : Thread Cert.Attn4RefIdeal.nD Cert.Attn4RefIdeal.τ).loc Cert.Attn4RefIdeal.main_arg2) = m ((c.tc : Thread Cert.Attn4Ideal.nD Cert.Attn4Ideal.τ).loc Cert.Attn4Ideal.main_arg2)
      ∧ m' ((c.tc : Thread Cert.Attn4RefIdeal.nD Cert.Attn4RefIdeal.τ).loc Cert.Attn4RefIdeal.main_arg3) = m ((c.tc : Thread Cert.Attn4Ideal.nD Cert.Attn4Ideal.τ).loc Cert.Attn4Ideal.main_arg3)) →
    ∃ (v0 : (c : Dev Cert.Attn4Ideal.nD) → Buf (Elt Ideal) ((c.tc : Thread Cert.Attn4Ideal.nD Cert.Attn4Ideal.τ).loc Cert.Attn4Ideal.main_v45_0)) (v1 : (c : Dev Cert.Attn4Ideal.nD) → Buf (Elt Ideal) ((c.tc : Thread Cert.Attn4Ideal.nD Cert.Attn4Ideal.τ).loc Cert.Attn4Ideal.main_v45_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v45_0) = v0 c
          ∧ r.2.mem ((c.tc : Thread Cert.Attn4Ideal.nD Cert.Attn4Ideal.τ).loc Cert.Attn4Ideal.main_v45_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
          ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
          ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
          ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3))
      ∧ θ_run (Cert.Attn4RefIdeal.defs (F := Ideal)) (onTc (τ := Cert.Attn4RefIdeal.τ) (Cert.Attn4RefIdeal.main (F := Ideal))) ⟨m', fun _ => 0, g'⟩ (fun r => ∀ c : Dev Cert.Attn4RefIdeal.nD,
          r.2.mem ((c.tc : Thread Cert.Attn4RefIdeal.nD Cert.Attn4RefIdeal.τ).loc Cert.Attn4RefIdeal.main_v84) = v0 c
          ∧ r.2.mem ((c.tc : Thread Cert.Attn4RefIdeal.nD Cert.Attn4RefIdeal.τ).loc Cert.Attn4RefIdeal.main_v85) = v1 c
          ∧ r.2.mem ((c.tc : Thread Cert.Attn4RefIdeal.nD Cert.Attn4RefIdeal.τ).loc Cert.Attn4RefIdeal.main_arg0) = m' ((c.tc : Thread Cert.Attn4RefIdeal.nD Cert.Attn4RefIdeal.τ).loc Cert.Attn4RefIdeal.main_arg0)
          ∧ r.2.mem ((c.tc : Thread Cert.Attn4RefIdeal.nD Cert.Attn4RefIdeal.τ).loc Cert.Attn4RefIdeal.main_arg1) = m' ((c.tc : Thread Cert.Attn4RefIdeal.nD Cert.Attn4RefIdeal.τ).loc Cert.Attn4RefIdeal.main_arg1)
          ∧ r.2.mem ((c.tc : Thread Cert.Attn4RefIdeal.nD Cert.Attn4RefIdeal.τ).loc Cert.Attn4RefIdeal.main_arg2) = m' ((c.tc : Thread Cert.Attn4RefIdeal.nD Cert.Attn4RefIdeal.τ).loc Cert.Attn4RefIdeal.main_arg2)
          ∧ r.2.mem ((c.tc : Thread Cert.Attn4RefIdeal.nD Cert.Attn4RefIdeal.τ).loc Cert.Attn4RefIdeal.main_arg3) = m' ((c.tc : Thread Cert.Attn4RefIdeal.nD Cert.Attn4RefIdeal.τ).loc Cert.Attn4RefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hAttn4 : Cert.Attn4.Facts) (hAttn4Ideal : Cert.Attn4Ideal.Facts) (hAttn4RefIdeal : Cert.Attn4RefIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Conv (hConv := hConv)
    ∧ quiescent_ConvIdeal (hConvIdeal := hConvIdeal)
    ∧ quiescent_ConvRefIdeal (hConvRefIdeal := hConvRefIdeal)
    ∧ quiescent_Attn4 (hAttn4 := hAttn4)
    ∧ quiescent_Attn4Ideal (hAttn4Ideal := hAttn4Ideal)
    ∧ quiescent_Attn4RefIdeal (hAttn4RefIdeal := hAttn4RefIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Conv_ConvIdeal
    ∧ algebraic_ConvIdeal_ConvRefIdeal (hConvIdeal := hConvIdeal) (hConvRefIdeal := hConvRefIdeal)
    ∧ preserves_Attn4_Attn4Ideal
    ∧ algebraic_Attn4Ideal_Attn4RefIdeal (hAttn4Ideal := hAttn4Ideal) (hAttn4RefIdeal := hAttn4RefIdeal)
-- ==== Kernel.lean ====
abbrev S4x8192x1024 : Shape := ⟨3, ![4, 8192, 1024]⟩
abbrev S16 : Shape := ⟨1, ![16]⟩
abbrev S_ : Shape := ⟨0, ![]⟩
abbrev S32768x1024 : Shape := ⟨2, ![32768, 1024]⟩
abbrev S128x256 : Shape := ⟨2, ![128, 256]⟩
abbrev S16x1x1 : Shape := ⟨3, ![16, 1, 1]⟩
abbrev S1x128x256 : Shape := ⟨3, ![1, 128, 256]⟩
abbrev S16x128x256 : Shape := ⟨3, ![16, 128, 256]⟩
abbrev S1x16x128x256 : Shape := ⟨4, ![1, 16, 128, 256]⟩
abbrev S2x16x128x256 : Shape := ⟨4, ![2, 16, 128, 256]⟩
abbrev S2x8x256x256 : Shape := ⟨4, ![2, 8, 256, 256]⟩
abbrev S32768x128 : Shape := ⟨2, ![32768, 128]⟩
abbrev S2048x1024 : Shape := ⟨2, ![2048, 1024]⟩
abbrev S128x1024 : Shape := ⟨2, ![128, 1024]⟩
abbrev S2048x128 : Shape := ⟨2, ![2048, 128]⟩
abbrev S128x128 : Shape := ⟨2, ![128, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 67
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S4x8192x1024, .bf16⟩
  | .hbm, ⟨12, _⟩ => ⟨S32768x1024, .bf16⟩
  | .hbm, ⟨13, _⟩ => ⟨S4x8192x1024, .bf16⟩
  | .hbm, ⟨14, _⟩ => ⟨S32768x1024, .bf16⟩
  | .hbm, ⟨15, _⟩ => ⟨S4x8192x1024, .bf16⟩
  | .hbm, ⟨16, _⟩ => ⟨S32768x1024, .bf16⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i1⟩
  | .hbm, ⟨30, _⟩ => ⟨S16x1x1, .f32⟩
  | .hbm, ⟨31, _⟩ => ⟨S16x1x1, .f32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S128x256, .f32⟩
  | .hbm, ⟨36, _⟩ => ⟨S1x128x256, .f32⟩
  | .hbm, ⟨37, _⟩ => ⟨S16x128x256, .f32⟩
  | .hbm, ⟨38, _⟩ => ⟨S16x128x256, .f32⟩
  | .hbm, ⟨39, _⟩ => ⟨S16x128x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x128x256, .f32⟩
  | .hbm, ⟨44, _⟩ => ⟨S16x128x256, .f32⟩
  | .hbm, ⟨45, _⟩ => ⟨S1x128x256, .i1⟩
  | .hbm, ⟨46, _⟩ => ⟨S_, .f32⟩
  | .hbm, ⟨47, _⟩ => ⟨S_, .f32⟩
  | .hbm, ⟨48, _⟩ => ⟨S16x128x256, .i1⟩
  | .hbm, ⟨49, _⟩ => ⟨S16x128x256, .f32⟩
  | .hbm, ⟨50, _⟩ => ⟨S16x128x256, .f32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .f32⟩
  | .hbm, ⟨57, _⟩ => ⟨S_, .f32⟩
  | .hbm, ⟨58, _⟩ => ⟨S16x128x256, .i1⟩
  | .hbm, ⟨59, _⟩ => ⟨S16x128x256, .f32⟩
  | .hbm, ⟨60, _⟩ => ⟨S16x128x256, .f32⟩
  | .hbm, ⟨61, _⟩ => ⟨S1x16x128x256, .f32⟩
  | .hbm, ⟨62, _⟩ => ⟨S1x16x128x256, .f32⟩
  | .hbm, ⟨63, _⟩ => ⟨S2x16x128x256, .f32⟩
  | .hbm, ⟨64, _⟩ => ⟨S2x8x256x256, .f32⟩
  | .hbm, ⟨65, _⟩ => ⟨S32768x1024, .bf16⟩
  | .hbm, ⟨66, _⟩ => ⟨S32768x128, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S128x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S128x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2x8x256x256, .f32⟩
  | .local _ .vmem, ⟨11, _⟩ => ⟨S2048x1024, .bf16⟩
  | .local _ .vmem, ⟨12, _⟩ => ⟨S2048x1024, .bf16⟩
  | .local _ .vmem, ⟨13, _⟩ => ⟨S2048x128, .f32⟩
  | .local _ .vmem, ⟨14, _⟩ => ⟨S2048x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 1], ![false, false, false]⟩

def k0_off1 (i : grid0.Coords) : Fin 4 → Nat :=
  let arg0 : BitVec 32 := BitVec.ofNat 32 (i 0).val
  let c1_i32 : BitVec 32 := 1#32
  let v3 : BitVec 32 := Scalar.minsi arg0 c1_i32
  let v23 : Index := Scalar.indexCast v3
  let c0_12 : Index := 0#32
  let c0_13 : Index := 0#32
  let c0_14 : Index := 0#32
  ![v23.toNat, 0, 0, 0]
def k0_off2 (i : grid0.Coords) : Fin 4 → Nat :=
  let arg0 : BitVec 32 := BitVec.ofNat 32 (i 0).val
  let c1_i32 : BitVec 32 := 1#32
  let v3 : BitVec 32 := Scalar.minsi arg0 c1_i32
  let v82 : Index := Scalar.indexCast v3
  let c1 : Index := 1#32
  let c0_32 : Index := 0#32
  let c0_33 : Index := 0#32
  ![v82.toNat, 1, 0, 0]
def k0_off3 (i : grid0.Coords) : Fin 4 → Nat :=
  let arg0 : BitVec 32 := BitVec.ofNat 32 (i 0).val
  let c1_i32 : BitVec 32 := 1#32
  let v3 : BitVec 32 := Scalar.minsi arg0 c1_i32
  let v141 : Index := Scalar.indexCast v3
  let c2 : Index := 2#32
  let c0_50 : Index := 0#32
  let c0_51 : Index := 0#32
  ![v141.toNat, 2, 0, 0]
def k0_off4 (i : grid0.Coords) : Fin 4 → Nat :=
  let arg0 : BitVec 32 := BitVec.ofNat 32 (i 0).val
  let c1_i32 : BitVec 32 := 1#32
  let v3 : BitVec 32 := Scalar.minsi arg0 c1_i32
  let v200 : Index := Scalar.indexCast v3
  let c3 : Index := 3#32
  let c0_68 : Index := 0#32
  let c0_69 : Index := 0#32
  ![v200.toNat, 3, 0, 0]
def k0_off5 (i : grid0.Coords) : Fin 4 → Nat :=
  let arg0 : BitVec 32 := BitVec.ofNat 32 (i 0).val
  let c1_i32 : BitVec 32 := 1#32
  let v3 : BitVec 32 := Scalar.minsi arg0 c1_i32
  let v259 : Index := Scalar.indexCast v3
  let c4 : Index := 4#32
  let c0_86 : Index := 0#32
  let c0_87 : Index := 0#32
  ![v259.toNat, 4, 0, 0]
def k0_off6 (i : grid0.Coords) : Fin 4 → Nat :=
  let arg0 : BitVec 32 := BitVec.ofNat 32 (i 0).val
  let c1_i32 : BitVec 32 := 1#32
  let v3 : BitVec 32 := Scalar.minsi arg0 c1_i32
  let v318 : Index := Scalar.indexCast v3
  let c5 : Index := 5#32
  let c0_104 : Index := 0#32
  let c0_105 : Index := 0#32
  ![v318.toNat, 5, 0, 0]
def k0_off7 (i : grid0.Coords) : Fin 4 → Nat :=
  let arg0 : BitVec 32 := BitVec.ofNat 32 (i 0).val
  let c1_i32 : BitVec 32 := 1#32
  let v3 : BitVec 32 := Scalar.minsi arg0 c1_i32
  let v377 : Index := Scalar.indexCast v3
  let c6 : Index := 6#32
  let c0_122 : Index := 0#32
  let c0_123 : Index := 0#32
  ![v377.toNat, 6, 0, 0]
def k0_off8 (i : grid0.Coords) : Fin 4 → Nat :=
  let arg0 : BitVec 32 := BitVec.ofNat 32 (i 0).val
  let c1_i32 : BitVec 32 := 1#32
  let v3 : BitVec 32 := Scalar.minsi arg0 c1_i32
  let v436 : Index := Scalar.indexCast v3
  let c7 : Index := 7#32
  let c0_140 : Index := 0#32
  let c0_141 : Index := 0#32
  ![v436.toNat, 7, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  ![v4.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2x8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x8192x1024 : Shape := ⟨3, ![4, 8192, 1024]⟩
abbrev S16 : Shape := ⟨1, ![16]⟩
abbrev S4x8192x16x64 : Shape := ⟨4, ![4, 8192, 16, 64]⟩
abbrev S_ : Shape := ⟨0, ![]⟩
abbrev S4x64x128x1x16x64 : Shape := ⟨6, ![4, 64, 128, 1, 16, 64]⟩
abbrev S4x1x128x1x16x64 : Shape := ⟨6, ![4, 1, 128, 1, 16, 64]⟩
abbrev S4x63x128x1x16x64 : Shape := ⟨6, ![4, 63, 128, 1, 16, 64]⟩
abbrev S4x64x256x1x16x64 : Shape := ⟨6, ![4, 64, 256, 1, 16, 64]⟩
abbrev S4x64x1x16x128x256 : Shape := ⟨6, ![4, 64, 1, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S16x1x1 : Shape := ⟨3, ![16, 1, 1]⟩
abbrev S16x128x256 : Shape := ⟨3, ![16, 128, 256]⟩
abbrev S64x1x1x128x256 : Shape := ⟨5, ![64, 1, 1, 128, 256]⟩
abbrev S1x1x1x16x128x256 : Shape := ⟨6, ![1, 1, 1, 16, 128, 256]⟩
abbrev S4x64x1x16x128 : Shape := ⟨5, ![4, 64, 1, 16, 128]⟩
abbrev S4x64x1x16x128x1 : Shape := ⟨6, ![4, 64, 1, 16, 128, 1]⟩
abbrev S4x64x1x16x64x128 : Shape := ⟨6, ![4, 64, 1, 16, 64, 128]⟩
abbrev S4x64x128x1x16 : Shape := ⟨5, ![4, 64, 128, 1, 16]⟩
abbrev S32768x1x16 : Shape := ⟨3, ![32768, 1, 16]⟩
abbrev S32768x1x96 : Shape := ⟨3, ![32768, 1, 96]⟩
abbrev S32768x1x128 : Shape := ⟨3, ![32768, 1, 128]⟩
abbrev S32768x1024 : Shape := ⟨2, ![32768, 1024]⟩
abbrev S32768x128 : Shape := ⟨2, ![32768, 128]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S16, .f32⟩
  | .hbm, ⟨4, _⟩ => ⟨S4x8192x16x64, .f32⟩
  | .hbm, ⟨5, _⟩ => ⟨S_, .f32⟩
  | .hbm, ⟨6, _⟩ => ⟨S4x8192x16x64, .f32⟩
  | .hbm, ⟨7, _⟩ => ⟨S4x8192x16x64, .f32⟩
  | .hbm, ⟨8, _⟩ => ⟨S4x8192x16x64, .f32⟩
  | .hbm, ⟨9, _⟩ => ⟨S4x64x128x1x16x64, .f32⟩
  | .hbm, ⟨10, _⟩ => ⟨S4x1x128x1x16x64, .f32⟩
  | .hbm, ⟨11, _⟩ => ⟨S_, .f32⟩
  | .hbm, ⟨12, _⟩ => ⟨S4x1x128x1x16x64, .f32⟩
  | .hbm, ⟨13, _⟩ => ⟨S4x63x128x1x16x64, .f32⟩
  | .hbm, ⟨14, _⟩ => ⟨S4x64x128x1x16x64, .f32⟩
  | .hbm, ⟨15, _⟩ => ⟨S4x64x256x1x16x64, .f32⟩
  | .hbm, ⟨16, _⟩ => ⟨S4x8192x16x64, .f32⟩
  | .hbm, ⟨17, _⟩ => ⟨S4x64x128x1x16x64, .f32⟩
  | .hbm, ⟨18, _⟩ => ⟨S4x1x128x1x16x64, .f32⟩
  | .hbm, ⟨19, _⟩ => ⟨S_, .f32⟩
  | .hbm, ⟨20, _⟩ => ⟨S4x1x128x1x16x64, .f32⟩
  | .hbm, ⟨21, _⟩ => ⟨S4x63x128x1x16x64, .f32⟩
  | .hbm, ⟨22, _⟩ => ⟨S4x64x128x1x16x64, .f32⟩
  | .hbm, ⟨23, _⟩ => ⟨S4x64x256x1x16x64, .f32⟩
  | .hbm, ⟨24, _⟩ => ⟨S4x64x128x1x16x64, .f32⟩
  | .hbm, ⟨25, _⟩ => ⟨S4x64x1x16x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S64, .i32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S64x1x1, .i1⟩
  | .hbm, ⟨48, _⟩ => ⟨S1x128x256, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S64x1x256, .i1⟩
  | .hbm, ⟨54, _⟩ => ⟨S64x1x256, .i1⟩
  | .hbm, ⟨55, _⟩ => ⟨S64x1x256, .i1⟩
  | .hbm, ⟨56, _⟩ => ⟨S64x1x256, .i1⟩
  | .hbm, ⟨57, _⟩ => ⟨S64x128x256, .i1⟩
  | .hbm, ⟨58, _⟩ => ⟨S64x128x256, .i1⟩
  | .hbm, ⟨59, _⟩ => ⟨S64x128x256, .i1⟩
  | .hbm, ⟨60, _⟩ => ⟨S16x1x1, .f32⟩
  | .hbm, ⟨61, _⟩ => ⟨S16x1x1, .f32⟩
  | .hbm, ⟨62, _⟩ => ⟨S_, .i32⟩
  | .hbm, ⟨63, _⟩ => ⟨S128x256, .i32⟩
  | .hbm, ⟨64, _⟩ => ⟨S128x256, .i32⟩
  | .hbm, ⟨65, _⟩ => ⟨S128x256, .f32⟩
  | .hbm, ⟨66, _⟩ => ⟨S1x128x256, .f32⟩
  | .hbm, ⟨67, _⟩ => ⟨S16x128x256, .f32⟩
  | .hbm, ⟨68, _⟩ => ⟨S16x128x256, .f32⟩
  | .hbm, ⟨69, _⟩ => ⟨S16x128x256, .f32⟩
  | .hbm, ⟨70, _⟩ => ⟨S64x1x1x128x256, .i1⟩
  | .hbm, ⟨71, _⟩ => ⟨S1x1x1x16x128x256, .f32⟩
  | .hbm, ⟨72, _⟩ => ⟨S4x64x1x16x128x256, .f32⟩
  | .hbm, ⟨73, _⟩ => ⟨S4x64x1x16x128x256, .f32⟩
  | .hbm, ⟨74, _⟩ => ⟨S_, .f32⟩
  | .hbm, ⟨75, _⟩ => ⟨S_, .f32⟩
  | .hbm, ⟨76, _⟩ => ⟨S4x64x1x16x128x256, .i1⟩
  | .hbm, ⟨77, _⟩ => ⟨S4x64x1x16x128x256, .f32⟩
  | .hbm, ⟨78, _⟩ => ⟨S4x64x1x16x128x256, .f32⟩
  | .hbm, ⟨79, _⟩ => ⟨S_, .f32⟩
  | .hbm, ⟨80, _⟩ => ⟨S4x64x1x16x128, .f32⟩
  | .hbm, ⟨81, _⟩ => ⟨S4x64x1x16x128x1, .f32⟩
  | .hbm, ⟨82, _⟩ => ⟨S4x64x1x16x128x256, .f32⟩
  | .hbm, ⟨83, _⟩ => ⟨S4x64x1x16x128x256, .f32⟩
  | .hbm, ⟨84, _⟩ => ⟨S4x64x1x16x128x256, .f32⟩
  | .hbm, ⟨85, _⟩ => ⟨S_, .f32⟩
  | .hbm, ⟨86, _⟩ => ⟨S4x64x1x16x128, .f32⟩
  | .hbm, ⟨87, _⟩ => ⟨S4x64x1x16x128x1, .f32⟩
  | .hbm, ⟨88, _⟩ => ⟨S4x64x1x16x64x128, .f32⟩
  | .hbm, ⟨89, _⟩ => ⟨S4x64x128x1x16x64, .f32⟩
  | .hbm, ⟨90, _⟩ => ⟨S4x64x1x16x128, .f32⟩
  | .hbm, ⟨91, _⟩ => ⟨S4x64x128x1x16, .f32⟩
  | .hbm, ⟨92, _⟩ => ⟨S32768x1x16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S32768x1x16, .f32⟩
  | .hbm, ⟨97, _⟩ => ⟨S32768x1x16, .f32⟩
  | .hbm, ⟨98, _⟩ => ⟨S4x64x1x16x128, .f32⟩
  | .hbm, ⟨99, _⟩ => ⟨S4x64x128x1x16, .f32⟩
  | .hbm, ⟨100, _⟩ => ⟨S32768x1x16, .f32⟩
  | .hbm, ⟨101, _⟩ => ⟨S_, .f32⟩
  | .hbm, ⟨102, _⟩ => ⟨S32768x1x96, .f32⟩
  | .hbm, ⟨103, _⟩ => ⟨S32768x1x128, .f32⟩
  | .hbm, ⟨104, _⟩ => ⟨S32768x1024, .f32⟩
  | .hbm, ⟨105, _⟩ => ⟨S32768x1024, .bf16⟩
  | .hbm, ⟨106, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Ffn.lean ====
abbrev S4x8192x1024 : Shape := ⟨3, ![4, 8192, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S16x1x1024 : Shape := ⟨3, ![16, 1, 1024]⟩
abbrev S32768x1024 : Shape := ⟨2, ![32768, 1024]⟩
abbrev S1024x1024 : Shape := ⟨2, ![1024, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x2816 : Shape := ⟨3, ![1, 1024, 2816]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S16x1x1024, .f32⟩
  | .hbm, ⟨5, _⟩ => ⟨S4x1024x5632, .bf16⟩
  | .hbm, ⟨6, _⟩ => ⟨S4x2816x1024, .bf16⟩
  | .hbm, ⟨7, _⟩ => ⟨S32768x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c14_i32 : BitVec 32 := 14#32
  let c0_i32 : BitVec 32 := 0#32
  let c0_i32_0 : BitVec 32 := 0#32
  let c0_i32_1 : BitVec 32 := 0#32
  ![c14_i32.toNat, c0_i32.toNat, c0_i32_0.toNat]

def cc0_transform_2 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S4x8192x1024 : Shape := ⟨3, ![4, 8192, 1024]⟩
abbrev S4x4x1024 : Shape := ⟨3, ![4, 4, 1024]⟩
abbrev S4x1024x5632 : Shape := ⟨3, ![4, 1024, 5632]⟩
abbrev S4x2816x1024 : Shape := ⟨3, ![4, 2816, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x4x1024, .f32⟩
  | .hbm, ⟨2, _⟩ => ⟨S4x1024x5632, .f32⟩
  | .hbm, ⟨3, _⟩ => ⟨S4x2816x1024, .f32⟩
  | .hbm, ⟨4, _⟩ => ⟨S1x4x1024, .f32⟩
  | .hbm, ⟨5, _⟩ => ⟨S4x1024, .f32⟩
  | .hbm, ⟨6, _⟩ => ⟨S1x1024, .f32⟩
  | .hbm, ⟨7, _⟩ => ⟨S1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S1x1024x5632, .f32⟩
  | .hbm, ⟨25, _⟩ => ⟨S1024x5632, .f32⟩
  | .hbm, ⟨26, _⟩ => ⟨S1x2816x1024, .f32⟩
  | .hbm, ⟨27, _⟩ => ⟨S2816x1024, .f32⟩
  | .hbm, ⟨28, _⟩ => ⟨S4x8192x5632, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S_, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S4x8192x2816, .f32⟩
  | .hbm, ⟨41, _⟩ => ⟨S4x8192x1024, .f32⟩
  | .hbm, ⟨42, _⟩ => ⟨S1x1024, .f32⟩
  | .hbm, ⟨43, _⟩ => ⟨S1024, .f32⟩
  | .hbm, ⟨44, _⟩ => ⟨S4x8192x1024, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Conv.lean ====
abbrev S4x8192x1024 : Shape := ⟨3, ![4, 8192, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S16x1x1024 : Shape := ⟨3, ![16, 1, 1024]⟩
abbrev S1x1024x1024 : Shape := ⟨3, ![1, 1024, 1024]⟩
abbrev S1x1x1024 : Shape := ⟨3, ![1, 1, 1024]⟩
abbrev S1x1024x3072 : Shape := ⟨3, ![1, 1024, 3072]⟩
abbrev S1x3x1024 : Shape := ⟨3, ![1, 3, 1024]⟩
abbrev S1032x1024 : Shape := ⟨2, ![1032, 1024]⟩
abbrev S8x1024 : Shape := ⟨2, ![8, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S16x1x1024, .f32⟩
  | .hbm, ⟨6, _⟩ => ⟨S2x1024x3072, .bf16⟩
  | .hbm, ⟨7, _⟩ => ⟨S2x1024x1024, .bf16⟩
  | .hbm, ⟨8, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x3072, .bf16⟩
  | .local _ .vmem, ⟨5, _⟩ => ⟨S1x3x1024, .f32⟩
  | .local _ .vmem, ⟨6, _⟩ => ⟨S1x1024x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1032x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S4x8192x1024 : Shape := ⟨3, ![4, 8192, 1024]⟩
abbrev S4x4x1024 : Shape := ⟨3, ![4, 4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S1x3x1024 : Shape := ⟨3, ![1, 3, 1024]⟩
abbrev S3x1024 : Shape := ⟨2, ![3, 1024]⟩
abbrev S1x1024x1024 : Shape := ⟨3, ![1, 1024, 1024]⟩
abbrev S1024x1024 : Shape := ⟨2, ![1024, 1024]⟩
abbrev S4x8192x3072 : Shape := ⟨3, ![4, 8192, 3072]⟩
abbrev S4x8194x1024 : Shape := ⟨3, ![4, 8194, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x4x1024, .f32⟩
  | .hbm, ⟨6, _⟩ => ⟨S4x1024, .f32⟩
  | .hbm, ⟨7, _⟩ => ⟨S1x1024, .f32⟩
  | .hbm, ⟨8, _⟩ => ⟨S1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S1x1024x3072, .f32⟩
  | .hbm, ⟨26, _⟩ => ⟨S1024x3072, .f32⟩
  | .hbm, ⟨27, _⟩ => ⟨S1x3x1024, .f32⟩
  | .hbm, ⟨28, _⟩ => ⟨S3x1024, .f32⟩
  | .hbm, ⟨29, _⟩ => ⟨S1x1024x1024, .f32⟩
  | .hbm, ⟨30, _⟩ => ⟨S1024x1024, .f32⟩
  | .hbm, ⟨31, _⟩ => ⟨S4x8192x3072, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .i32⟩
  | .hbm, ⟨37, _⟩ => ⟨S_, .f32⟩
  | .hbm, ⟨38, _⟩ => ⟨S4x8194x1024, .f32⟩
  | .hbm, ⟨39, _⟩ => ⟨S1x1024, .f32⟩
  | .hbm, ⟨40, _⟩ => ⟨S1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | .hbm, ⟨45, _⟩ => ⟨S1x1024, .f32⟩
  | .hbm, ⟨46, _⟩ => ⟨S1024, .f32⟩
  | .hbm, ⟨47, _⟩ => ⟨S4x8192x1024, .f32⟩
  | .hbm, ⟨48, _⟩ => ⟨S1x1x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S1x1024, .f32⟩
  | .hbm, ⟨53, _⟩ => ⟨S1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S1x1024, .f32⟩
  | .hbm, ⟨62, _⟩ => ⟨S1024, .f32⟩
  | .hbm, ⟨63, _⟩ => ⟨S4x8192x1024, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S_, .f32⟩
  | .hbm, ⟨68, _⟩ => ⟨S4x8192x1, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S4x8192x1, .f32⟩
  | .hbm, ⟨74, _⟩ => ⟨S4x8192x1024, .f32⟩
  | .hbm, ⟨75, _⟩ => ⟨S4x8192x1024, .f32⟩
  | .hbm, ⟨76, _⟩ => ⟨S1x1x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_2 : Ref sig .tc := ⟨.hbm, 64, rfl⟩
abbrev main_v54 : Ref sig .tc := ⟨.hbm, 65, rfl⟩
abbrev main_v55 : Ref sig .tc := ⟨.hbm, 66, rfl⟩
abbrev main_cst_3 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩

abbrev nD : Nat := 1
abbrev τ : Topo := Topo.v7x

variable {F : FTy → Type} [FloatOps F]
-- ==== Attn4.lean ====
abbrev S4x8192x1024 : Shape := ⟨3, ![4, 8192, 1024]⟩
abbrev S16 : Shape := ⟨1, ![16]⟩
abbrev S_ : Shape := ⟨0, ![]⟩
abbrev S8192x4096 : Shape := ⟨2, ![8192, 4096]⟩
abbrev S128x256 : Shape := ⟨2, ![128, 256]⟩
abbrev S16x1x1 : Shape := ⟨3, ![16, 1, 1]⟩
abbrev S1x128x256 : Shape := ⟨3, ![1, 128, 256]⟩
abbrev S16x128x256 : Shape := ⟨3, ![16, 128, 256]⟩
abbrev S1x16x128x256 : Shape := ⟨4, ![1, 16, 128, 256]⟩
abbrev S2x16x128x256 : Shape := ⟨4, ![2, 16, 128, 256]⟩
abbrev S2x8x256x256 : Shape := ⟨4, ![2, 8, 256, 256]⟩
abbrev S8192x512 : Shape := ⟨2, ![8192, 512]⟩
abbrev S2048x1024 : Shape := ⟨2, ![2048, 1024]⟩
abbrev S128x1024 : Shape := ⟨2, ![128, 1024]⟩
abbrev S2048x128 : Shape := ⟨2, ![2048, 128]⟩
abbrev S128x128 : Shape := ⟨2, ![128, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S128x1 : Shape := ⟨2, ![128, 1]⟩

abbrev nBuf : Space → Nat
  | .hbm => 67
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x1024, .f32⟩
  | .hbm, ⟨10, _⟩ => ⟨S4x8192x1024, .f32⟩
  | .hbm, ⟨11, _⟩ => ⟨S4x8192x1024, .bf16⟩
  | .hbm, ⟨12, _⟩ => ⟨S8192x4096, .bf16⟩
  | .hbm, ⟨13, _⟩ => ⟨S4x8192x1024, .bf16⟩
  | .hbm, ⟨14, _⟩ => ⟨S8192x4096, .bf16⟩
  | .hbm, ⟨15, _⟩ => ⟨S4x8192x1024, .bf16⟩
  | .hbm, ⟨16, _⟩ => ⟨S8192x4096, .bf16⟩
  | .hbm, ⟨17, _⟩ => ⟨S128x256, .i32⟩
  | .hbm, ⟨18, _⟩ => ⟨S128x256, .i32⟩
  | .hbm, ⟨19, _⟩ => ⟨S_, .i32⟩
  | .hbm, ⟨20, _⟩ => ⟨S128x256, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i1⟩
  | .hbm, ⟨26, _⟩ => ⟨S_, .i32⟩
  | .hbm, ⟨27, _⟩ => ⟨S128x256, .i32⟩
  | .hbm, ⟨28, _⟩ => ⟨S128x256, .i1⟩
  | .hbm, ⟨29, _⟩ => ⟨S128x256, .i1⟩
  | .hbm, ⟨30, _⟩ => ⟨S16x1x1, .f32⟩
  | .hbm, ⟨31, _⟩ => ⟨S16x1x1, .f32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S128x256, .f32⟩
  | .hbm, ⟨36, _⟩ => ⟨S1x128x256, .f32⟩
  | .hbm, ⟨37, _⟩ => ⟨S16x128x256, .f32⟩
  | .hbm, ⟨38, _⟩ => ⟨S16x128x256, .f32⟩
  | .hbm, ⟨39, _⟩ => ⟨S16x128x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x128x256, .f32⟩
  | .hbm, ⟨44, _⟩ => ⟨S16x128x256, .f32⟩
  | .hbm, ⟨45, _⟩ => ⟨S1x128x256, .i1⟩
  | .hbm, ⟨46, _⟩ => ⟨S_, .f32⟩
  | .hbm, ⟨47, _⟩ => ⟨S_, .f32⟩
  | .hbm, ⟨48, _⟩ => ⟨S16x128x256, .i1⟩
  | .hbm, ⟨49, _⟩ => ⟨S16x128x256, .f32⟩
  | .hbm, ⟨50, _⟩ => ⟨S16x128x256, .f32⟩
  | .hbm, ⟨51, _⟩ => ⟨S_, .i32⟩
  | .hbm, ⟨52, _⟩ => ⟨S128x256, .i32⟩
  | .hbm, ⟨53, _⟩ => ⟨S128x256, .i1⟩
  | .hbm, ⟨54, _⟩ => ⟨S128x256, .i1⟩
  | .hbm, ⟨55, _⟩ => ⟨S1x128x256, .i1⟩
  | .hbm, ⟨56, _⟩ => ⟨S_, .f32⟩
  | .hbm, ⟨57, _⟩ => ⟨S_, .f32⟩
  | .hbm, ⟨58, _⟩ => ⟨S16x128x256, .i1⟩
  | .hbm, ⟨59, _⟩ => ⟨S16x128x256, .f32⟩
  | .hbm, ⟨60, _⟩ => ⟨S16x128x256, .f32⟩
  | .hbm, ⟨61, _⟩ => ⟨S1x16x128x256, .f32⟩
  | .hbm, ⟨62, _⟩ => ⟨S1x16x128x256, .f32⟩
  | .hbm, ⟨63, _⟩ => ⟨S2x16x128x256, .f32⟩
  | .hbm, ⟨64, _⟩ => ⟨S2x8x256x256, .f32⟩
  | .hbm, ⟨65, _⟩ => ⟨S8192x4096, .bf16⟩
  | .hbm, ⟨66, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S128x1024, .bf16⟩
  | .local _ .vmem, ⟨3, _⟩ => ⟨S128x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S128x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2x8x256x256, .f32⟩
  | .local _ .vmem, ⟨11, _⟩ => ⟨S2048x1024, .bf16⟩
  | .local _ .vmem, ⟨12, _⟩ => ⟨S2048x1024, .bf16⟩
  | .local _ .vmem, ⟨13, _⟩ => ⟨S2048x128, .f32⟩
  | .local _ .vmem, ⟨14, _⟩ => ⟨S2048x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45_0 : Ref sig .tc := ⟨.hbm, 65, rfl⟩
abbrev main_v45_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![1, 4, 4], ![false, false, false]⟩

def k0_off1 (i : grid0.Coords) : Fin 4 → Nat :=
  let arg0 : BitVec 32 := BitVec.ofNat 32 (i 0).val
  let c1_i32 : BitVec 32 := 1#32
  let v3 : BitVec 32 := Scalar.minsi arg0 c1_i32
  let v23 : Index := Scalar.indexCast v3
  let c0_12 : Index := 0#32
  let c0_13 : Index := 0#32
  let c0_14 : Index := 0#32
  ![v23.toNat, 0, 0, 0]
def k0_off2 (i : grid0.Coords) : Fin 4 → Nat :=
  let arg0 : BitVec 32 := BitVec.ofNat 32 (i 0).val
  let c1_i32 : BitVec 32 := 1#32
  let v3 : BitVec 32 := Scalar.minsi arg0 c1_i32
  let v82 : Index := Scalar.indexCast v3
  let c1 : Index := 1#32
  let c0_32 : Index := 0#32
  let c0_33 : Index := 0#32
  ![v82.toNat, 1, 0, 0]
def k0_off3 (i : grid0.Coords) : Fin 4 → Nat :=
  let arg0 : BitVec 32 := BitVec.ofNat 32 (i 0).val
  let c1_i32 : BitVec 32 := 1#32
  let v3 : BitVec 32 := Scalar.minsi arg0 c1_i32
  let v141 : Index := Scalar.indexCast v3
  let c2 : Index := 2#32
  let c0_50 : Index := 0#32
  let c0_51 : Index := 0#32
  ![v141.toNat, 2, 0, 0]
def k0_off4 (i : grid0.Coords) : Fin 4 → Nat :=
  let arg0 : BitVec 32 := BitVec.ofNat 32 (i 0).val
  let c1_i32 : BitVec 32 := 1#32
  let v3 : BitVec 32 := Scalar.minsi arg0 c1_i32
  let v200 : Index := Scalar.indexCast v3
  let c3 : Index := 3#32
  let c0_68 : Index := 0#32
  let c0_69 : Index := 0#32
  ![v200.toNat, 3, 0, 0]
def k0_off5 (i : grid0.Coords) : Fin 4 → Nat :=
  let arg0 : BitVec 32 := BitVec.ofNat 32 (i 0).val
  let c1_i32 : BitVec 32 := 1#32
  let v3 : BitVec 32 := Scalar.minsi arg0 c1_i32
  let v259 : Index := Scalar.indexCast v3
  let c4 : Index := 4#32
  let c0_86 : Index := 0#32
  let c0_87 : Index := 0#32
  ![v259.toNat, 4, 0, 0]
def k0_off6 (i : grid0.Coords) : Fin 4 → Nat :=
  let arg0 : BitVec 32 := BitVec.ofNat 32 (i 0).val
  let c1_i32 : BitVec 32 := 1#32
  let v3 : BitVec 32 := Scalar.minsi arg0 c1_i32
  let v318 : Index := Scalar.indexCast v3
  let c5 : Index := 5#32
  let c0_104 : Index := 0#32
  let c0_105 : Index := 0#32
  ![v318.toNat, 5, 0, 0]
def k0_off7 (i : grid0.Coords) : Fin 4 → Nat :=
  let arg0 : BitVec 32 := BitVec.ofNat 32 (i 0).val
  let c1_i32 : BitVec 32 := 1#32
  let v3 : BitVec 32 := Scalar.minsi arg0 c1_i32
  let v377 : Index := Scalar.indexCast v3
  let c6 : Index := 6#32
  let c0_122 : Index := 0#32
  let c0_123 : Index := 0#32
  ![v377.toNat, 6, 0, 0]
def k0_off8 (i : grid0.Coords) : Fin 4 → Nat :=
  let arg0 : BitVec 32 := BitVec.ofNat 32 (i 0).val
  let c1_i32 : BitVec 32 := 1#32
  let v3 : BitVec 32 := Scalar.minsi arg0 c1_i32
  let v436 : Index := Scalar.indexCast v3
  let c7 : Index := 7#32
  let c0_140 : Index := 0#32
  let c0_141 : Index := 0#32
  ![v436.toNat, 7, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c16_i32 : BitVec 32 := 16#32
  let v2 : BitVec 32 := Scalar.muli v1 c16_i32
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  ![v4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c16_i32 : BitVec 32 := 16#32
  let v2 : BitVec 32 := Scalar.muli v1 c16_i32
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  ![v4.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg0
  let c0_i32 : BitVec 32 := 0#32
  ![v1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2x8x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Attn4RefIdeal.lean ====
abbrev S4x8192x1024 : Shape := ⟨3, ![4, 8192, 1024]⟩
abbrev S16 : Shape := ⟨1, ![16]⟩
abbrev S4x8192x16x64 : Shape := ⟨4, ![4, 8192, 16, 64]⟩
abbrev S_ : Shape := ⟨0, ![]⟩
abbrev S4x16x128x4x16x64 : Shape := ⟨6, ![4, 16, 128, 4, 16, 64]⟩
abbrev S4x1x128x4x16x64 : Shape := ⟨6, ![4, 1, 128, 4, 16, 64]⟩
abbrev S4x15x128x4x16x64 : Shape := ⟨6, ![4, 15, 128, 4, 16, 64]⟩
abbrev S4x16x256x4x16x64 : Shape := ⟨6, ![4, 16, 256, 4, 16, 64]⟩
abbrev S4x16x4x16x128x256 : Shape := ⟨6, ![4, 16, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x1x1x16x128x256 : Shape := ⟨6, ![1, 1, 1, 16, 128, 256]⟩
abbrev S4x16x4x16x128 : Shape := ⟨5, ![4, 16, 4, 16, 128]⟩
abbrev S4x16x4x16x128x1 : Shape := ⟨6, ![4, 16, 4, 16, 128, 1]⟩
abbrev S4x16x4x16x64x128 : Shape := ⟨6, ![4, 16, 4, 16, 64, 128]⟩
abbrev S4x16x128x4x16 : Shape := ⟨5, ![4, 16, 128, 4, 16]⟩
abbrev S8192x4x16 : Shape := ⟨3, ![8192, 4, 16]⟩
abbrev S8192x4x96 : Shape := ⟨3, ![8192, 4, 96]⟩
abbrev S8192x4x128 : Shape := ⟨3, ![8192, 4, 128]⟩
abbrev S8192x4096 : Shape := ⟨2, ![8192, 4096]⟩
abbrev S8192x512 : Shape := ⟨2, ![8192, 512]⟩

abbrev nBuf : Space → Nat
  | .hbm => 107
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S16, .f32⟩
  | .hbm, ⟨4, _⟩ => ⟨S4x8192x16x64, .f32⟩
  | .hbm, ⟨5, _⟩ => ⟨S_, .f32⟩
  | .hbm, ⟨6, _⟩ => ⟨S4x8192x16x64, .f32⟩
  | .hbm, ⟨7, _⟩ => ⟨S4x8192x16x64, .f32⟩
  | .hbm, ⟨8, _⟩ => ⟨S4x8192x16x64, .f32⟩
  | .hbm, ⟨9, _⟩ => ⟨S4x16x128x4x16x64, .f32⟩
  | .hbm, ⟨10, _⟩ => ⟨S4x1x128x4x16x64, .f32⟩
  | .hbm, ⟨11, _⟩ => ⟨S_, .f32⟩
  | .hbm, ⟨12, _⟩ => ⟨S4x1x128x4x16x64, .f32⟩
  | .hbm, ⟨13, _⟩ => ⟨S4x15x128x4x16x64, .f32⟩
  | .hbm, ⟨14, _⟩ => ⟨S4x16x128x4x16x64, .f32⟩
  | .hbm, ⟨15, _⟩ => ⟨S4x16x256x4x16x64, .f32⟩
  | .hbm, ⟨16, _⟩ => ⟨S4x8192x16x64, .f32⟩
  | .hbm, ⟨17, _⟩ => ⟨S4x16x128x4x16x64, .f32⟩
  | .hbm, ⟨18, _⟩ => ⟨S4x1x128x4x16x64, .f32⟩
  | .hbm, ⟨19, _⟩ => ⟨S_, .f32⟩
  | .hbm, ⟨20, _⟩ => ⟨S4x1x128x4x16x64, .f32⟩
  | .hbm, ⟨21, _⟩ => ⟨S4x15x128x4x16x64, .f32⟩
  | .hbm, ⟨22, _⟩ => ⟨S4x16x128x4x16x64, .f32⟩
  | .hbm, ⟨23, _⟩ => ⟨S4x16x256x4x16x64, .f32⟩
  | .hbm, ⟨24, _⟩ => ⟨S4x16x128x4x16x64, .f32⟩
  | .hbm, ⟨25, _⟩ => ⟨S4x16x4x16x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S16, .i32⟩
  | .hbm, ⟨44, _⟩ => ⟨S_, .i32⟩
  | .hbm, ⟨45, _⟩ => ⟨S16, .i32⟩
  | .hbm, ⟨46, _⟩ => ⟨S16, .i1⟩
  | .hbm, ⟨47, _⟩ => ⟨S16x1x1, .i1⟩
  | .hbm, ⟨48, _⟩ => ⟨S1x128x256, .i1⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x1x256, .i1⟩
  | .hbm, ⟨53, _⟩ => ⟨S16x1x256, .i1⟩
  | .hbm, ⟨54, _⟩ => ⟨S16x1x256, .i1⟩
  | .hbm, ⟨55, _⟩ => ⟨S16x1x256, .i1⟩
  | .hbm, ⟨56, _⟩ => ⟨S16x1x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S16x1x1, .f32⟩
  | .hbm, ⟨61, _⟩ => ⟨S16x1x1, .f32⟩
  | .hbm, ⟨62, _⟩ => ⟨S_, .i32⟩
  | .hbm, ⟨63, _⟩ => ⟨S128x256, .i32⟩
  | .hbm, ⟨64, _⟩ => ⟨S128x256, .i32⟩
  | .hbm, ⟨65, _⟩ => ⟨S128x256, .f32⟩
  | .hbm, ⟨66, _⟩ => ⟨S1x128x256, .f32⟩
  | .hbm, ⟨67, _⟩ => ⟨S16x128x256, .f32⟩
  | .hbm, ⟨68, _⟩ => ⟨S16x128x256, .f32⟩
  | .hbm, ⟨69, _⟩ => ⟨S16x128x256, .f32⟩
  | .hbm, ⟨70, _⟩ => ⟨S16x1x1x128x256, .i1⟩
  | .hbm, ⟨71, _⟩ => ⟨S1x1x1x16x128x256, .f32⟩
  | .hbm, ⟨72, _⟩ => ⟨S4x16x4x16x128x256, .f32⟩
  | .hbm, ⟨73, _⟩ => ⟨S4x16x4x16x128x256, .f32⟩
  | .hbm, ⟨74, _⟩ => ⟨S_, .f32⟩
  | .hbm, ⟨75, _⟩ => ⟨S_, .f32⟩
  | .hbm, ⟨76, _⟩ => ⟨S4x16x4x16x128x256, .i1⟩
  | .hbm, ⟨77, _⟩ => ⟨S4x16x4x16x128x256, .f32⟩
  | .hbm, ⟨78, _⟩ => ⟨S4x16x4x16x128x256, .f32⟩
  | .hbm, ⟨79, _⟩ => ⟨S_, .f32⟩
  | .hbm, ⟨80, _⟩ => ⟨S4x16x4x16x128, .f32⟩
  | .hbm, ⟨81, _⟩ => ⟨S4x16x4x16x128x1, .f32⟩
  | .hbm, ⟨82, _⟩ => ⟨S4x16x4x16x128x256, .f32⟩
  | .hbm, ⟨83, _⟩ => ⟨S4x16x4x16x128x256, .f32⟩
  | .hbm, ⟨84, _⟩ => ⟨S4x16x4x16x128x256, .f32⟩
  | .hbm, ⟨85, _⟩ => ⟨S_, .f32⟩
  | .hbm, ⟨86, _⟩ => ⟨S4x16x4x16x128, .f32⟩
  | .hbm, ⟨87, _⟩ => ⟨S4x16x4x16x128x1, .f32⟩
  | .hbm, ⟨88, _⟩ => ⟨S4x16x4x16x64x128, .f32⟩
  | .hbm, ⟨89, _⟩ => ⟨S4x16x128x4x16x64, .f32⟩
  | .hbm, ⟨90, _⟩ => ⟨S4x16x4x16x128, .f32⟩
  | .hbm, ⟨91, _⟩ => ⟨S4x16x128x4x16, .f32⟩
  | .hbm, ⟨92, _⟩ => ⟨S8192x4x16, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S8192x4x16, .f32⟩
  | .hbm, ⟨97, _⟩ => ⟨S8192x4x16, .f32⟩
  | .hbm, ⟨98, _⟩ => ⟨S4x16x4x16x128, .f32⟩
  | .hbm, ⟨99, _⟩ => ⟨S4x16x128x4x16, .f32⟩
  | .hbm, ⟨100, _⟩ => ⟨S8192x4x16, .f32⟩
  | .hbm, ⟨101, _⟩ => ⟨S_, .f32⟩
  | .hbm, ⟨102, _⟩ => ⟨S8192x4x96, .f32⟩
  | .hbm, ⟨103, _⟩ => ⟨S8192x4x128, .f32⟩
  | .hbm, ⟨104, _⟩ => ⟨S8192x4096, .f32⟩
  | .hbm, ⟨105, _⟩ => ⟨S8192x4096, .bf16⟩
  | .hbm, ⟨106, _⟩ => ⟨S8192x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_9 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_10 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩

abbrev nD : Nat := 1
abbrev τ : Topo := Topo.v7x

variable {F : FTy → Type} [FloatOps F]
-- ==== Proof.FfnRow.lean ====
/-
  The feed-forward layer of one token, as a function of that token's row, of the two gain rows and of the two weight
  matrices, over the extended reals.  The kernel's tiles are read against it here, and the reference's array in
  FfnValue.lean.
-/
module

public import proofs.«01_k».proof.Proof.Gen.FfnIdeal.Frame
public import Idealize.ShloMosaic.Lib.Pipeline.ValueKit
public import proofs.«01_k».proof.Proof.Gen.FfnRefIdeal.Run
public import Idealize.ShloMosaic.Lib.Pointwise

@[expose] public section

set_option maxRecDepth 16384

noncomputable section

open Idealize.ShloMosaic

namespace Cert.FfnRow

/-- The root-mean-square normalisation of a row of 1024, times the gains. -/
def rms (y g : Fin 1024 → EReal) (k : Fin 1024) : EReal :=
  y k * Ideal.rsqrt (Ideal.div (∑ i, y i * y i) (Ideal.ofBits .f32 0x44800000#32) + Ideal.ofBits .f32 0x358637BD#32) * g k

/-- The gated hidden activation `j`: silu of the gate times the value. -/
def hidden (y : Fin 1024 → EReal) (wa wb : Fin 1024 → Fin 2816 → EReal) (j : Fin 2816) : EReal :=
  (∑ k, y k * wa k j) * Ideal.logistic (∑ k, y k * wa k j) * (∑ k, y k * wb k j)

/-- The whole layer at output lane `c`: the row plus the normalised feed-forward of the normalised row. -/
def layer (y g g' : Fin 1024 → EReal) (wa wb : Fin 1024 → Fin 2816 → EReal) (w' : Fin 2816 → Fin 1024 → EReal)
    (c : Fin 1024) : EReal :=
  y c + rms (fun d => ∑ j, hidden (rms y g) wa wb j * w' j d) g' c

end Cert.FfnRow

namespace Cert.FfnIdeal.Gen

/-- One stored tile of 256 rows holds, at row `r` and lane `c`, the layer of row `r` of the loaded rows. -/
theorem tile_apply (x : Vec Ideal S256x1024 .f32) (g g' : Vec Ideal S1x1x1024 .f32) (wa wb : Vec Ideal S1x1024x2816 .bf16)
    (w' : Vec Ideal S1x2816x1024 .bf16) (r : Fin 256) (c : Fin 1024) :
    k0_pay5 (k0_pay1 x) (k0_pay2 x g wa wb w') (k0_pay3 g') (k0_pay4 x g wa wb w') (ix2 r c)
      = FfnRow.layer (fun k => x (ix2 r k)) (fun k => g (ix3 0 0 k)) (fun k => g' (ix3 0 0 k)) (fun k j => wa (ix3 0 k j))
          (fun k j => wb (ix3 0 k j)) (fun j d => w' (ix3 0 j d)) c := by
  pointwise [k0_pay5, k0_pay1, k0_pay2, k0_pay3, k0_pay4]
  rfl

/-- A tile stored from rows `o` to `o + 256` of the block: at its row `y 0` and lane `y 1`, the layer of the block's row
    `o + y 0`. -/
theorem piece_apply (x : Vec Ideal S1024x1024 .f32) (g g' : Vec Ideal S1x1x1024 .f32) (w : Vec Ideal S1x1024x5632 .bf16)
    (w' : Vec Ideal S1x2816x1024 .bf16) (o : Nat) (inb : ∀ a, (![o, 0] : Fin 2 → Nat) a + S256x1024.size a ≤ S1024x1024.size a)
    (y : S256x1024.Idx) (r : Fin 1024) (c : Fin 1024) (h0 : r.val = o + (y 0).val) (h1 : c.val = (y 1).val) :
    k0_pay5 (k0_pay1 (View.ld x (Rect.unit (s := S1024x1024) ![o, 0] S256x1024.size inb)))
        (k0_pay2 (View.ld x (Rect.unit (s := S1024x1024) ![o, 0] S256x1024.size inb)) (View.ld g r0_1) (View.ld w r0_2) (View.ld w r0_3) (View.ld w' r0_4))
        (k0_pay3 (View.ld g' r0_1))
        (k0_pay4 (View.ld x (Rect.unit (s := S1024x1024) ![o, 0] S256x1024.size inb)) (View.ld g r0_1) (View.ld w r0_2) (View.ld w r0_3) (View.ld w' r0_4)) y
      = FfnRow.layer (fun k => x (ix2 r k)) (fun k => g (ix3 0 0 k)) (fun k => g' (ix3 0 0 k))
          (fun k j => w (ix3 0 k ⟨j.val, by omega⟩)) (fun k j => w (ix3 0 k ⟨2816 + j.val, by omega⟩))
          (fun j d => w' (ix3 0 j d)) c := by
  idx_vars y
  rw [tile_apply]
  have e1 : c = y1 := Fin.ext h1
  subst e1
  have e0 : ∀ k : Fin 1024, View.ld x (Rect.unit (s := S1024x1024) ![o, 0] S256x1024.size inb) (ix2 y0 k) = x (ix2 r k) := fun k => by
    pointwise
    exact congrArg x (by rw [ix2_inj]; exact ⟨Fin.ext h0.symm, rfl⟩)
  simp only [e0]
  pointwise

/-- What the body leaves in its output block: at row `r` and lane `c`, the layer of row `r` of the input block. -/
theorem out_apply (x : Vec Ideal S1024x1024 .f32) (g g' : Vec Ideal S1x1x1024 .f32) (w : Vec Ideal S1x1024x5632 .bf16)
    (w' : Vec Ideal S1x2816x1024 .bf16) (r : Fin 1024) (c : Fin 1024) :
    out0_5 x g g' w w' (ix2 r c)
      = FfnRow.layer (fun k => x (ix2 r k)) (fun k => g (ix3 0 0 k)) (fun k => g' (ix3 0 0 k))
          (fun k j => w (ix3 0 k ⟨j.val, by omega⟩)) (fun k j => w (ix3 0 k ⟨2816 + j.val, by omega⟩))
          (fun j d => w' (ix3 0 j d)) c := by
  unfold out0_5
  canon_tiles y h
  · exact piece_apply x g g' w w' 768 _ y r c h0 h1
  · exact piece_apply x g g' w w' 512 _ y r c h0 h1
  · exact piece_apply x g g' w w' 256 _ y r c h0 h1
  · exact piece_apply x g g' w w' 0 _ y r c (by rw [Nat.zero_add]; exact h0) h1

end Cert.FfnIdeal.Gen

namespace Cert.FfnRefIdeal.Value

open Cert.FfnRefIdeal Cert.FfnRefIdeal.Gen Idealize.SL.Sem Idealize.ShloMosaic.TcCoe

/-- The reference's normalisation of every row of an array, times a gain row. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The reference's gated hidden activations of the normalised rows. -/
def hid (u : FVec Ideal S4x8192x1024 .f32) (w : FVec Ideal S1024x5632 .f32) : FVec Ideal S4x8192x2816 .f32 :=
  have p := Host.dotGeneral dot_S4x8192x1024_S1024x5632_S4x8192x5632_2_0_01_1_n_n none u w
  have q := extractStridedSlice S4x8192x2816 ![0, 0, 0] p slices_S4x8192x5632_S4x8192x2816_0_0_0
  mulf (mulf q (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf q)))))
    (extractStridedSlice S4x8192x2816 ![0, 0, 2816] p slices_S4x8192x5632_S4x8192x2816_0_0_2816)

/-- The normalised array at a token and a lane is the normalisation of the token's row at that lane. -/
theorem norm_apply (x : FVec Ideal S4x8192x1024 .f32) (g : FVec Ideal S1024 .f32) (b : Fin 4) (n : Fin 8192) (k : Fin 1024) :
    norm x g (ix3 b n k) = FfnRow.rms (fun i => x (ix3 b n i)) (fun i => g (ix1 i)) k := by
  pointwise [norm]
  rfl

/-- The hidden array at a token and an activation is the hidden activation of the token's row. -/
theorem hid_apply (u : FVec Ideal S4x8192x1024 .f32) (w : FVec Ideal S1024x5632 .f32) (b : Fin 4) (n : Fin 8192) (j : Fin 2816) :
    hid u w (ix3 b n j) = FfnRow.hidden (fun i => u (ix3 b n i)) (fun k j => w (ix2 k ⟨j.val, by omega⟩)) (fun k j => w (ix2 k ⟨2816 + j.val, by omega⟩)) j := by
  pointwise [hid]
  rfl

/-- The reference's result array as the residual plus the normalised product of the hidden array. -/
theorem res_eq (m : (ℓ : Loc nD τ sig) → Buf (Elt Ideal) ℓ) (c : Dev nD) (x : FVec Ideal S4x8192x1024 .f32) (G : FVec Ideal S4x4x1024 .f32)
    (W : FVec Ideal S4x1024x5632 .f32) (W' : FVec Ideal S4x2816x1024 .f32)
    (hx : m ((c.tc : Thread nD τ).loc main_arg0) = x) (hG : m ((c.tc : Thread nD τ).loc main_arg1) = G)
    (hW : m ((c.tc : Thread nD τ).loc main_arg2) = W) (hW' : m ((c.tc : Thread nD τ).loc main_arg3) = W') :
    res_main_v43 m c =
      shapeCast S32768x1024 (addf x (norm (Host.dotGeneral dot_S4x8192x2816_S2816x1024_S4x8192x1024_2_0_01_1_n_n none
        (hid (norm x (shapeCast S1024 (extractStridedSlice S1x1024 ![2, 0] (shapeCast S4x1024 (extractStridedSlice S1x4x1024 ![3, 0, 0] G slices_S4x4x1024_S1x4x1024_3_0_0) shapeCasts_S1x4x1024_S4x1024) slices_S4x1024_S1x1024_2_0) shapeCasts_S1x1024_S1024))
          (shapeCast S1024x5632 (extractStridedSlice S1x1024x5632 ![3, 0, 0] W slices_S4x1024x5632_S1x1024x5632_3_0_0) shapeCasts_S1x1024x5632_S1024x5632))
        (shapeCast S2816x1024 (extractStridedSlice S1x2816x1024 ![3, 0, 0] W' slices_S4x2816x1024_S1x2816x1024_3_0_0) shapeCasts_S1x2816x1024_S2816x1024))
        (shapeCast S1024 (extractStridedSlice S1x1024 ![3, 0] (shapeCast S4x1024 (extractStridedSlice S1x4x1024 ![3, 0, 0] G slices_S4x4x1024_S1x4x1024_3_0_0) shapeCasts_S1x4x1024_S4x1024) slices_S4x1024_S1x1024_3_0) shapeCasts_S1x1024_S1024)))
        shapeCasts_S4x8192x1024_S32768x1024 := by
  subst hx hG hW hW'
  rfl

/-- The reference's result at row `n` and lane `d` is the layer of token `n`'s row. -/
theorem ref_apply (m : (ℓ : Loc nD τ sig) → Buf (Elt Ideal) ℓ) (c : Dev nD) (x : FVec Ideal S4x8192x1024 .f32) (G : FVec Ideal S4x4x1024 .f32)
    (W : FVec Ideal S4x1024x5632 .f32) (W' : FVec Ideal S4x2816x1024 .f32)
    (hx : m ((c.tc : Thread nD τ).loc main_arg0) = x) (hG : m ((c.tc : Thread nD τ).loc main_arg1) = G)
    (hW : m ((c.tc : Thread nD τ).loc main_arg2) = W) (hW' : m ((c.tc : Thread nD τ).loc main_arg3) = W') (n : Fin 32768) (d : Fin 1024) :
    res_main_v43 m c (ix2 n d) =
      FfnRow.layer (fun k => x (ix3 ⟨n.val / 8192, by omega⟩ ⟨n.val % 8192, by omega⟩ k)) (fun k => G (ix3 3 2 k)) (fun k => G (ix3 3 3 k))
        (fun k j => W (ix3 3 k ⟨j.val, by omega⟩)) (fun k j => W (ix3 3 k ⟨2816 + j.val, by omega⟩))
        (fun j d => W' (ix3 3 j d)) d := by
  rw [res_eq m c x G W W' hx hG hW hW']
  pointwise
  simp only [norm_apply]
  pointwise
  simp only [hid_apply, norm_apply]
  pointwise
  rfl

end Cert.FfnRefIdeal.Value

end
-- ==== Proof.FfnValue.lean ====
/-
  The feed-forward call: the kernel's result array and the reference's are the same array, token by token the layer of
  FfnRow.lean, and the claim that says so.
-/
module

public import proofs.«01_k».proof.Defs
public import proofs.«01_k».proof.Proof.FfnRow
public import proofs.«01_k».proof.Proof.Gen.FfnIdeal.Value
public import Idealize.ShloMosaic.Lib.Claim

@[expose] public section

set_option maxRecDepth 16384

noncomputable section

namespace Cert.FfnIdeal.RowValue

open Cert.FfnIdeal Cert.FfnIdeal.Gen Idealize.ShloMosaic Idealize.ShloMosaic.TcCoe Idealize.SL.Sem

variable (m : (ℓ : Loc nD τ sig) → Buf (Elt Ideal) ℓ)

/-- The kernel's result array: at row `n` and lane `d`, the layer of token `n`'s row. -/
def result (c : Dev nD) : Buf (Elt Ideal) ((c.tc : Thread nD τ).loc main_v4) := fun i =>
  FfnRow.layer (fun k => m ((c.tc : Thread nD τ).loc main_arg0) (ix3 ⟨(i 0).val / 8192, by have : (i 0).val < 32768 := (i 0).isLt; omega⟩ ⟨(i 0).val % 8192, by omega⟩ k))
    (fun k => m ((c.tc : Thread nD τ).loc main_arg1) (ix3 3 2 k)) (fun k => m ((c.tc : Thread nD τ).loc main_arg1) (ix3 3 3 k))
    (fun k j => m ((c.tc : Thread nD τ).loc main_arg2) (ix3 3 k ⟨j.val, by omega⟩)) (fun k j => m ((c.tc : Thread nD τ).loc main_arg2) (ix3 3 k ⟨2816 + j.val, by omega⟩))
    (fun j d => m ((c.tc : Thread nD τ).loc main_arg3) (ix3 3 j d)) (i 1)

/-- Where each window's block sits in its array at point `t`. -/
theorem index_facts : ∀ t : Fin cfg0.N, win0_0.index t = ![t.val, 0] ∧ win0_1.index t = ![14, 0, 0] ∧ win0_2.index t = ![15, 0, 0]
    ∧ win0_3.index t = ![3, 0, 0] ∧ win0_4.index t = ![3, 0, 0] ∧ win0_5.index t = ![t.val, 0] := by decide +kernel

/-- The result array after the run is `result`: point `t` writes rows `1024 t` to `1024 t + 1023` of it. -/
theorem final (c : Dev nD) : (dats m 0 c).arrAt 5 cfg0.N = result m c := by
  refine (dats m 0 c).arrAt_eq_of_covers 5 _ (by decide +kernel) fun t hf y => ?_
  idx_vars y
  blk_simp
  rw [after0_5, out_apply]
  unfold result
  have hN : t.val < 32 := t.isLt
  obtain ⟨i0, i1, i2, i3, i4, i5⟩ := index_facts t
  have e0 : ∀ k : Fin 1024, iblk m c 0 t (ix2 y0 k) = m ((c.tc : Thread nD τ).loc main_arg0) (ix3 ⟨(t.val * 1024 + y0.val) / 8192, by omega⟩ ⟨(t.val * 1024 + y0.val) % 8192, by omega⟩ k) := fun k => by
    blk_ext! [iblk, V, i0]
  have e1 : ∀ k : Fin 1024, iblk m c 1 t (ix3 0 0 k) = m ((c.tc : Thread nD τ).loc main_arg1) (ix3 3 2 k) := fun k => by
    blk_ext! [iblk, V, i1]
  have e2 : ∀ k : Fin 1024, iblk m c 2 t (ix3 0 0 k) = m ((c.tc : Thread nD τ).loc main_arg1) (ix3 3 3 k) := fun k => by
    blk_ext! [iblk, V, i2]
  have e3 : ∀ (k : Fin 1024) (j : Fin 5632), iblk m c 3 t (ix3 0 k j) = m ((c.tc : Thread nD τ).loc main_arg2) (ix3 3 k j) := fun k j => by
    blk_ext! [iblk, V, i3]
  have e4 : ∀ (k : Fin 2816) (j : Fin 1024), iblk m c 4 t (ix3 0 k j) = m ((c.tc : Thread nD τ).loc main_arg3) (ix3 3 k j) := fun k j => by
    blk_ext! [iblk, V, i4]
  have h0 : ((win0_5.blk t).view.emb (ix2 y0 y1) 0).val = t.val * 1024 + y0.val := by
    blk_simp [i5]
  have h1 : (win0_5.blk t).view.emb (ix2 y0 y1) 1 = y1 := Fin.ext (by blk_simp [i5])
  simp only [e0, e1, e2, e3, e4, h0, h1]

end Cert.FfnIdeal.RowValue

namespace Cert.FfnIdeal

open Idealize.ShloMosaic Idealize.ShloMosaic.TcCoe Idealize.SL.Sem

/-- The feed-forward kernel and the reference, run on the same arguments, end with the same result array. -/
theorem algebraic : Cert.algebraic_FfnIdeal_FfnRefIdeal (hFfnIdeal := Cert.FfnIdeal.Gen.facts) (hFfnRefIdeal := Cert.FfnRefIdeal.Gen.facts) := by
  intro m g m' g' _ hagree
  refine ⟨RowValue.result m, ?_, ?_⟩
  · refine (θ_run _ _ _).mono (fun r h c => ?_) (Cert.FfnIdeal.Value.run_blocks (F := Ideal) m g)
    exact ⟨(h c).1.trans (RowValue.final m c), (h c).2⟩
  · refine (θ_run _ _ _).mono (fun r h c => ?_) (Cert.FfnRefIdeal.Value.run (F := Ideal) m' g')
    refine ⟨(h c).1.trans ?_, (h c).2⟩
    obtain ⟨h0, h1, h2, h3⟩ := hagree c
    funext i
    obtain ⟨n, d, rfl⟩ : ∃ (n : Fin 32768) (d : Fin 1024), i = ix2 n d := ⟨i 0, i 1, eq_ix2 i⟩
    exact Cert.FfnRefIdeal.Value.ref_apply m' c _ _ _ _ h0 h1 h2 h3 n d

end Cert.FfnIdeal

end
-- ==== Proof.AttnRow.lean ====
/-
  One row of attention over the extended reals: a row of scores, its largest, the exponential weights, their sum and the
  weighted sum of values.  A kernel that keeps its scores in units of `log 2` and weighs with powers of two computes the
  same weights, the same sums and the largest score in those units.
-/
module

public import Idealize.ShloMosaic.Lib.Pointwise
public import Mathlib.Analysis.SpecialFunctions.Pow.Real

@[expose] public section

noncomputable section

open Idealize.ShloMosaic

namespace Cert.AttnRow

variable {n : Nat}

/-- The largest score of a row. -/
def top (s : Fin n → EReal) : EReal := Finset.univ.fold max ⊥ s

/-- The weight of key `j`: the exponential of its score's distance to the largest. -/
def weight (s : Fin n → EReal) (j : Fin n) : EReal := Ideal.exp (s j - top s)

/-- The sum of a row's weights. -/
def den (s : Fin n → EReal) : EReal := ∑ j, weight s j

/-- The weighted sum of the values `v`. -/
def num (s v : Fin n → EReal) : EReal := ∑ j, weight s j * v j

/-- The weight of key `j` of a row whose scores are in units of `log 2`. -/
def weight2 (s : Fin n → EReal) (j : Fin n) : EReal := Ideal.exp2 (s j - top s)

/-- The sum of the weights of a row whose scores are in units of `log 2`. -/
def den2 (s : Fin n → EReal) : EReal := ∑ j, weight2 s j

/-- The weighted sum of the values `v`, the scores in units of `log 2`. -/
def num2 (s v : Fin n → EReal) : EReal := ∑ j, weight2 s j * v j

/-- The score of a query row against a key row: their product scaled by one eighth, minus the slope times the distance. -/
def score (q k : Fin 64 → EReal) (slope dist : EReal) : EReal := (∑ e, q e * ((1 / 8 : ℝ) : EReal) * k e) + -slope * dist

/-- One over the logarithm of two. -/
def perLog2 : EReal := (((Real.log 2)⁻¹ : ℝ) : EReal)

/-- The logarithm of two is positive. -/
theorem log2_pos : 0 < Real.log 2 := Real.log_pos (by norm_num)

/-- So is its inverse. -/
theorem perLog2_real_pos : 0 < (Real.log 2)⁻¹ := inv_pos.mpr log2_pos

/-- `perLog2` is not negative. -/
theorem perLog2_nonneg : 0 ≤ perLog2 := EReal.coe_nonneg.mpr perLog2_real_pos.le

/-- Multiplying by `perLog2` distributes over sums. -/
theorem perLog2_mul_add (x y : EReal) : perLog2 * (x + y) = perLog2 * x + perLog2 * y :=
  EReal.left_distrib_of_nonneg_of_ne_top perLog2_nonneg (EReal.coe_ne_top _) x y

/-- Multiplying by `perLog2` distributes over finite sums. -/
theorem perLog2_mul_sum {m : Nat} (f : Fin m → EReal) : perLog2 * ∑ i, f i = ∑ i, perLog2 * f i := by
  have h : ∀ s : Finset (Fin m), perLog2 * ∑ i ∈ s, f i = ∑ i ∈ s, perLog2 * f i := fun s => by
    induction s using Finset.induction_on with
    | empty => simp
    | insert a s ha ih => rw [Finset.sum_insert ha, Finset.sum_insert ha, perLog2_mul_add, ih]
  exact h _

/-- Multiplying by `perLog2` distributes over differences. -/
theorem perLog2_mul_sub (x y : EReal) : perLog2 * (x - y) = perLog2 * x - perLog2 * y := by
  rw [sub_eq_add_neg, sub_eq_add_neg, perLog2_mul_add, mul_neg]

/-- `perLog2` times minus infinity is minus infinity. -/
theorem perLog2_mul_bot : perLog2 * ⊥ = ⊥ := EReal.coe_mul_bot_of_pos perLog2_real_pos

/-- Multiplying by `perLog2` keeps the order. -/
theorem perLog2_mono : Monotone (fun x : EReal => perLog2 * x) := fun _ _ h => mul_le_mul_of_nonneg_left h perLog2_nonneg

/-- Two to the power of a number in units of `log 2` is the exponential of the number. -/
theorem exp2_perLog2 (x : EReal) : Ideal.exp2 (perLog2 * x) = Ideal.exp x := by
  induction x with
  | bot => rw [perLog2_mul_bot]; rfl
  | top => rw [perLog2, EReal.coe_mul_top_of_pos perLog2_real_pos]; rfl
  | coe r =>
    rw [perLog2, ← EReal.coe_mul]
    show ((Real.rpow 2 ((Real.log 2)⁻¹ * r) : ℝ) : EReal) = ((Real.exp r : ℝ) : EReal)
    rw [Real.rpow_eq_pow, Real.rpow_def_of_pos (by norm_num), ← mul_assoc, mul_inv_cancel₀ log2_pos.ne', one_mul]

/-- The largest score in units of `log 2`. -/
theorem top_scale {s2 s : Fin n → EReal} (h : ∀ j, s2 j = perLog2 * s j) : top s2 = perLog2 * top s := by
  have e : s2 = fun j => perLog2 * s j := funext h
  subst e
  have h : ∀ t : Finset (Fin n), t.fold max ⊥ (fun j => perLog2 * s j) = perLog2 * t.fold max ⊥ s := fun t => by
    induction t using Finset.induction_on with
    | empty => rw [Finset.fold_empty, Finset.fold_empty, perLog2_mul_bot]
    | insert a t ha ih => rw [Finset.fold_insert ha, Finset.fold_insert ha, ih]; exact (perLog2_mono.map_max).symm
  exact h _

/-- The weights do not depend on the units of the scores. -/
theorem weight_scale {s2 s : Fin n → EReal} (h : ∀ j, s2 j = perLog2 * s j) (j : Fin n) : weight2 s2 j = weight s j := by
  rw [weight2, weight, top_scale h, h, ← perLog2_mul_sub, exp2_perLog2]

/-- The sum of the weights does not depend on the units of the scores. -/
theorem den_scale {s2 s : Fin n → EReal} (h : ∀ j, s2 j = perLog2 * s j) : den2 s2 = den s :=
  Finset.sum_congr rfl fun j _ => weight_scale h j

/-- A key of score minus infinity has weight zero. -/
theorem weight_bot {s : Fin n → EReal} {j : Fin n} (h : s j = ⊥) : weight s j = 0 := by
  rw [weight, h, EReal.bot_sub]; rfl

/-- The weighted sum does not depend on the units of the scores, nor on the values of the keys of score minus infinity. -/
theorem num_scale {s2 s v2 v : Fin n → EReal} (h : ∀ j, s2 j = perLog2 * s j) (hv : ∀ j, s j = ⊥ ∨ v2 j = v j) :
    num2 s2 v2 = num s v := by
  refine Finset.sum_congr rfl fun j _ => ?_
  rw [weight_scale h]
  rcases hv j with hb | hv
  · rw [weight_bot hb, zero_mul, zero_mul]
  · rw [hv]

/-- A score in units of `log 2`: the scale of the product and the slope both carry the factor. -/
theorem score_scale (q k : Fin 64 → EReal) (slope dist : EReal) :
    (∑ e, q e * (((8 * Real.log 2)⁻¹ : ℝ) : EReal) * k e) + -slope * dist * perLog2 = perLog2 * score q k slope dist := by
  rw [score, perLog2_mul_add, perLog2_mul_sum, mul_comm (-slope * dist)]
  congr 1
  refine Finset.sum_congr rfl fun e _ => ?_
  have h : (((8 * Real.log 2)⁻¹ : ℝ) : EReal) = perLog2 * ((1 / 8 : ℝ) : EReal) := by
    rw [perLog2, ← EReal.coe_mul]; congr 1; rw [mul_inv]; ring
  rw [h, mul_left_comm (q e), mul_assoc perLog2]

end Cert.AttnRow

end
-- ==== Proof.AttnRef.lean ====
/-
  The reference's attention, staged: the blocks of keys and values with the block before them, the mask, the scores, and the
  two results read at an index as rows of AttnRow.lean.
-/
module

public import proofs.«01_k».proof.Proof.AttnRow
public import proofs.«01_k».proof.Proof.Gen.ReferenceIdeal.Run
public import Idealize.ShloMosaic.Lib.Pointwise

@[expose] public section

set_option maxRecDepth 16384

noncomputable section

open Idealize.ShloMosaic

namespace Cert.AttnSpec

/-- The strided distance of query `u` of a block from key `j` of the block and the one before it, as a word. -/
def word (u : Fin 128) (j : Fin 256) : BitVec 32 := IntOp.subi (IntOp.addi (BitVec.ofNat 32 u.val) 128#32) (BitVec.ofNat 32 j.val)

/-- Whether key `j` is in query `u`'s window, as a bit. -/
def band (u : Fin 128) (j : Fin 256) : BitVec 1 := IntOp.andi (IntOp.cmpi .sge (word u j) 0#32) (IntOp.cmpi .sle (word u j) 128#32)

/-- The distance of query `u` from key `j`. -/
def dist (u : Fin 128) (j : Fin 256) : EReal := FloatOps.sitofp (F := Ideal) .f32 (IntOp.muli (word u j) 1#32)

/-- Whether query `u` of block `n` of a sequence sees key `j`: it is in the window, and not before the sequence. -/
def Valid (n : Fin 64) (u : Fin 128) (j : Fin 256) : Prop := band u j = 1#1 ∧ ¬(n.val = 0 ∧ j.val < 128)

instance (n : Fin 64) (u : Fin 128) (j : Fin 256) : Decidable (Valid n u j) := inferInstanceAs (Decidable (_ ∧ _))

/-- Row `j` of block `n` with the block before it, of sequence `b` of `x`; zeros before the sequence. -/
def keyAt (x : (⟨3, ![4, 8192, 1024]⟩ : Shape).Idx → EReal) (b : Fin 4) (n : Fin 64) (j : Fin 256) (l : Fin 1024) : EReal :=
  if h : n.val * 128 + j.val < 128 then 0 else x (ix3 b ⟨n.val * 128 + j.val - 128, by omega⟩ l)

/-- The scores of query `u` of block `n` of sequence `b` at head `h`: minus infinity for the keys it does not see. -/
def row (q k : (⟨3, ![4, 8192, 1024]⟩ : Shape).Idx → EReal) (a : (⟨1, ![16]⟩ : Shape).Idx → EReal) (b : Fin 4) (n : Fin 64) (u : Fin 128) (h : Fin 16) :
    Fin 256 → EReal := fun j =>
  if Valid n u j then AttnRow.score (fun e => q (ix3 b ⟨n.val * 128 + u.val, by omega⟩ ⟨h.val * 64 + e.val, by omega⟩))
    (fun e => keyAt k b n j ⟨h.val * 64 + e.val, by omega⟩) (a (ix1 h)) (dist u j)
  else ⊥

end Cert.AttnSpec

namespace Cert.ReferenceIdeal.Value

open Cert.ReferenceIdeal Cert.ReferenceIdeal.Gen Idealize.ShloMosaic.TcCoe Idealize.SL.Sem Cert.AttnSpec

/-- The blocks of an array. -/
def blocks (x : FVec Ideal S4x8192x1024 .f32) : FVec Ideal S4x64x128x1x16x64 .f32 :=
  shapeCast S4x64x128x1x16x64 (shapeCast S4x8192x16x64 x shapeCasts_S4x8192x1024_S4x8192x16x64) shapeCasts_S4x8192x16x64_S4x64x128x1x16x64

/-- The blocks before the blocks of an array, zeros before the first. -/
def prevs (x : FVec Ideal S4x8192x1024 .f32) : FVec Ideal S4x64x128x1x16x64 .f32 :=
  concatenate S4x64x128x1x16x64 1 [⟨S4x1x128x1x16x64, broadcastInDim S4x1x128x1x16x64 ![] bcast_S_S4x1x128x1x16x64 (constant S_ .f32 0x00000000#32)⟩,
    ⟨S4x63x128x1x16x64, extractStridedSlice S4x63x128x1x16x64 ![0, 0, 0, 0, 0, 0] (blocks x) slices_S4x64x128x1x16x64_S4x63x128x1x16x64_0_0_0_0_0_0⟩]
    concatenates_S4x1x128x1x16x64_S4x63x128x1x16x64_S4x64x128x1x16x64_d1

/-- The blocks of an array, each with the block before it. -/
def cat (x : FVec Ideal S4x8192x1024 .f32) : FVec Ideal S4x64x256x1x16x64 .f32 :=
  concatenate S4x64x256x1x16x64 2 [⟨S4x64x128x1x16x64, prevs x⟩, ⟨S4x64x128x1x16x64, blocks x⟩]
    concatenates_S4x64x128x1x16x64_S4x64x128x1x16x64_S4x64x256x1x16x64_d2

/-- The blocked array, entry by entry. -/
theorem blocks_apply (x : FVec Ideal S4x8192x1024 .f32) (b : Fin 4) (n : Fin 64) (u : Fin 128) (h : Fin 16) (e : Fin 64) :
    blocks x (ix6 b n u 0 h e) = x (ix3 b ⟨n.val * 128 + u.val, by omega⟩ ⟨h.val * 64 + e.val, by omega⟩) := by
  pointwise [blocks]

/-- The blocks moved by one, with zeros before the first. -/
theorem prevs_apply (x : FVec Ideal S4x8192x1024 .f32) (b : Fin 4) (n : Fin 64) (u : Fin 128) (h : Fin 16) (e : Fin 64) :
    prevs x (ix6 b n u 0 h e) = keyAt x b n ⟨u.val, by omega⟩ ⟨h.val * 64 + e.val, by omega⟩ := by
  pointwise [prevs]
  rw [keyAt]
  by_cases h0 : n.val < 1
  · rw [dif_pos h0, dif_pos (by simp; omega)]
  · rw [dif_neg h0, dif_neg (by simp; omega), blocks_apply]
    exact congrArg x (congrArg₂ (ix3 b) (Fin.ext (by simp; omega)) rfl)

/-- A block together with the one before it, entry by entry. -/
theorem cat_apply (x : FVec Ideal S4x8192x1024 .f32) (b : Fin 4) (n : Fin 64) (j : Fin 256) (h : Fin 16) (e : Fin 64) :
    cat x (ix6 b n j 0 h e) = keyAt x b n j ⟨h.val * 64 + e.val, by omega⟩ := by
  pointwise [cat]
  rw [keyAt]
  by_cases h0 : j.val < 128
  · rw [dif_pos h0, prevs_apply, keyAt]
  · rw [dif_neg h0, dif_neg (by omega), blocks_apply]
    exact congrArg x (congrArg₂ (ix3 b) (Fin.ext (by simp; omega)) rfl)

/-- The distances, as words. -/
def words : IVec S128x256 32 :=
  subi (broadcastInDim S128x256 ![0, 1] bcast_S128x1_S128x256_0_1 (addi (broadcastInDim S128x1 ![0] bcast_S128_S128x1_0 (iotaInDim S128 32 0))
    (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The table of distances between a query and a key of its two blocks. -/
theorem words_apply (u : Fin 128) (j : Fin 256) : words (ix2 u j) = word u j := by
  pointwise [words, word]

/-- Who sees whom, as bits. -/
def mask : IVec S64x128x256 1 :=
  andi (broadcastInDim S64x128x256 ![0, 1, 2] bcast_S1x128x256_S64x128x256_0_1_2 (broadcastInDim S1x128x256 ![1, 2] bcast_S128x256_S1x128x256_1_2
      (andi (cmpi .sge words (broadcastInDim S128x256 ![] bcast_S_S128x256 (constantI S_ 32 0#32)))
        (cmpi .sle words (broadcastInDim S128x256 ![] bcast_S_S128x256 (constantI S_ 32 128#32))))))
    (broadcastInDim S64x128x256 ![0, 1, 2] bcast_S64x1x256_S64x128x256_0_1_2 (noti (andi
      (broadcastInDim S64x1x256 ![0, 1, 2] bcast_S64x1x1_S64x1x256_0_1_2 (broadcastInDim S64x1x1 ![0] bcast_S64_S64x1x1_0
        (cmpi .eq (iotaInDim S64 32 0) (broadcastInDim S64 ![] bcast_S_S64 (constantI S_ 32 0#32)))))
      (broadcastInDim S64x1x256 ![0, 1, 2] bcast_S1x1x256_S64x1x256_0_1_2 (broadcastInDim S1x1x256 ![1, 2] bcast_S1x256_S1x1x256_1_2
        (cmpi .slt (broadcastInDim S1x256 ![1] bcast_S256_S1x256_1 (iotaInDim S256 32 0)) (broadcastInDim S1x256 ![] bcast_S_S1x256 (constantI S_ 32 128#32))))))))

/-- The mask holds where the pair is valid. -/
theorem mask_apply (n : Fin 64) (u : Fin 128) (j : Fin 256) : mask (ix3 n u j) = if Valid n u j then 1#1 else 0#1 := by
  pointwise [mask, words_apply]
  have e1 : ∀ n : Fin 64, IntOp.cmpi .eq (BitVec.ofNat 32 n.val) 0#32 = if n.val = 0 then 1#1 else 0#1 := by decide +kernel
  have e2 : ∀ j : Fin 256, IntOp.cmpi .slt (BitVec.ofNat 32 j.val) 128#32 = if j.val < 128 then 1#1 else 0#1 := by decide +kernel
  have e3 : ∀ (w : BitVec 1) (p q : Prop) [Decidable p] [Decidable q],
      IntOp.andi w (~~~IntOp.andi (if p then 1#1 else 0#1) (if q then 1#1 else 0#1)) = if w = 1#1 ∧ ¬(p ∧ q) then 1#1 else 0#1 := fun w p q _ _ => by
    have h : w = 0#1 ∨ w = 1#1 := by revert w; decide
    rcases h with h | h <;> subst h <;> by_cases hp : p <;> by_cases hq : q <;> simp [hp, hq, IntOp.andi]
  rw [e1, e2]
  exact (e3 (band u j) _ _).trans (if_congr Iff.rfl rfl rfl)

/-- The scores. -/
def scores (q k : FVec Ideal S4x8192x1024 .f32) (a : FVec Ideal S16 .f32) : FVec Ideal S4x64x1x16x128x256 .f32 :=
  select (broadcastInDim S4x64x1x16x128x256 ![1, 2, 3, 4, 5] bcast_S64x1x1x128x256_S4x64x1x16x128x256_1_2_3_4_5
      (broadcastInDim S64x1x1x128x256 ![0, 3, 4] bcast_S64x128x256_S64x1x1x128x256_0_3_4 mask))
    (addf (Host.dotGeneral dot_S4x64x128x1x16x64_S4x64x256x1x16x64_S4x64x1x16x128x256_5_5_2_2_0134_0134 none
        (shapeCast S4x64x128x1x16x64 (mulf (shapeCast S4x8192x16x64 q shapeCasts_S4x8192x1024_S4x8192x16x64)
          (broadcastInDim S4x8192x16x64 ![] bcast_S_S4x8192x16x64 (constant S_ .f32 0x3E000000#32))) shapeCasts_S4x8192x16x64_S4x64x128x1x16x64) (cat k))
      (broadcastInDim S4x64x1x16x128x256 ![0, 1, 2, 3, 4, 5] bcast_S1x1x1x16x128x256_S4x64x1x16x128x256_0_1_2_3_4_5
        (broadcastInDim S1x1x1x16x128x256 ![3, 4, 5] bcast_S16x128x256_S1x1x1x16x128x256_3_4_5
          (mulf (broadcastInDim S16x128x256 ![0, 1, 2] bcast_S16x1x1_S16x128x256_0_1_2 (Host.negf (broadcastInDim S16x1x1 ![0] bcast_S16_S16x1x1_0 a)))
            (broadcastInDim S16x128x256 ![0, 1, 2] bcast_S1x128x256_S16x128x256_0_1_2 (broadcastInDim S1x128x256 ![1, 2] bcast_S128x256_S1x128x256_1_2
              (sitofp .f32 (muli words (broadcastInDim S128x256 ![] bcast_S_S128x256 (constantI S_ 32 1#32))))))))))
    (broadcastInDim S4x64x1x16x128x256 ![] bcast_S_S4x64x1x16x128x256 (id (constant S_ .f32 0xFF800000#32)))

/-- The masked scores, entry by entry: the row of the specification. -/
theorem scores_apply (q k : FVec Ideal S4x8192x1024 .f32) (a : FVec Ideal S16 .f32) (b : Fin 4) (n : Fin 64) (h : Fin 16) (u : Fin 128) (j : Fin 256) :
    scores q k a (ix6 b n 0 h u j) = row q k a b n u h j := by
  pointwise [scores, mask_apply, cat_apply, words_apply]
  have e8 : Ideal.ofBits .f32 0x3E000000#32 = ((1 / 8 : ℝ) : EReal) := by
    have h : ((8388608 : ℝ) : EReal) * ((1 / 67108864 : ℝ) : EReal) = ((1 / 8 : ℝ) : EReal) := by
      rw [← EReal.coe_mul]; norm_num
    refine Eq.trans ?_ h
    simp [Ideal.ofBits, Ideal.ieee]
    norm_num
  have em : Ideal.ofBits .f32 0xFF800000#32 = ⊥ := by simp [Ideal.ofBits, Ideal.ieee]
  rw [row, e8]
  by_cases hv : Valid n u j
  · rw [if_pos hv, if_pos hv, Scalar.select, if_pos (by decide)]
    rfl
  · rw [if_neg hv, if_neg hv, Scalar.select, if_neg (by decide)]
    exact em

/-- The largest score of a row. -/
def tops (s : FVec Ideal S4x64x1x16x128x256 .f32) : FVec Ideal S4x64x1x16x128x1 .f32 :=
  broadcastInDim S4x64x1x16x128x1 ![0, 1, 2, 3, 4] bcast_S4x64x1x16x128_S4x64x1x16x128x1_0_1_2_3_4
    (Host.reduce FloatOps.maximumf s (constant S_ .f32 0xFF800000#32) reducesTo_S4x64x1x16x128x256_S4x64x1x16x128_d5 h_S_)

/-- The weights. -/
def weights (s : FVec Ideal S4x64x1x16x128x256 .f32) : FVec Ideal S4x64x1x16x128x256 .f32 :=
  Host.exp (subf s (broadcastInDim S4x64x1x16x128x256 ![0, 1, 2, 3, 4, 5] bcast_S4x64x1x16x128x1_S4x64x1x16x128x256_0_1_2_3_4_5 (tops s)))

/-- The sums of the weights. -/
def dens (p : FVec Ideal S4x64x1x16x128x256 .f32) : FVec Ideal S4x64x1x16x128x1 .f32 :=
  broadcastInDim S4x64x1x16x128x1 ![0, 1, 2, 3, 4] bcast_S4x64x1x16x128_S4x64x1x16x128x1_0_1_2_3_4
    (Host.reduceAdd p (constant S_ .f32 0x00000000#32) reducesTo_S4x64x1x16x128x256_S4x64x1x16x128_d5 h_S_)

/-- The weighted sums of the values. -/
def nums (v : FVec Ideal S4x8192x1024 .f32) (p : FVec Ideal S4x64x1x16x128x256 .f32) : FVec Ideal S4x64x1x16x64x128 .f32 :=
  Host.dotGeneral dot_S4x64x256x1x16x64_S4x64x1x16x128x256_S4x64x1x16x64x128_2_5_5_4_0134_0123 none (cat v) p

/-- The scores of a row are those at its indices. -/
theorem row_indices (b : Fin 4) (n : Fin 64) (h : Fin 16) (u : Fin 128) (i : S4x64x1x16x128x256.Idx) :
    reducesTo_S4x64x1x16x128x256_S4x64x1x16x128_d5.drop i = ix5 b n 0 h u ↔ ∃ j : Fin 256, ix6 b n 0 h u j = i := by
  idx_vars i
  constructor
  · intro e
    refine ⟨i5, ?_⟩
    have e0 : i0 = b := congrFun e 0
    have e1 : i1 = n := congrFun e 1
    have e2 : i2 = 0 := congrFun e 2
    have e3 : i3 = h := congrFun e 3
    have e4 : i4 = u := congrFun e 4
    rw [e0, e1, e2, e3, e4]
  · rintro ⟨j, e⟩
    rw [← e]
    funext a
    match a with
    | 0 => rfl
    | 1 => rfl
    | 2 => rfl
    | 3 => rfl
    | 4 => rfl

/-- The indices of a row are distinct. -/
theorem last_inj (b : Fin 4) (n : Fin 64) (h : Fin 16) (u : Fin 128) :
    Function.Injective fun j : Fin 256 => (ix6 b n 0 h u j : S4x64x1x16x128x256.Idx) := fun _ _ e => congrFun e 5

/-- The greatest score of each row. -/
theorem tops_apply (s : FVec Ideal S4x64x1x16x128x256 .f32) (b : Fin 4) (n : Fin 64) (h : Fin 16) (u : Fin 128) :
    tops s (ix6 b n 0 h u 0) = AttnRow.top fun j : Fin 256 => s (ix6 b n 0 h u j) := by
  have em : Ideal.ofBits .f32 0xFF800000#32 = ⊥ := by simp [Ideal.ofBits, Ideal.ieee]
  pointwise [tops]
  rw [em]
  exact Finset.fold_filter_eq_fold_of_fiber _ _ (fun j : Fin 256 => ix6 b n 0 h u j) (last_inj b n h u) (row_indices b n h u) _ _

/-- The weight of each key. -/
theorem weights_apply (s : FVec Ideal S4x64x1x16x128x256 .f32) (b : Fin 4) (n : Fin 64) (h : Fin 16) (u : Fin 128) (j : Fin 256) :
    weights s (ix6 b n 0 h u j) = AttnRow.weight (fun j : Fin 256 => s (ix6 b n 0 h u j)) j := by
  pointwise [weights, tops_apply]
  rfl

/-- The sum of the weights of each row. -/
theorem dens_apply (s : FVec Ideal S4x64x1x16x128x256 .f32) (b : Fin 4) (n : Fin 64) (h : Fin 16) (u : Fin 128) :
    dens (weights s) (ix6 b n 0 h u 0) = AttnRow.den fun j : Fin 256 => s (ix6 b n 0 h u j) := by
  pointwise [dens]
  refine (zero_add _).trans ((Finset.sum_filter_eq_sum_of_fiber _ (fun j : Fin 256 => ix6 b n 0 h u j) (last_inj b n h u) (row_indices b n h u) _).trans ?_)
  exact Finset.sum_congr rfl fun j _ => weights_apply s b n h u j

/-- The weighted sum of the values of each row. -/
theorem nums_apply (v : FVec Ideal S4x8192x1024 .f32) (s : FVec Ideal S4x64x1x16x128x256 .f32) (b : Fin 4) (n : Fin 64) (h : Fin 16) (e : Fin 64)
    (u : Fin 128) : nums v (weights s) (ix6 b n 0 h e u) =
      AttnRow.num (fun j : Fin 256 => s (ix6 b n 0 h u j)) fun j => keyAt v b n j ⟨h.val * 64 + e.val, by omega⟩ := by
  pointwise [nums, weights_apply, cat_apply]
  exact Finset.sum_congr rfl fun j _ => mul_comm _ _

/-- The first result: the weighted sums, a row per position. -/
def sums (q k v : FVec Ideal S4x8192x1024 .f32) (a : FVec Ideal S16 .f32) : FVec Ideal S32768x1024 .bf16 :=
  truncf .bf16 (shapeCast S32768x1024 (transpose S4x64x128x1x16x64 [0, 1, 5, 2, 3, 4] (nums v (weights (scores q k a)))
    transposes_S4x64x1x16x64x128_S4x64x128x1x16x64_0_1_5_2_3_4) shapeCasts_S4x64x128x1x16x64_S32768x1024) bitsLt_bf16_f32

/-- A number for each head and query, a row per position. -/
def perHead (x : FVec Ideal S4x64x1x16x128x1 .f32) : FVec Ideal S32768x1x16 .f32 :=
  shapeCast S32768x1x16 (transpose S4x64x128x1x16 [0, 1, 4, 2, 3] (shapeCast S4x64x1x16x128 x shapeCasts_S4x64x1x16x128x1_S4x64x1x16x128)
    transposes_S4x64x1x16x128_S4x64x128x1x16_0_1_4_2_3) shapeCasts_S4x64x128x1x16_S32768x1x16

/-- The second result: the largest scores over the logarithm of two, the sums of the weights, and zeros. -/
def stats (q k : FVec Ideal S4x8192x1024 .f32) (a : FVec Ideal S16 .f32) : FVec Ideal S32768x128 .f32 :=
  shapeCast S32768x128 (concatenate S32768x1x128 2 [⟨S32768x1x16, Host.divf (perHead (tops (scores q k a)))
      (broadcastInDim S32768x1x16 ![] bcast_S_S32768x1x16 (id (Host.log (constant S_ .f32 0x40000000#32))))⟩,
    ⟨S32768x1x16, perHead (dens (weights (scores q k a)))⟩,
    ⟨S32768x1x96, broadcastInDim S32768x1x96 ![] bcast_S_S32768x1x96 (constant S_ .f32 0x00000000#32)⟩]
    concatenates_S32768x1x16_S32768x1x16_S32768x1x96_S32768x1x128_d2) shapeCasts_S32768x1x128_S32768x128

/-- A per-head array laid out by rows of the sequence. -/
theorem perHead_apply (x : FVec Ideal S4x64x1x16x128x1 .f32) (R : Fin 32768) (h : Fin 16) :
    perHead x (ix3 R 0 h) = x (ix6 ⟨R.val / 8192, by omega⟩ ⟨R.val / 128 % 64, by omega⟩ 0 h ⟨R.val % 128, by omega⟩ 0) := by
  pointwise [perHead]

/-- The first result, at position `R` and lane `L`. -/
theorem sums_apply (q k v : FVec Ideal S4x8192x1024 .f32) (a : FVec Ideal S16 .f32) (R : Fin 32768) (L : Fin 1024) :
    sums q k v a (ix2 R L) = AttnRow.num (row q k a ⟨R.val / 8192, by omega⟩ ⟨R.val / 128 % 64, by omega⟩ ⟨R.val % 128, by omega⟩ ⟨L.val / 64, by omega⟩)
      fun j => keyAt v ⟨R.val / 8192, by omega⟩ ⟨R.val / 128 % 64, by omega⟩ j L := by
  pointwise [sums]
  rw [nums_apply]
  refine congrArg₂ AttnRow.num (funext fun j => scores_apply q k a _ _ _ _ j) (funext fun j => congrArg (keyAt v _ _ j) (Fin.ext ?_))
  show L.val / 64 * 64 + L.val % 64 = L.val
  omega

/-- The second result, at position `R` and lane `l`. -/
theorem stats_apply (q k : FVec Ideal S4x8192x1024 .f32) (a : FVec Ideal S16 .f32) (R : Fin 32768) (l : Fin 128) :
    stats q k a (ix2 R l) =
      if h : l.val < 16 then AttnRow.perLog2 * AttnRow.top
        (row q k a ⟨R.val / 8192, by omega⟩ ⟨R.val / 128 % 64, by omega⟩ ⟨R.val % 128, by omega⟩ ⟨l.val, h⟩)
      else if h : l.val < 32 then AttnRow.den
        (row q k a ⟨R.val / 8192, by omega⟩ ⟨R.val / 128 % 64, by omega⟩ ⟨R.val % 128, by omega⟩ ⟨l.val - 16, by omega⟩)
      else 0 := by
  pointwise [stats]
  have el : ∀ x : EReal, Ideal.div x (Ideal.log (Ideal.ofBits .f32 0x40000000#32)) = AttnRow.perLog2 * x := fun x => by
    have e2 : Ideal.ofBits .f32 0x40000000#32 = ((2 : ℝ) : EReal) := by
      have h : ((8388608 : ℝ) : EReal) * ((1 / 4194304 : ℝ) : EReal) = ((2 : ℝ) : EReal) := by
        rw [← EReal.coe_mul]; norm_num
      refine Eq.trans ?_ h
      simp [Ideal.ofBits, Ideal.ieee]
      norm_num
    rw [e2, Ideal.log_coe, if_neg (by norm_num), Ideal.div_coe AttnRow.log2_pos.ne', mul_comm, one_div]
    rfl
  by_cases h0 : l.val < 16
  · rw [dif_pos h0, dif_pos h0, perHead_apply, tops_apply]
    refine (el _).trans (congrArg (AttnRow.perLog2 * ·) (congrArg AttnRow.top (funext fun j => scores_apply q k a _ _ _ _ j)))
  · rw [dif_neg h0, dif_neg h0]
    by_cases h1 : l.val < 32
    · rw [dif_pos h1, dif_pos (by omega), perHead_apply, dens_apply]
      exact congrArg AttnRow.den (funext fun j => scores_apply q k a _ _ _ _ j)
    · rw [dif_neg h1, dif_neg (by omega)]

/-- The reference's first result is the array of weighted sums. -/
theorem res_sums (m : (ℓ : Loc nD τ sig) → Buf (Elt Ideal) ℓ) (c : Dev nD) :
    res_main_v84 (F := Ideal) m c = sums (m ((c.tc : Thread nD τ).loc main_arg0)) (m ((c.tc : Thread nD τ).loc main_arg1))
      (m ((c.tc : Thread nD τ).loc main_arg2)) (m ((c.tc : Thread nD τ).loc main_arg3)) := rfl

/-- The reference's second result is the array of statistics. -/
theorem res_stats (m : (ℓ : Loc nD τ sig) → Buf (Elt Ideal) ℓ) (c : Dev nD) :
    res_main_v85 (F := Ideal) m c = stats (m ((c.tc : Thread nD τ).loc main_arg0)) (m ((c.tc : Thread nD τ).loc main_arg1))
      (m ((c.tc : Thread nD τ).loc main_arg3)) := rfl

end Cert.ReferenceIdeal.Value

end
-- ==== Proof.AttnHost.lean ====
/-
  The arrays the attention kernel is launched on: the scaled queries, the keys, the values and the bias tables, read at an
  index.
-/
module

public import proofs.«01_k».proof.Proof.AttnRef
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Arrays

open Cert.KernelIdeal Cert.KernelIdeal.Gen Idealize.ShloMosaic Idealize.ShloMosaic.TcCoe Idealize.SL.Sem Cert.AttnSpec

/-- The logarithm of two. -/
def log2 : FVec Ideal S_ .f32 := Host.log (constant S_ .f32 0x40000000#32)

/-- Dividing by it is multiplying by `perLog2`. -/
theorem div_log2 (x : EReal) : Ideal.div x (log2 ix0) = AttnRow.perLog2 * x := by
  have e2 : Ideal.ofBits .f32 0x40000000#32 = ((2 : ℝ) : EReal) := by
    have h : ((8388608 : ℝ) : EReal) * ((1 / 4194304 : ℝ) : EReal) = ((2 : ℝ) : EReal) := by
      rw [← EReal.coe_mul]; norm_num
    refine Eq.trans ?_ h
    simp [Ideal.ofBits, Ideal.ieee]
    norm_num
  show Ideal.div x (Ideal.log (Ideal.ofBits .f32 0x40000000#32)) = _
  rw [e2, Ideal.log_coe, if_neg (by norm_num), Ideal.div_coe AttnRow.log2_pos.ne', mul_comm, one_div]
  rfl

/-- The queries, scaled. -/
def scaled (q : FVec Ideal S4x8192x1024 .f32) : FVec Ideal S32768x1024 .bf16 :=
  shapeCast S32768x1024 (truncf .bf16 (mulf q (broadcastInDim S4x8192x1024 ![] bcast_S_S4x8192x1024
    (id (Host.divf (constant S_ .f32 0x3E000000#32) log2)))) bitsLt_bf16_f32) shapeCasts_S4x8192x1024_S32768x1024

/-- The keys, or the values. -/
def flat (k : FVec Ideal S4x8192x1024 .f32) : FVec Ideal S32768x1024 .bf16 :=
  shapeCast S32768x1024 (truncf .bf16 k bitsLt_bf16_f32) shapeCasts_S4x8192x1024_S32768x1024

/-- The scaled queries, entry by entry: the query over eight logarithms of two. -/
theorem scaled_apply (q : FVec Ideal S4x8192x1024 .f32) (N : Fin 32768) (L : Fin 1024) :
    scaled q (ix2 N L) = q (ix3 ⟨N.val / 8192, by omega⟩ ⟨N.val % 8192, by omega⟩ L) * (((8 * Real.log 2)⁻¹ : ℝ) : EReal) := by
  have e8 : Ideal.ofBits .f32 0x3E000000#32 = ((1 / 8 : ℝ) : EReal) := by
    have h : ((8388608 : ℝ) : EReal) * ((1 / 67108864 : ℝ) : EReal) = ((1 / 8 : ℝ) : EReal) := by
      rw [← EReal.coe_mul]; norm_num
    refine Eq.trans ?_ h
    simp [Ideal.ofBits, Ideal.ieee]
    norm_num
  pointwise [scaled]
  refine congrArg (_ * ·) ?_
  show Ideal.div (Ideal.ofBits .f32 0x3E000000#32) (log2 ix0) = _
  rw [div_log2, e8, AttnRow.perLog2, ← EReal.coe_mul]
  exact congrArg _ (by rw [mul_inv]; ring)

/-- The keys or values as rows, entry by entry. -/
theorem flat_apply (k : FVec Ideal S4x8192x1024 .f32) (N : Fin 32768) (L : Fin 1024) :
    flat k (ix2 N L) = k (ix3 ⟨N.val / 8192, by omega⟩ ⟨N.val % 8192, by omega⟩ L) := by
  pointwise [flat]

/-- The distances, as words. -/
def words : IVec S128x256 32 :=
  subi (addi (iotaInDim S128x256 32 0) (broadcastInDim S128x256 ![] bcast_S_S128x256 (constantI S_ 32 128#32))) (iotaInDim S128x256 32 1)

/-- The table of distances between a query and a key of its two blocks. -/
theorem words_apply (u : Fin 128) (j : Fin 256) : words (ix2 u j) = word u j := by
  pointwise [words, word]

/-- The window, as bits. -/
def bands : IVec S128x256 1 :=
  andi (cmpi .sge words (broadcastInDim S128x256 ![] bcast_S_S128x256 (constantI S_ 32 0#32)))
    (cmpi .sle words (broadcastInDim S128x256 ![] bcast_S_S128x256 (constantI S_ 32 128#32)))

/-- The table of pairs whose distance lies in the window. -/
theorem bands_apply (u : Fin 128) (j : Fin 256) : bands (ix2 u j) = band u j := by
  pointwise [bands, words_apply]
  rfl

/-- The biases, before masking. -/
def biases (a : FVec Ideal S16 .f32) : FVec Ideal S16x128x256 .f32 :=
  Host.divf (mulf (broadcastInDim S16x128x256 ![0, 1, 2] bcast_S16x1x1_S16x128x256_0_1_2 (Host.negf (broadcastInDim S16x1x1 ![0] bcast_S16_S16x1x1_0 a)))
      (broadcastInDim S16x128x256 ![0, 1, 2] bcast_S1x128x256_S16x128x256_0_1_2 (broadcastInDim S1x128x256 ![1, 2] bcast_S128x256_S1x128x256_1_2
        (sitofp .f32 (muli words (broadcastInDim S128x256 ![] bcast_S_S128x256 (constantI S_ 32 1#32)))))))
    (broadcastInDim S16x128x256 ![] bcast_S_S16x128x256 (id log2))

/-- The bias of a head at a pair, in units of the logarithm of two. -/
theorem biases_apply (a : FVec Ideal S16 .f32) (h : Fin 16) (u : Fin 128) (j : Fin 256) :
    biases a (ix3 h u j) = -a (ix1 h) * dist u j * AttnRow.perLog2 := by
  pointwise [biases, words_apply]
  exact (div_log2 _).trans (mul_comm _ _)

/-- The biases where the bits `w` are set, minus infinity elsewhere. -/
def masked (w : IVec S128x256 1) (a : FVec Ideal S16 .f32) : FVec Ideal S16x128x256 .f32 :=
  select (broadcastInDim S16x128x256 ![0, 1, 2] bcast_S1x128x256_S16x128x256_0_1_2 (broadcastInDim S1x128x256 ![1, 2] bcast_S128x256_S1x128x256_1_2 w))
    (biases a) (broadcastInDim S16x128x256 ![] bcast_S_S16x128x256 (id (constant S_ .f32 0xFF800000#32)))

/-- A bias table is the bias where the mask holds and minus infinity elsewhere. -/
theorem masked_apply (w : IVec S128x256 1) (a : FVec Ideal S16 .f32) (h : Fin 16) (u : Fin 128) (j : Fin 256) :
    masked w a (ix3 h u j) = if w (ix2 u j) = 1#1 then -a (ix1 h) * dist u j * AttnRow.perLog2 else ⊥ := by
  have em : Ideal.ofBits .f32 0xFF800000#32 = ⊥ := by simp [Ideal.ofBits, Ideal.ieee]
  pointwise [masked, biases_apply]
  rw [Scalar.select]
  exact if_congr Iff.rfl rfl em

/-- The two bias tables: a sequence's first block's and the later blocks'. -/
def tables (a : FVec Ideal S16 .f32) : FVec Ideal S2x8x256x256 .f32 :=
  shapeCast S2x8x256x256 (concatenate S2x16x128x256 0
    [⟨S1x16x128x256, broadcastInDim S1x16x128x256 ![1, 2, 3] bcast_S16x128x256_S1x16x128x256_1_2_3
        (masked (andi bands (cmpi .sge (iotaInDim S128x256 32 1) (broadcastInDim S128x256 ![] bcast_S_S128x256 (constantI S_ 32 128#32)))) a)⟩,
      ⟨S1x16x128x256, broadcastInDim S1x16x128x256 ![1, 2, 3] bcast_S16x128x256_S1x16x128x256_1_2_3 (masked bands a)⟩]
    concatenates_S1x16x128x256_S1x16x128x256_S2x16x128x256_d0) shapeCasts_S2x16x128x256_S2x8x256x256

/-- The two bias tables, entry by entry: the first one also masks the block before the sequence. -/
theorem tables_apply (a : FVec Ideal S16 .f32) (tb : Fin 2) (p : Fin 8) (R j : Fin 256) :
    tables a (ix4 tb p R j) = if band ⟨R.val % 128, by omega⟩ j = 1#1 ∧ ¬(tb.val = 0 ∧ j.val < 128)
      then -a (ix1 ⟨p.val * 2 + R.val / 128, by omega⟩) * dist ⟨R.val % 128, by omega⟩ j * AttnRow.perLog2 else ⊥ := by
  have e2 : ∀ j : Fin 256, IntOp.cmpi .sge (BitVec.ofNat 32 j.val) 128#32 = if j.val < 128 then 0#1 else 1#1 := by decide +kernel
  have e3 : ∀ (w : BitVec 1) (q : Prop) [Decidable q], IntOp.andi w (if q then 0#1 else 1#1) = 1#1 ↔ w = 1#1 ∧ ¬q := fun w q _ => by
    have h : w = 0#1 ∨ w = 1#1 := by revert w; decide
    rcases h with h | h <;> subst h <;> by_cases hq : q <;> simp [hq, IntOp.andi]
  pointwise [tables]
  by_cases h0 : tb.val < 1
  · rw [dif_pos (by omega), masked_apply]
    pointwise [bands_apply]
    rw [e2]
    exact if_congr ((e3 _ _).trans (and_congr Iff.rfl (not_congr ⟨fun h => ⟨by omega, h⟩, fun h => h.2⟩))) rfl rfl
  · rw [dif_neg (by omega), masked_apply, bands_apply]
    exact if_congr ⟨fun h => ⟨h, fun h' => h0 (by omega)⟩, fun h => h.1⟩ rfl rfl

variable (m : (ℓ : Loc nD τ sig) → Buf (Elt Ideal) ℓ)

/-- The region finds the scaled queries. -/
theorem V_q (c : Dev nD) : V m c main_v6 = scaled (m ((c.tc : Thread nD τ).loc main_arg0)) := by
  unfold V
  simp only [hostOps0, hostOps0_1, hostOps0_2, hostOps0_3, hostOps0_4, List.flatten_cons, List.flatten_nil, List.append_nil, List.cons_append, List.nil_append]
  after_results
  rfl

/-- The region finds the keys. -/
theorem V_k (c : Dev nD) : V m c main_v8 = flat (m ((c.tc : Thread nD τ).loc main_arg1)) := by
  unfold V
  simp only [hostOps0, hostOps0_1, hostOps0_2, hostOps0_3, hostOps0_4, List.flatten_cons, List.flatten_nil, List.append_nil, List.cons_append, List.nil_append]
  after_results
  rfl

/-- The region finds the values. -/
theorem V_v (c : Dev nD) : V m c main_v10 = flat (m ((c.tc : Thread nD τ).loc main_arg2)) := by
  unfold V
  simp only [hostOps0, hostOps0_1, hostOps0_2, hostOps0_3, hostOps0_4, List.flatten_cons, List.flatten_nil, List.append_nil, List.cons_append, List.nil_append]
  after_results
  rfl

/-- The region finds the bias tables. -/
theorem V_b (c : Dev nD) : V m c main_v44 = tables (m ((c.tc : Thread nD τ).loc main_arg3)) := by
  unfold V
  simp only [hostOps0, hostOps0_1, hostOps0_2, hostOps0_3, hostOps0_4, List.flatten_cons, List.flatten_nil, List.append_nil, List.cons_append, List.nil_append]
  after_results
  rfl

end Cert.KernelIdeal.Arrays

end
-- ==== Proof.AttnTile.lean ====
/-
  The tiles of the attention kernel: what one pair of heads computes from a tile of 128 queries and the 256 keys around it,
  read at an index.
-/
module

public import proofs.«01_k».proof.Proof.Gen.KernelIdeal.Value
public import proofs.«01_k».proof.Proof.AttnRow
public import Idealize.ShloMosaic.Lib.Pipeline.ValueKit
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe Idealize.SL.Sem

/-- Choosing by "lane below 64". -/
theorem select_lane (l : Fin 128) (a b : EReal) :
    Scalar.select (IntOp.cmpi .slt (BitVec.ofNat 32 l.val) 64#32) a b = if l.val < 64 then a else b := by
  have h : IntOp.cmpi .slt (BitVec.ofNat 32 l.val) 64#32 = if l.val < 64 then 1#1 else 0#1 := by revert l; decide
  rw [h]
  split <;> rfl

/-- Choosing by "lane equal to `n`". -/
theorem select_eq (n l : Fin 128) (a b : EReal) :
    Scalar.select (IntOp.cmpi .eq (BitVec.ofNat 32 l.val) (BitVec.ofNat 32 n.val)) a b = if l = n then a else b := by
  have h : IntOp.cmpi .eq (BitVec.ofNat 32 l.val) (BitVec.ofNat 32 n.val) = if l = n then 1#1 else 0#1 := by
    revert n l; decide +kernel
  rw [h]
  split <;> rfl

variable (q : Vec Ideal S128x128 .bf16) (k v : FVec Ideal S256x128 .bf16) (b : Vec Ideal S1x1x256x256 .f32)

/-- The scores of a pair of heads: rows 0–127 the first head's, rows 128–255 the second's. -/
def scores : FVec Ideal S256x256 .f32 := k0_pay17 k0_pay2 (k0_pay14 q) k (Scalar.ofBits .bf16 0x0000#16) b

/-- The largest score of each row. -/
def maxima : FVec Ideal S256x1 .f32 := k0_pay18 k0_pay2 (k0_pay14 q) k (Scalar.ofBits .bf16 0x0000#16) b

/-- The weights. -/
def weights : FVec Ideal S256x256 .f32 := k0_pay19 k0_pay2 (k0_pay14 q) k (Scalar.ofBits .bf16 0x0000#16) b

/-- The sum of each row's weights. -/
def sums : FVec Ideal S256x1 .f32 := k0_pay20 k0_pay2 (k0_pay14 q) k (Scalar.ofBits .bf16 0x0000#16) b

/-- The tile stored: the weighted sums of the values, the lanes of each head from its own rows. -/
def out : FVec Ideal S128x128 .bf16 := k0_pay21 k0_pay2 (k0_pay14 q) k v (Scalar.ofBits .bf16 0x0000#16) b

/-- The zero that fills the other head's lanes. -/
theorem zero_word : (Scalar.ofBits .bf16 0x0000#16 : Ideal .bf16) = (0 : EReal) := Ideal.ofBits_zero_bf16

/-- The same scores as the kernel writes them for its first head pair. -/
theorem scores_eq : scores q k b = k0_pay17 k0_pay2 (k0_pay14 q) k (0 : EReal) b := by unfold scores; rw [zero_word]
/-- The same maxima as the kernel writes them for its first head pair. -/
theorem maxima_eq : maxima q k b = k0_pay18 k0_pay2 (k0_pay14 q) k (0 : EReal) b := by unfold maxima; rw [zero_word]
/-- The same weights as the kernel writes them for its first head pair. -/
theorem weights_eq : weights q k b = k0_pay19 k0_pay2 (k0_pay14 q) k (0 : EReal) b := by unfold weights; rw [zero_word]
/-- The same sums as the kernel writes them for its first head pair. -/
theorem sums_eq : sums q k b = k0_pay20 k0_pay2 (k0_pay14 q) k (0 : EReal) b := by unfold sums; rw [zero_word]
/-- The same result as the kernel writes them for its first head pair. -/
theorem out_eq : out q k v b = k0_pay21 k0_pay2 (k0_pay14 q) k v (0 : EReal) b := by unfold out; rw [zero_word]

/-- A score is the product over the head's 64 lanes plus the bias: the other head's lanes hold zeros. -/
theorem scores_apply (r : Fin 128) (h : Fin 2) (j : Fin 256) :
    scores q k b (ix2 ⟨h.val * 128 + r.val, by omega⟩ j)
      = (∑ e : Fin 64, q (ix2 r ⟨h.val * 64 + e.val, by omega⟩) * k (ix2 j ⟨h.val * 64 + e.val, by omega⟩))
        + b (ix4 0 0 ⟨h.val * 128 + r.val, by omega⟩ j) := by
  rw [scores_eq]
  pointwise [k0_pay17, k0_pay2, k0_pay14]
  congr 1
  simp only [select_lane]
  rw [Fin.sum_univ_add (a := 64) (b := 64)]
  fin_vals h with hk
  · simp [hk]
    rfl
  · simp [hk]
    refine Finset.sum_congr rfl fun e _ => ?_
    have he : e.addNat 64 = (⟨64 + e.val, by omega⟩ : Fin 128) := Fin.ext (by simp [add_comm])
    rw [he]

/-- The largest score of a row. -/
theorem maxima_apply (r : Fin 256) : maxima q k b (ix2 r 0) = AttnRow.top fun j => scores q k b (ix2 r j) := by
  rw [maxima_eq, scores_eq]
  pointwise [k0_pay18]
  rw [show Ideal.ofBits .f32 0xFF800000#32 = ⊥ from by simp [Ideal.ofBits, Ideal.ieee]]
  rfl

/-- A weight. -/
theorem weights_apply (r j : Fin 256) : weights q k b (ix2 r j) = AttnRow.weight2 (fun j => scores q k b (ix2 r j)) j := by
  have h := maxima_apply q k b r
  rw [maxima_eq, scores_eq] at h
  rw [weights_eq, scores_eq]
  pointwise [k0_pay19]
  rw [h]
  rfl

/-- The sum of a row's weights. -/
theorem sums_apply (r : Fin 256) : sums q k b (ix2 r 0) = AttnRow.den2 fun j => scores q k b (ix2 r j) := by
  have h := weights_apply q k b r
  rw [weights_eq] at h
  rw [sums_eq]
  pointwise [k0_pay20]
  simp only [h]
  rfl

/-- A lane of the stored tile: the weighted sum of the values of its lane by the weights of its head. -/
theorem out_apply (r l : Fin 128) :
    out q k v b (ix2 r l) = AttnRow.num2 (fun j => scores q k b (ix2 ⟨l.val / 64 * 128 + r.val, by omega⟩ j)) fun j => v (ix2 j l) := by
  have h := weights_apply q k b
  rw [weights_eq] at h
  rw [out_eq]
  pointwise [k0_pay21]
  simp only [h]
  have h2 : k0_pay2 (ix2 r l) = IntOp.cmpi .slt (BitVec.ofNat 32 l.val) 64#32 := by
    pointwise [k0_pay2]
  rw [h2, select_lane]
  split
  · have e : (⟨l.val / 64 * 128 + r.val, by omega⟩ : Fin 256) = ⟨r.val, by omega⟩ := Fin.ext (by simp only []; omega)
    rw [e]
    rfl
  · have e : (⟨l.val / 64 * 128 + r.val, by omega⟩ : Fin 256) = ⟨128 + r.val, by omega⟩ := Fin.ext (by simp only []; omega)
    rw [e]
    rfl

/-- A tile of statistics with two more lanes written: lane `a` from the first head's rows of `x`, lane `a'` from the second's. -/
def put (a a' : BitVec 32) (x : FVec Ideal S256x1 .f32) (t : FVec Ideal S128x128 .f32) : FVec Ideal S128x128 .f32 :=
  select (cmpi .eq (iota .tc S128x128 32 [1] iota_S128x128_d1_w32) (broadcast S128x128 a'))
    (broadcastTo S128x128 (shapeCast S128x1 (extractStridedSlice S128x1 ![128, 0] x slices_S256x1_o128_0_S128x1) shapeCasts_S128x1_S128x1) broadcasts_S128x1_S128x128)
    (select (cmpi .eq (iota .tc S128x128 32 [1] iota_S128x128_d1_w32) (broadcast S128x128 a))
      (broadcastTo S128x128 (shapeCast S128x1 (extractStridedSlice S128x1 ![0, 0] x slices_S256x1_o0_0_S128x1) shapeCasts_S128x1_S128x1) broadcasts_S128x1_S128x128)
      t)

/-- A lane of a tile with two more lanes written. -/
theorem put_apply (n n' : Fin 128) (x : FVec Ideal S256x1 .f32) (t : FVec Ideal S128x128 .f32) (r l : Fin 128) :
    put (BitVec.ofNat 32 n.val) (BitVec.ofNat 32 n'.val) x t (ix2 r l)
      = if l = n' then x (ix2 ⟨128 + r.val, by omega⟩ 0) else if l = n then x (ix2 ⟨r.val, by omega⟩ 0) else t (ix2 r l) := by
  unfold put
  pointwise
  rw [select_eq, select_eq]

/-- The lanes from `o` on written one pair of heads after the other, `p` pairs. -/
def chain (o : Nat) (x : Fin 8 → FVec Ideal S256x1 .f32) (t : FVec Ideal S128x128 .f32) : Nat → FVec Ideal S128x128 .f32
  | 0 => t
  | p + 1 => put (BitVec.ofNat 32 (o + 2 * p)) (BitVec.ofNat 32 (o + (2 * p + 1))) (x (Fin.ofNat 8 p)) (chain o x t p)

/-- A lane of the chain: lane `o + 2 p + h` holds head `h` of pair `p`; the others are as before. -/
theorem chain_apply (o : Nat) (ho : o + 16 ≤ 128) (x : Fin 8 → FVec Ideal S256x1 .f32) (t : FVec Ideal S128x128 .f32) (r l : Fin 128) :
    ∀ p : Nat, p ≤ 8 → chain o x t p (ix2 r l)
      = if h : o ≤ l.val ∧ l.val < o + 2 * p then
          x (Fin.ofNat 8 ((l.val - o) / 2)) (ix2 ⟨(l.val - o) % 2 * 128 + r.val, by omega⟩ 0)
        else t (ix2 r l)
  | 0, _ => by rw [chain, dif_neg (by omega)]
  | p + 1, hp => by
    have e := put_apply ⟨o + 2 * p, by omega⟩ ⟨o + (2 * p + 1), by omega⟩ (x (Fin.ofNat 8 p)) (chain o x t p) r l
    simp only [] at e
    rw [chain, e, chain_apply o ho x t r l p (by omega)]
    simp only [Fin.ext_iff]
    by_cases h1 : l.val = o + (2 * p + 1)
    · rw [if_pos h1, dif_pos (by omega)]
      have e1 : (l.val - o) / 2 = p := by omega
      have e2 : (⟨(l.val - o) % 2 * 128 + r.val, by omega⟩ : Fin 256) = ⟨128 + r.val, by omega⟩ := Fin.ext (by simp only []; omega)
      rw [e2, e1]
    · rw [if_neg h1]
      by_cases h0 : l.val = o + 2 * p
      · rw [if_pos h0, dif_pos (by omega)]
        have e1 : (l.val - o) / 2 = p := by omega
        have e2 : (⟨(l.val - o) % 2 * 128 + r.val, by omega⟩ : Fin 256) = ⟨r.val, by omega⟩ := Fin.ext (by simp only []; omega)
        rw [e2, e1]
      · rw [if_neg h0]
        by_cases h : o ≤ l.val ∧ l.val < o + 2 * p
        · rw [dif_pos h, dif_pos (by omega)]
        · rw [dif_neg h, dif_neg (by omega)]

/-- The tile of statistics of 128 queries: the maxima of the 16 heads, then their sums, then zeros. -/
def stats (m d : Fin 8 → FVec Ideal S256x1 .f32) : FVec Ideal S128x128 .f32 :=
  select (cmpi .slt (iota .tc S128x128 32 [1] iota_S128x128_d1_w32) (broadcast S128x128 16#32))
    (chain 0 m k0_pay3 8) (chain 16 d k0_pay4 8)

/-- A lane of the tile of statistics. -/
theorem stats_apply (m d : Fin 8 → FVec Ideal S256x1 .f32) (r l : Fin 128) :
    stats m d (ix2 r l) = if l.val < 16 then m (Fin.ofNat 8 (l.val / 2)) (ix2 ⟨l.val % 2 * 128 + r.val, by omega⟩ 0)
      else if l.val < 32 then d (Fin.ofNat 8 ((l.val - 16) / 2)) (ix2 ⟨(l.val - 16) % 2 * 128 + r.val, by omega⟩ 0) else 0 := by
  have hl : IntOp.cmpi .slt (BitVec.ofNat 32 l.val) 16#32 = if l.val < 16 then 1#1 else 0#1 := by revert l; decide
  unfold stats
  pointwise
  rw [chain_apply 0 (by omega) m _ r l 8 (by omega), chain_apply 16 (by omega) d _ r l 8 (by omega), hl]
  by_cases h : l.val < 16
  · simp [h, Scalar.select]
  · by_cases h' : l.val < 32
    · simp [h, h', Scalar.select, show 16 ≤ l.val by omega]
    · simp [h, h', Scalar.select]
      pointwise [k0_pay4]

end Cert.KernelIdeal.Tile

end
-- ==== Proof.AttnBlock.lean ====
/-
  One grid point of the attention kernel: what its stores leave in the block of weighted sums and in the block of
  statistics, as functions of the blocks it loads.
-/
module

public import proofs.«01_k».proof.Proof.AttnTile
public import Idealize.ShloMosaic.Lib.WholeRead
public import Idealize.ShloMosaic.Lib.Pipeline.ReadBack

@[expose] public section

set_option maxRecDepth 16384

noncomputable section

namespace Cert.KernelIdeal.Tile

open Cert.KernelIdeal Cert.KernelIdeal.Gen Idealize.ShloMosaic Idealize.ShloMosaic.TcCoe Idealize.SL.Sem

/-- The 256 key (or value) rows around block `sb` of 128 queries: the 128 before it and its own, those before the tile from
    `xp`. -/
def around (xp : Vec Ideal S128x1024 .bf16) (x : Vec Ideal S2048x1024 .bf16) (sb : Fin 16) (j : Fin 256) (l : Fin 1024) : EReal :=
  if h : sb.val * 128 + j.val < 128 then xp (ix2 ⟨sb.val * 128 + j.val, h⟩ l) else x (ix2 ⟨sb.val * 128 + j.val - 128, by omega⟩ l)

/-- The block of 128 queries that row `R` of a tile is in. -/
def sub (R : Fin 2048) : Fin 16 := ⟨R.val / 128, by omega⟩

/-- The bias table of row block `sb`: the table of sequence starts for the first block of a sequence's first tile. -/
def tableOf (tb : Fin 2) (sb : Fin 16) : Fin 2 := if sb.val = 0 then tb else 1

variable (xq : Vec Ideal S2048x1024 .bf16) (xkp : Vec Ideal S128x1024 .bf16) (xk : Vec Ideal S2048x1024 .bf16)
  (xvp : Vec Ideal S128x1024 .bf16) (xv : Vec Ideal S2048x1024 .bf16) (xb : Vec Ideal S2x8x256x256 .f32) (tb : Fin 2)

/-- The score of the query at row `R` of a tile and head `h` against key `j`. -/
def rowScore (R : Fin 2048) (h : Fin 16) (j : Fin 256) : EReal :=
  (∑ e : Fin 64, xq (ix2 R ⟨h.val * 64 + e.val, by omega⟩) * around xkp xk (sub R) j ⟨h.val * 64 + e.val, by omega⟩)
    + xb (ix4 (tableOf tb (sub R)) ⟨h.val / 2, by omega⟩ ⟨h.val % 2 * 128 + R.val % 128, by omega⟩ j)

/-- The weighted sum at row `R` and lane `L` of the block. -/
def sumsAt (R : Fin 2048) (L : Fin 1024) : EReal :=
  AttnRow.num2 (rowScore xq xkp xk xb tb R ⟨L.val / 64, by omega⟩) fun j => around xvp xv (sub R) j L

/-- The block of weighted sums. -/
def sumsBlock (y : S2048x1024.Idx) : EReal := sumsAt xq xkp xk xvp xv xb tb (y 0) (y 1)

/-- The statistic at row `R` and lane `l` of the block: lanes 0–15 the largest scores of the 16 heads, lanes 16–31 the sums
    of their weights, then zeros. -/
def statsAt (R : Fin 2048) (l : Fin 128) : EReal :=
  if h : l.val < 16 then AttnRow.top (rowScore xq xkp xk xb tb R ⟨l.val, h⟩)
  else if h : l.val < 32 then AttnRow.den2 (rowScore xq xkp xk xb tb R ⟨l.val - 16, by omega⟩)
  else 0

/-- The block of statistics. -/
def statsBlock (y : S2048x128.Idx) : EReal := statsAt xq xkp xk xb tb (y 0) (y 1)

/-- A tile loaded from a whole two-axis buffer, read at an index. -/
theorem read_tile {e : EltTy} {M N a b : Nat} {arg : Memref sig .tc .vmem ⟨2, ![M, N]⟩ e} (harg : arg.IsWhole)
    (X : Vec Ideal ⟨2, ![M, N]⟩ e) (o cl : Nat)
    (inb : ∀ i, (![o, cl] : Fin 2 → Nat) i + (![a, b] : Fin 2 → Nat) i ≤ (⟨2, ![M, N]⟩ : Shape).size i) (r : Fin a) (l : Fin b)
    (hr : o + r.val < M) (hl : cl + l.val < N) :
    View.readAt (Elt Ideal) arg.view (Rect.unit (s := ⟨2, ![M, N]⟩) ![o, cl] ![a, b] inb).toLoadRect (harg.unread X) (ix2 r l)
      = X (ix2 ⟨o + r.val, hr⟩ ⟨cl + l.val, hl⟩) := by
  rw [harg.readAt_unread]
  refine congrArg X (funext fun i => ?_)
  revert i
  exact Fin.forall_fin_two.mpr ⟨Fin.ext (by simp), Fin.ext (by simp)⟩

/-- A bias table loaded from the tables, read at an index. -/
theorem read_bias {arg : Memref sig .tc .vmem S2x8x256x256 .f32} (harg : arg.IsWhole) (X : Vec Ideal S2x8x256x256 .f32)
    (off : Fin 4 → Nat) (t : Fin 2) (p : Fin 8) (ho : off = ![t.val, p.val, 0, 0])
    (inb : ∀ i, off i + (![1, 1, 256, 256] : Fin 4 → Nat) i ≤ S2x8x256x256.size i) (r j : Fin 256) :
    View.readAt (Elt Ideal) arg.view (Rect.unit (s := S2x8x256x256) off ![1, 1, 256, 256] inb).toLoadRect (harg.unread X) (ix4 0 0 r j)
      = X (ix4 t p r j) := by
  subst ho
  rw [harg.readAt_unread]
  refine congrArg X (funext fun i => ?_)
  fin_cases i <;> exact Fin.ext (by simp)

/-- Two tiles of 128 rows joined, read at an index. -/
theorem join_apply (a b : Vec Ideal S128x128 .bf16) (j : Fin 256) (l : Fin 128) :
    k0_pay5 a b (ix2 j l) = if h : j.val < 128 then a (ix2 ⟨j.val, h⟩ l) else b (ix2 ⟨j.val - 128, by omega⟩ l) := by
  pointwise [k0_pay5]

/-- The scores of one tile are those of its rows and heads of the block. -/
theorem scores_eq_block (sb : Fin 16) (p : Fin 8) (q : Vec Ideal S128x128 .bf16) (k : FVec Ideal S256x128 .bf16) (b : Vec Ideal S1x1x256x256 .f32)
    (hq : ∀ r l : Fin 128, q (ix2 r l) = xq (ix2 ⟨sb.val * 128 + r.val, by omega⟩ ⟨p.val * 128 + l.val, by omega⟩))
    (hk : ∀ (j : Fin 256) (l : Fin 128), k (ix2 j l) = around xkp xk sb j ⟨p.val * 128 + l.val, by omega⟩)
    (hb : ∀ r j : Fin 256, b (ix4 0 0 r j) = xb (ix4 (tableOf tb sb) p r j)) (r : Fin 128) (h : Fin 2) (j : Fin 256)
    (R : Fin 2048) (hR : R.val = sb.val * 128 + r.val) (H : Fin 16) (hH : H.val = p.val * 2 + h.val) :
    scores q k b (ix2 ⟨h.val * 128 + r.val, by omega⟩ j) = rowScore xq xkp xk xb tb R H j := by
  have hs : sub R = sb := Fin.ext (by simp only [sub]; omega)
  have eR : (⟨sb.val * 128 + r.val, by omega⟩ : Fin 2048) = R := Fin.ext hR.symm
  rw [scores_apply, rowScore, hs, hb]
  congr 1
  · refine Finset.sum_congr rfl fun e _ => ?_
    rw [hq, hk, eR]
    have he : (⟨p.val * 128 + (h.val * 64 + e.val), by omega⟩ : Fin 1024) = ⟨H.val * 64 + e.val, by omega⟩ := Fin.ext (by simp only []; omega)
    rw [he]
  · have e1 : (⟨H.val / 2, by omega⟩ : Fin 8) = p := Fin.ext (by simp only []; omega)
    have e2 : (⟨H.val % 2 * 128 + R.val % 128, by omega⟩ : Fin 256) = ⟨h.val * 128 + r.val, by omega⟩ := Fin.ext (by simp only []; omega)
    simp only [e1, e2]

/-- The weighted sums of one tile are those of its rows and lanes of the block, when the tile's queries, keys, values and
    biases are those of the block. -/
theorem out_eq_block (sb : Fin 16) (p : Fin 8) (q : Vec Ideal S128x128 .bf16) (k v : FVec Ideal S256x128 .bf16) (b : Vec Ideal S1x1x256x256 .f32)
    (hq : ∀ r l : Fin 128, q (ix2 r l) = xq (ix2 ⟨sb.val * 128 + r.val, by omega⟩ ⟨p.val * 128 + l.val, by omega⟩))
    (hk : ∀ (j : Fin 256) (l : Fin 128), k (ix2 j l) = around xkp xk sb j ⟨p.val * 128 + l.val, by omega⟩)
    (hv : ∀ (j : Fin 256) (l : Fin 128), v (ix2 j l) = around xvp xv sb j ⟨p.val * 128 + l.val, by omega⟩)
    (hb : ∀ r j : Fin 256, b (ix4 0 0 r j) = xb (ix4 (tableOf tb sb) p r j)) (r l : Fin 128) :
    out q k v b (ix2 r l) = sumsBlock xq xkp xk xvp xv xb tb (ix2 ⟨sb.val * 128 + r.val, by omega⟩ ⟨p.val * 128 + l.val, by omega⟩) := by
  have hs : sub ⟨sb.val * 128 + r.val, by omega⟩ = sb := Fin.ext (by simp only [sub]; omega)
  rw [out_apply]
  show _ = sumsAt xq xkp xk xvp xv xb tb ⟨sb.val * 128 + r.val, by omega⟩ ⟨p.val * 128 + l.val, by omega⟩
  unfold sumsAt
  refine congrArg₂ AttnRow.num2 (funext fun j => ?_) (funext fun j => ?_)
  · exact scores_eq_block xq xkp xk xb tb sb p q k b hq hk hb r ⟨l.val / 64, by omega⟩ j _ rfl _ (by simp only []; omega)
  · rw [hv, hs]

/-- The statistics of one row block are those of its rows of the block. -/
theorem stats_eq_block (sb : Fin 16) (q : Fin 8 → Vec Ideal S128x128 .bf16) (k : Fin 8 → FVec Ideal S256x128 .bf16) (b : Fin 8 → Vec Ideal S1x1x256x256 .f32)
    (hq : ∀ (p : Fin 8) (r l : Fin 128), q p (ix2 r l) = xq (ix2 ⟨sb.val * 128 + r.val, by omega⟩ ⟨p.val * 128 + l.val, by omega⟩))
    (hk : ∀ (p : Fin 8) (j : Fin 256) (l : Fin 128), k p (ix2 j l) = around xkp xk sb j ⟨p.val * 128 + l.val, by omega⟩)
    (hb : ∀ (p : Fin 8) (r j : Fin 256), b p (ix4 0 0 r j) = xb (ix4 (tableOf tb sb) p r j)) (r l : Fin 128) :
    stats (fun p => maxima (q p) (k p) (b p)) (fun p => sums (q p) (k p) (b p)) (ix2 r l)
      = statsBlock xq xkp xk xb tb (ix2 ⟨sb.val * 128 + r.val, by omega⟩ l) := by
  rw [stats_apply]
  show _ = statsAt xq xkp xk xb tb ⟨sb.val * 128 + r.val, by omega⟩ l
  unfold statsAt
  have hs := fun (p : Fin 8) (h : Fin 2) (H : Fin 16) (hH : H.val = p.val * 2 + h.val) => funext fun j =>
    scores_eq_block xq xkp xk xb tb sb p (q p) (k p) (b p) (hq p) (hk p) (hb p) r h j ⟨sb.val * 128 + r.val, by omega⟩ rfl H hH
  by_cases h : l.val < 16
  · rw [if_pos h, dif_pos h, maxima_apply]
    exact congrArg AttnRow.top (hs (Fin.ofNat 8 (l.val / 2)) ⟨l.val % 2, by omega⟩ ⟨l.val, h⟩ (by simp [Fin.ofNat]; omega))
  · rw [if_neg h, dif_neg h]
    by_cases h' : l.val < 32
    · rw [if_pos h', dif_pos h', sums_apply]
      exact congrArg AttnRow.den2 (hs (Fin.ofNat 8 ((l.val - 16) / 2)) ⟨(l.val - 16) % 2, by omega⟩ ⟨l.val - 16, by omega⟩ (by simp [Fin.ofNat]; omega))
    · rw [if_neg h', dif_neg h']

end Cert.KernelIdeal.Tile

end
-- ==== Proof.AttnStore.lean ====
/-
  The stores of one grid point of the attention kernel, read as pieces of the block of weighted sums and of the block of
  statistics.
-/
module

public import proofs.«01_k».proof.Proof.AttnBlock

@[expose] public section

set_option maxRecDepth 16384

noncomputable section

namespace Cert.KernelIdeal.Tile

open Cert.KernelIdeal Cert.KernelIdeal.Gen Idealize.ShloMosaic Idealize.ShloMosaic.TcCoe Idealize.SL.Sem

/-- The bias table of a tile at grid point `i`: table 0 for the first tile of a sequence, else table 1. -/
def tableAt (i : grid0.Coords) : Fin 2 := ⟨min (i 0).val 1, by omega⟩

/-- The word the kernel computes the table's number with. -/
theorem table_word : ∀ n : Fin 4, (Scalar.indexCast (Scalar.minsi (BitVec.ofNat 32 n.val) 1#32)).toNat = min n.val 1 := by decide

/-- The offsets of the bias tables at a sequence's first row block. -/
theorem off1 (i : grid0.Coords) : k0_off1 i = ![(tableAt i).val, 0, 0, 0] := congrArg (fun n => ![n, 0, 0, 0]) (table_word (i 0))
/-- The bias table that head pair 1 of the first block reads starts at the table the point picks. -/
theorem off2 (i : grid0.Coords) : k0_off2 i = ![(tableAt i).val, 1, 0, 0] := congrArg (fun n => ![n, 1, 0, 0]) (table_word (i 0))
/-- The bias table that head pair 2 of the first block reads starts at the table the point picks. -/
theorem off3 (i : grid0.Coords) : k0_off3 i = ![(tableAt i).val, 2, 0, 0] := congrArg (fun n => ![n, 2, 0, 0]) (table_word (i 0))
/-- The bias table that head pair 3 of the first block reads starts at the table the point picks. -/
theorem off4 (i : grid0.Coords) : k0_off4 i = ![(tableAt i).val, 3, 0, 0] := congrArg (fun n => ![n, 3, 0, 0]) (table_word (i 0))
/-- The bias table that head pair 4 of the first block reads starts at the table the point picks. -/
theorem off5 (i : grid0.Coords) : k0_off5 i = ![(tableAt i).val, 4, 0, 0] := congrArg (fun n => ![n, 4, 0, 0]) (table_word (i 0))
/-- The bias table that head pair 5 of the first block reads starts at the table the point picks. -/
theorem off6 (i : grid0.Coords) : k0_off6 i = ![(tableAt i).val, 5, 0, 0] := congrArg (fun n => ![n, 5, 0, 0]) (table_word (i 0))
/-- The bias table that head pair 6 of the first block reads starts at the table the point picks. -/
theorem off7 (i : grid0.Coords) : k0_off7 i = ![(tableAt i).val, 6, 0, 0] := congrArg (fun n => ![n, 6, 0, 0]) (table_word (i 0))
/-- The bias table that head pair 7 of the first block reads starts at the table the point picks. -/
theorem off8 (i : grid0.Coords) : k0_off8 i = ![(tableAt i).val, 7, 0, 0] := congrArg (fun n => ![n, 7, 0, 0]) (table_word (i 0))

variable {arg3 : Memref sig .tc .vmem S2048x1024 .bf16} (harg3 : arg3.IsWhole) {arg4 : Memref sig .tc .vmem S128x1024 .bf16} (harg4 : arg4.IsWhole)
  {arg5 : Memref sig .tc .vmem S2048x1024 .bf16} (harg5 : arg5.IsWhole) {arg6 : Memref sig .tc .vmem S128x1024 .bf16} (harg6 : arg6.IsWhole)
  {arg7 : Memref sig .tc .vmem S2048x1024 .bf16} (harg7 : arg7.IsWhole) {arg8 : Memref sig .tc .vmem S2x8x256x256 .f32} (harg8 : arg8.IsWhole)
  (x0 : Vec Ideal S2048x1024 .bf16) (x1 : Vec Ideal S128x1024 .bf16) (x2 : Vec Ideal S2048x1024 .bf16) (x3 : Vec Ideal S128x1024 .bf16)
  (x4 : Vec Ideal S2048x1024 .bf16) (x5 : Vec Ideal S2x8x256x256 .f32)

/-- The tile of 128 rows from `o` and 128 lanes from `cl` of a block. -/
def tile {M : Nat} {arg : Memref sig .tc .vmem ⟨2, ![M, 1024]⟩ .bf16} (harg : arg.IsWhole) (x : Vec Ideal ⟨2, ![M, 1024]⟩ .bf16) (n o cl : Nat)
    (inb : ∀ a, (![o, cl] : Fin 2 → Nat) a + (![n, 128] : Fin 2 → Nat) a ≤ (⟨2, ![M, 1024]⟩ : Shape).size a) : Vec Ideal ⟨2, ![n, 128]⟩ .bf16 :=
  View.readAt (Elt Ideal) arg.view (Rect.unit (s := ⟨2, ![M, 1024]⟩) ![o, cl] ![n, 128] inb).toLoadRect (harg.unread x)

/-- The bias table at offsets `off`. -/
def bias (off : Fin 4 → Nat) (inb : ∀ a, off a + (![1, 1, 256, 256] : Fin 4 → Nat) a ≤ S2x8x256x256.size a) : Vec Ideal S1x1x256x256 .f32 :=
  View.readAt (Elt Ideal) arg8.view (Rect.unit (s := S2x8x256x256) off ![1, 1, 256, 256] inb).toLoadRect (harg8.unread x5)

/-- A tile at an index. -/
theorem tile_apply {M n : Nat} {arg : Memref sig .tc .vmem ⟨2, ![M, 1024]⟩ .bf16} (harg : arg.IsWhole) (x : Vec Ideal ⟨2, ![M, 1024]⟩ .bf16) (o cl : Nat)
    (inb : ∀ a, (![o, cl] : Fin 2 → Nat) a + (![n, 128] : Fin 2 → Nat) a ≤ (⟨2, ![M, 1024]⟩ : Shape).size a) (r : Fin n) (l : Fin 128)
    (R : Fin M) (L : Fin 1024) (hR : R.val = o + r.val) (hL : L.val = cl + l.val) : tile harg x n o cl inb (ix2 r l) = x (ix2 R L) := by
  obtain ⟨R, hR'⟩ := R
  obtain ⟨L, hL'⟩ := L
  simp only [] at hR hL
  subst hR hL
  exact read_tile harg x o cl inb r l hR' hL'

/-- 256 rows loaded from a tile, as the kernel takes them. -/
def rows256 (x : Vec Ideal S256x128 .bf16) : FVec Ideal S256x128 .bf16 := shapeCast S256x128 x shapeCasts_S256x128_S256x128

/-- Two neighbouring blocks of a row tile, read together. -/
theorem rows256_later (x' : Vec Ideal S128x1024 .bf16) {arg : Memref sig .tc .vmem S2048x1024 .bf16} (harg : arg.IsWhole) (x : Vec Ideal S2048x1024 .bf16)
    (sb : Fin 16) (p : Fin 8) {ok : Nat} (hk : sb.val * 128 = ok + 128)
    (inb : ∀ a, (![ok, p.val * 128] : Fin 2 → Nat) a + (![256, 128] : Fin 2 → Nat) a ≤ S2048x1024.size a) (j : Fin 256) (l : Fin 128) :
    rows256 (tile harg x 256 ok (p.val * 128) inb) (ix2 j l) = around x' x sb j ⟨p.val * 128 + l.val, by omega⟩ := by
  have e : rows256 (tile harg x 256 ok (p.val * 128) inb) (ix2 j l) = tile harg x 256 ok (p.val * 128) inb (ix2 j l) := by
    pointwise [rows256]
  rw [e, around, dif_neg (by omega)]
  exact tile_apply harg x ok (p.val * 128) inb j l _ _ (by simp only []; omega) rfl

/-- The block before the tile joined to the first block of the tile. -/
theorem join_first {arg' : Memref sig .tc .vmem S128x1024 .bf16} (harg' : arg'.IsWhole) (x' : Vec Ideal S128x1024 .bf16)
    {arg : Memref sig .tc .vmem S2048x1024 .bf16} (harg : arg.IsWhole) (x : Vec Ideal S2048x1024 .bf16) (p : Fin 8)
    (inb' : ∀ a, (![0, p.val * 128] : Fin 2 → Nat) a + (![128, 128] : Fin 2 → Nat) a ≤ S128x1024.size a)
    (inb : ∀ a, (![0, p.val * 128] : Fin 2 → Nat) a + (![128, 128] : Fin 2 → Nat) a ≤ S2048x1024.size a) (j : Fin 256) (l : Fin 128) :
    k0_pay5 (tile harg' x' 128 0 (p.val * 128) inb') (tile harg x 128 0 (p.val * 128) inb) (ix2 j l) = around x' x 0 j ⟨p.val * 128 + l.val, by omega⟩ := by
  rw [join_apply, around]
  by_cases h : j.val < 128
  · rw [dif_pos h, dif_pos (by simpa using h)]
    exact tile_apply harg' x' 0 (p.val * 128) inb' ⟨j.val, h⟩ l _ _ (by simp) rfl
  · rw [dif_neg h, dif_neg (by simpa using h)]
    exact tile_apply harg x 0 (p.val * 128) inb ⟨j.val - 128, by omega⟩ l _ _ (by simp) rfl

/-- A tile of weighted sums stored for a row block after the first: its part of the block. -/
theorem piece_later (i : grid0.Coords) {o ok cl p : Nat} (ho : o = ok + 128) (hm : ok % 128 = 0) (hp : p < 8) (hc : cl = p * 128)
    (inb : ∀ a, (![o, cl] : Fin 2 → Nat) a + (![128, 128] : Fin 2 → Nat) a ≤ S2048x1024.size a)
    (inbk : ∀ a, (![ok, cl] : Fin 2 → Nat) a + (![256, 128] : Fin 2 → Nat) a ≤ S2048x1024.size a)
    (inbb : ∀ a, (![1, p, 0, 0] : Fin 4 → Nat) a + (![1, 1, 256, 256] : Fin 4 → Nat) a ≤ S2x8x256x256.size a)
    {w : S128x128.Idx → EReal} (hw : w = out (tile harg3 x0 128 o cl inb) (rows256 (tile harg5 x2 256 ok cl inbk)) (rows256 (tile harg7 x4 256 ok cl inbk))
      (bias harg8 x5 ![1, p, 0, 0] inbb)) (x : S128x128.Idx) :
    w x = sumsBlock x0 x1 x2 x3 x4 x5 (tableAt i) ((Rect.unit (s := S2048x1024) ![o, cl] ![128, 128] inb).emb x) := by
  subst hw hc
  have hi : o + 128 ≤ 2048 := inb 0
  obtain ⟨sb, hsb⟩ : ∃ sb : Fin 16, sb.val * 128 = o := ⟨⟨o / 128, by omega⟩, by simp only []; omega⟩
  subst hsb
  obtain ⟨r, l, rfl⟩ : ∃ (r l : Fin 128), x = ix2 r l := ⟨x 0, x 1, eq_ix2 x⟩
  refine (out_eq_block x0 x1 x2 x3 x4 x5 (tableAt i) sb ⟨p, hp⟩ _ _ _ _ (fun r l => tile_apply harg3 x0 _ _ inb r l _ _ rfl rfl)
    (rows256_later x1 harg5 x2 sb ⟨p, hp⟩ ho inbk) (rows256_later x3 harg7 x4 sb ⟨p, hp⟩ ho inbk)
    (read_bias harg8 x5 _ _ ⟨p, hp⟩ ?_ inbb) r l).trans ?_
  · rw [tableOf, if_neg (by omega)]
    rfl
  · refine congrArg (sumsBlock x0 x1 x2 x3 x4 x5 (tableAt i)) (funext fun a => ?_)
    revert a
    exact Fin.forall_fin_two.mpr ⟨Fin.ext (by simp), Fin.ext (by simp)⟩

/-- A tile of weighted sums stored for the first row block: its part of the block. -/
theorem piece_first (i : grid0.Coords) {cl p : Nat} (hp : p < 8) (hc : cl = p * 128) {off : Fin 4 → Nat} (hoff : off = ![(tableAt i).val, p, 0, 0])
    (inb : ∀ a, (![0, cl] : Fin 2 → Nat) a + (![128, 128] : Fin 2 → Nat) a ≤ S2048x1024.size a)
    (inbk : ∀ a, (![0, cl] : Fin 2 → Nat) a + (![128, 128] : Fin 2 → Nat) a ≤ S128x1024.size a)
    (inbb : ∀ a, off a + (![1, 1, 256, 256] : Fin 4 → Nat) a ≤ S2x8x256x256.size a)
    {w : S128x128.Idx → EReal} (hw : w = out (tile harg3 x0 128 0 cl inb) (k0_pay5 (tile harg4 x1 128 0 cl inbk) (tile harg5 x2 128 0 cl inb))
      (k0_pay5 (tile harg6 x3 128 0 cl inbk) (tile harg7 x4 128 0 cl inb)) (bias harg8 x5 off inbb)) (x : S128x128.Idx) :
    w x = sumsBlock x0 x1 x2 x3 x4 x5 (tableAt i) ((Rect.unit (s := S2048x1024) ![0, cl] ![128, 128] inb).emb x) := by
  subst hw hc
  obtain ⟨r, l, rfl⟩ : ∃ (r l : Fin 128), x = ix2 r l := ⟨x 0, x 1, eq_ix2 x⟩
  refine (out_eq_block x0 x1 x2 x3 x4 x5 (tableAt i) 0 ⟨p, hp⟩ _ _ _ _ (fun r l => tile_apply harg3 x0 _ _ inb r l _ _ (by simp) rfl)
    (join_first harg4 x1 harg5 x2 ⟨p, hp⟩ inbk inb) (join_first harg6 x3 harg7 x4 ⟨p, hp⟩ inbk inb)
    (read_bias harg8 x5 _ _ ⟨p, hp⟩ hoff inbb) r l).trans ?_
  refine congrArg (sumsBlock x0 x1 x2 x3 x4 x5 (tableAt i)) (funext fun a => ?_)
  revert a
  exact Fin.forall_fin_two.mpr ⟨Fin.ext (by simp), Fin.ext (by simp)⟩

/-- The bias tables of a tile after a sequence's first row block. -/
theorem table_one (inbb : ∀ (p : Fin 8) (a : Fin 4), (![1, p.val, 0, 0] : Fin 4 → Nat) a + (![1, 1, 256, 256] : Fin 4 → Nat) a ≤ S2x8x256x256.size a)
    (tb : Fin 2) (sb : Fin 16) (h : sb.val ≠ 0) (p : Fin 8) (r j : Fin 256) :
    bias harg8 x5 ![1, p.val, 0, 0] (inbb p) (ix4 0 0 r j) = x5 (ix4 (tableOf tb sb) p r j) :=
  read_bias harg8 x5 _ _ p (by rw [tableOf, if_neg h]; rfl) (inbb p) r j

/-- The tile of statistics stored for a row block after the first: its part of the block. -/
theorem stats_later (i : grid0.Coords) {o ok : Nat} (ho : o = ok + 128) (hm : ok % 128 = 0)
    (inbo : ∀ a, (![o, 0] : Fin 2 → Nat) a + (![128, 128] : Fin 2 → Nat) a ≤ S2048x128.size a)
    (inb : ∀ (p : Fin 8) (a : Fin 2), (![o, p.val * 128] : Fin 2 → Nat) a + (![128, 128] : Fin 2 → Nat) a ≤ S2048x1024.size a)
    (inbk : ∀ (p : Fin 8) (a : Fin 2), (![ok, p.val * 128] : Fin 2 → Nat) a + (![256, 128] : Fin 2 → Nat) a ≤ S2048x1024.size a)
    (inbb : ∀ (p : Fin 8) (a : Fin 4), (![1, p.val, 0, 0] : Fin 4 → Nat) a + (![1, 1, 256, 256] : Fin 4 → Nat) a ≤ S2x8x256x256.size a)
    {w : S128x128.Idx → EReal}
    (hw : w = stats
      (fun p => maxima (tile harg3 x0 128 o (p.val * 128) (inb p)) (rows256 (tile harg5 x2 256 ok (p.val * 128) (inbk p))) (bias harg8 x5 ![1, p.val, 0, 0] (inbb p)))
      (fun p => sums (tile harg3 x0 128 o (p.val * 128) (inb p)) (rows256 (tile harg5 x2 256 ok (p.val * 128) (inbk p))) (bias harg8 x5 ![1, p.val, 0, 0] (inbb p))))
    (x : S128x128.Idx) :
    w x = statsBlock x0 x1 x2 x5 (tableAt i) ((Rect.unit (s := S2048x128) ![o, 0] ![128, 128] inbo).emb x) := by
  subst hw
  have hi : o + 128 ≤ 2048 := inbo 0
  obtain ⟨sb, hsb⟩ : ∃ sb : Fin 16, sb.val * 128 = o := ⟨⟨o / 128, by omega⟩, by simp only []; omega⟩
  subst hsb
  obtain ⟨r, l, rfl⟩ : ∃ (r l : Fin 128), x = ix2 r l := ⟨x 0, x 1, eq_ix2 x⟩
  refine (stats_eq_block x0 x1 x2 x5 (tableAt i) sb _ _ _ (fun p r l => tile_apply harg3 x0 _ _ (inb p) r l _ _ rfl rfl)
    (fun p => rows256_later x1 harg5 x2 sb p ho (inbk p)) (table_one harg8 x5 inbb _ sb (by omega)) r l).trans ?_
  refine congrArg (statsBlock x0 x1 x2 x5 (tableAt i)) (funext fun a => ?_)
  revert a
  exact Fin.forall_fin_two.mpr ⟨Fin.ext (by simp), Fin.ext (by simp)⟩

/-- The tile of statistics stored for the first row block: its part of the block. -/
theorem stats_first (i : grid0.Coords) {b : Fin 8 → Vec Ideal S1x1x256x256 .f32}
    (hb : ∀ (p : Fin 8) (r j : Fin 256), b p (ix4 0 0 r j) = x5 (ix4 (tableAt i) p r j))
    (inbo : ∀ a, (![0, 0] : Fin 2 → Nat) a + (![128, 128] : Fin 2 → Nat) a ≤ S2048x128.size a)
    (inb : ∀ (p : Fin 8) (a : Fin 2), (![0, p.val * 128] : Fin 2 → Nat) a + (![128, 128] : Fin 2 → Nat) a ≤ S2048x1024.size a)
    (inbk : ∀ (p : Fin 8) (a : Fin 2), (![0, p.val * 128] : Fin 2 → Nat) a + (![128, 128] : Fin 2 → Nat) a ≤ S128x1024.size a)
    {w : S128x128.Idx → EReal}
    (hw : w = stats
      (fun p => maxima (tile harg3 x0 128 0 (p.val * 128) (inb p))
        (k0_pay5 (tile harg4 x1 128 0 (p.val * 128) (inbk p)) (tile harg5 x2 128 0 (p.val * 128) (inb p))) (b p))
      (fun p => sums (tile harg3 x0 128 0 (p.val * 128) (inb p))
        (k0_pay5 (tile harg4 x1 128 0 (p.val * 128) (inbk p)) (tile harg5 x2 128 0 (p.val * 128) (inb p))) (b p)))
    (x : S128x128.Idx) :
    w x = statsBlock x0 x1 x2 x5 (tableAt i) ((Rect.unit (s := S2048x128) ![0, 0] ![128, 128] inbo).emb x) := by
  subst hw
  obtain ⟨r, l, rfl⟩ : ∃ (r l : Fin 128), x = ix2 r l := ⟨x 0, x 1, eq_ix2 x⟩
  refine (stats_eq_block x0 x1 x2 x5 (tableAt i) 0 _ _ _ (fun p r l => tile_apply harg3 x0 _ _ (inb p) r l _ _ (by simp) rfl)
    (fun p => join_first harg4 x1 harg5 x2 p (inbk p) (inb p)) hb r l).trans ?_
  refine congrArg (statsBlock x0 x1 x2 x5 (tableAt i)) (funext fun a => ?_)
  revert a
  exact Fin.forall_fin_two.mpr ⟨Fin.ext (by simp), Fin.ext (by simp)⟩

/-- Tiles of 128 lanes lie in a block of 1024. -/
theorem inb_tile {M n o : Nat} (h : o + n ≤ M) (p : Fin 8) (a : Fin 2) :
    (![o, p.val * 128] : Fin 2 → Nat) a + (![n, 128] : Fin 2 → Nat) a ≤ (⟨2, ![M, 1024]⟩ : Shape).size a := by
  revert a
  exact Fin.forall_fin_two.mpr ⟨by simpa using h, by simp; omega⟩

/-- One table of the bias lies in the tables. -/
theorem inb_bias {t : Nat} (h : t < 2) (p : Fin 8) (a : Fin 4) :
    (![t, p.val, 0, 0] : Fin 4 → Nat) a + (![1, 1, 256, 256] : Fin 4 → Nat) a ≤ S2x8x256x256.size a := by
  fin_cases a <;> simp [S2x8x256x256] <;> omega

variable (c : Dev nD) (i : grid0.Coords) {arg9 : Memref sig .tc .vmem S2048x1024 .bf16} (harg9 : arg9.IsWhole)
  {arg10 : Memref sig .tc .vmem S2048x128 .f32} (harg10 : arg10.IsWhole)

set_option maxHeartbeats 4000000 in
/-- Every store of weighted sums is its part of the block. -/
theorem pieces_sums : View.PiecesOf (Val := Elt Ideal) (e := .bf16) (sumsBlock x0 x1 x2 x3 x4 x5 (tableAt i))
    (kernelRun0_A c i arg3 harg3 arg4 harg4 arg5 harg5 arg6 harg6 arg7 harg7 arg8 harg8 arg9 harg9 arg10 harg10 x0 x1 x2 x3 x4 x5).1 := by
  unfold kernelRun0_A
  dsimp only
  iterate 120 refine ⟨piece_later harg3 harg5 harg7 harg8 x0 x1 x2 x3 x4 x5 i (by decide) (by decide) (by decide) (by decide) _ _ _ rfl, ?_⟩
  refine ⟨piece_first harg3 harg4 harg5 harg6 harg7 harg8 x0 x1 x2 x3 x4 x5 i (p := 7) (by decide) (by decide) (off8 i) _ _ _ rfl, ?_⟩
  refine ⟨piece_first harg3 harg4 harg5 harg6 harg7 harg8 x0 x1 x2 x3 x4 x5 i (p := 6) (by decide) (by decide) (off7 i) _ _ _ rfl, ?_⟩
  refine ⟨piece_first harg3 harg4 harg5 harg6 harg7 harg8 x0 x1 x2 x3 x4 x5 i (p := 5) (by decide) (by decide) (off6 i) _ _ _ rfl, ?_⟩
  refine ⟨piece_first harg3 harg4 harg5 harg6 harg7 harg8 x0 x1 x2 x3 x4 x5 i (p := 4) (by decide) (by decide) (off5 i) _ _ _ rfl, ?_⟩
  refine ⟨piece_first harg3 harg4 harg5 harg6 harg7 harg8 x0 x1 x2 x3 x4 x5 i (p := 3) (by decide) (by decide) (off4 i) _ _ _ rfl, ?_⟩
  refine ⟨piece_first harg3 harg4 harg5 harg6 harg7 harg8 x0 x1 x2 x3 x4 x5 i (p := 2) (by decide) (by decide) (off3 i) _ _ _ rfl, ?_⟩
  refine ⟨piece_first harg3 harg4 harg5 harg6 harg7 harg8 x0 x1 x2 x3 x4 x5 i (p := 1) (by decide) (by decide) (off2 i) _ _ _ rfl, ?_⟩
  exact ⟨piece_first harg3 harg4 harg5 harg6 harg7 harg8 x0 x1 x2 x3 x4 x5 i (p := 0) (by decide) (by decide) (off1 i) _ _ _ rfl, trivial⟩

end Cert.KernelIdeal.Tile

end
-- ==== Proof.AttnStats.lean ====
/-
  The stores of statistics of one grid point of the attention kernel are pieces of the block of statistics.
-/
module

public import proofs.«01_k».proof.Proof.AttnStore

@[expose] public section

set_option maxRecDepth 16384

noncomputable section

namespace Cert.KernelIdeal.Tile

open Cert.KernelIdeal Cert.KernelIdeal.Gen Idealize.ShloMosaic Idealize.ShloMosaic.TcCoe Idealize.SL.Sem

variable {arg3 : Memref sig .tc .vmem S2048x1024 .bf16} (harg3 : arg3.IsWhole) {arg4 : Memref sig .tc .vmem S128x1024 .bf16} (harg4 : arg4.IsWhole)
  {arg5 : Memref sig .tc .vmem S2048x1024 .bf16} (harg5 : arg5.IsWhole) {arg6 : Memref sig .tc .vmem S128x1024 .bf16} (harg6 : arg6.IsWhole)
  {arg7 : Memref sig .tc .vmem S2048x1024 .bf16} (harg7 : arg7.IsWhole) {arg8 : Memref sig .tc .vmem S2x8x256x256 .f32} (harg8 : arg8.IsWhole)
  (x0 : Vec Ideal S2048x1024 .bf16) (x1 : Vec Ideal S128x1024 .bf16) (x2 : Vec Ideal S2048x1024 .bf16) (x3 : Vec Ideal S128x1024 .bf16)
  (x4 : Vec Ideal S2048x1024 .bf16) (x5 : Vec Ideal S2x8x256x256 .f32)
  (c : Dev nD) (i : grid0.Coords) {arg9 : Memref sig .tc .vmem S2048x1024 .bf16} (harg9 : arg9.IsWhole)
  {arg10 : Memref sig .tc .vmem S2048x128 .f32} (harg10 : arg10.IsWhole)

/-- The offsets of bias table `p` at a sequence's first row block, as the kernel computes them. -/
def firstOff (i : grid0.Coords) (p : Fin 8) : Fin 4 → Nat :=
  match p with
  | 0 => k0_off1 i | 1 => k0_off2 i | 2 => k0_off3 i | 3 => k0_off4 i | 4 => k0_off5 i | 5 => k0_off6 i | 6 => k0_off7 i | 7 => k0_off8 i

/-- Those offsets are the table's number and the pair's. -/
theorem firstOff_eq (p : Fin 8) : firstOff i p = ![(tableAt i).val, p.val, 0, 0] :=
  match p with
  | 0 => off1 i | 1 => off2 i | 2 => off3 i | 3 => off4 i | 4 => off5 i | 5 => off6 i | 6 => off7 i | 7 => off8 i

/-- The bias table there lies in the tables. -/
theorem inb_first (p : Fin 8) (a : Fin 4) : firstOff i p a + (![1, 1, 256, 256] : Fin 4 → Nat) a ≤ S2x8x256x256.size a := by
  rw [firstOff_eq]
  exact inb_bias (tableAt i).isLt p a

/-- The bias tables of a sequence's first row block, read at an index. -/
theorem first_apply (p : Fin 8) (r j : Fin 256) :
    bias harg8 x5 (firstOff i p) (inb_first i p) (ix4 0 0 r j) = x5 (ix4 (tableAt i) p r j) :=
  read_bias harg8 x5 _ _ p (firstOff_eq i p) (inb_first i p) r j

/-- A tile of 128 rows of statistics lies in the block of them. -/
theorem inb_stats {o : Nat} (h : o + 128 ≤ 2048) (a : Fin 2) : (![o, 0] : Fin 2 → Nat) a + (![128, 128] : Fin 2 → Nat) a ≤ S2048x128.size a := by
  revert a
  exact Fin.forall_fin_two.mpr ⟨h, le_refl 128⟩

/-- `stats_later` at the row block from `o`. -/
theorem stats_step {o : Nat} (ho : 128 ≤ o) (hm : o % 128 = 0)
    (inbo : ∀ a, (![o, 0] : Fin 2 → Nat) a + (![128, 128] : Fin 2 → Nat) a ≤ S2048x128.size a)
    (inb : ∀ (p : Fin 8) (a : Fin 2), (![o, p.val * 128] : Fin 2 → Nat) a + (![128, 128] : Fin 2 → Nat) a ≤ S2048x1024.size a)
    (inbk : ∀ (p : Fin 8) (a : Fin 2), (![o - 128, p.val * 128] : Fin 2 → Nat) a + (![256, 128] : Fin 2 → Nat) a ≤ S2048x1024.size a)
    (inbb : ∀ (p : Fin 8) (a : Fin 4), (![1, p.val, 0, 0] : Fin 4 → Nat) a + (![1, 1, 256, 256] : Fin 4 → Nat) a ≤ S2x8x256x256.size a)
    {w : S128x128.Idx → EReal}
    (hw : w = stats
      (fun p => maxima (tile harg3 x0 128 o (p.val * 128) (inb p)) (rows256 (tile harg5 x2 256 (o - 128) (p.val * 128) (inbk p))) (bias harg8 x5 ![1, p.val, 0, 0] (inbb p)))
      (fun p => sums (tile harg3 x0 128 o (p.val * 128) (inb p)) (rows256 (tile harg5 x2 256 (o - 128) (p.val * 128) (inbk p))) (bias harg8 x5 ![1, p.val, 0, 0] (inbb p))))
    (x : S128x128.Idx) :
    w x = statsBlock x0 x1 x2 x5 (tableAt i) ((Rect.unit (s := S2048x128) ![o, 0] ![128, 128] inbo).emb x) :=
  stats_later harg3 harg5 harg8 x0 x1 x2 x5 i (by omega) (by omega) inbo inb inbk inbb hw x

/-- Where lane `a` is. -/
def lane (a : BitVec 32) : IVec S128x128 1 := cmpi .eq (iota .tc S128x128 32 [1] iota_S128x128_d1_w32) (broadcast S128x128 a)

/-- Rows `o` on of a column, spread over all lanes. -/
def spread (o : Nat) (h : S256x1.Slices ![o, 0] S128x1) (x : FVec Ideal S256x1 .f32) : FVec Ideal S128x128 .f32 :=
  broadcastTo S128x128 (shapeCast S128x1 (extractStridedSlice S128x1 ![o, 0] x h) shapeCasts_S128x1_S128x1) broadcasts_S128x1_S128x128

/-- Two more lanes written from pair `p`'s column continue the chain. -/
theorem chain_congr {o p : Nat} {x : Fin 8 → FVec Ideal S256x1 .f32} {t T X X' : FVec Ideal S128x128 .f32} {a a' : IVec S128x128 1}
    (ha : a = lane (BitVec.ofNat 32 (o + 2 * p))) (ha' : a' = lane (BitVec.ofNat 32 (o + (2 * p + 1))))
    (hX : X = spread 0 slices_S256x1_o0_0_S128x1 (x (Fin.ofNat 8 p))) (hX' : X' = spread 128 slices_S256x1_o128_0_S128x1 (x (Fin.ofNat 8 p)))
    (hT : T = chain o x t p) : select a' X' (select a X T) = chain o x t (p + 1) := by
  subst ha ha' hX hX' hT
  rfl

/-- The two chains chosen by lane are the tile of statistics. -/
theorem stats_congr {m d : Fin 8 → FVec Ideal S256x1 .f32} {A B : FVec Ideal S128x128 .f32} (hA : A = chain 0 m k0_pay3 8) (hB : B = chain 16 d k0_pay4 8) :
    select (cmpi .slt (iota .tc S128x128 32 [1] iota_S128x128_d1_w32) (broadcast S128x128 16#32)) A B = stats m d := by
  subst hA hB
  rfl

set_option maxHeartbeats 4000000 in
/-- Every store of statistics is its part of the block. -/
theorem pieces_stats : View.PiecesOf (Val := Elt Ideal) (e := .f32) (statsBlock x0 x1 x2 x5 (tableAt i))
    (kernelRun0_A c i arg3 harg3 arg4 harg4 arg5 harg5 arg6 harg6 arg7 harg7 arg8 harg8 arg9 harg9 arg10 harg10 x0 x1 x2 x3 x4 x5).2.1 := by
  unfold kernelRun0_A
  dsimp only
  iterate 15
    refine ⟨?_, ?_⟩
    · refine stats_step harg3 harg5 harg8 x0 x1 x2 x5 i (by decide) (by decide) (inb_stats (by decide)) (inb_tile (by decide)) (inb_tile (by decide)) (inb_bias (by decide)) ?_
      refine stats_congr ?_ ?_
      · iterate 8
          refine chain_congr ?_ ?_ ?_ ?_ ?_
          · rfl
          · rfl
          · rfl
          · rfl
        rfl
      · iterate 8
          refine chain_congr ?_ ?_ ?_ ?_ ?_
          · rfl
          · rfl
          · rfl
          · rfl
        rfl
  refine ⟨?_, trivial⟩
  refine stats_first harg3 harg4 harg5 x0 x1 x2 x5 i (first_apply harg8 x5 i) (inb_stats (by decide)) (inb_tile (by decide)) (inb_tile (by decide)) ?_
  refine stats_congr ?_ ?_
  · iterate 8
      refine chain_congr ?_ ?_ ?_ ?_ ?_
      · rfl
      · rfl
      · rfl
      · rfl
    rfl
  · iterate 8
      refine chain_congr ?_ ?_ ?_ ?_ ?_
      · rfl
      · rfl
      · rfl
      · rfl
    rfl

/-- What a grid point leaves in the block of weighted sums. -/
theorem out_sums (arg9 : Memref sig .tc .vmem S2048x1024 .bf16) (harg9 : arg9.IsWhole) (arg10 : Memref sig .tc .vmem S2048x128 .f32) (harg10 : arg10.IsWhole)
    (y : S2048x1024.Idx) :
    out0_A_6 c i arg3 harg3 arg4 harg4 arg5 harg5 arg6 harg6 arg7 harg7 arg8 harg8 arg9 harg9 arg10 harg10 x0 x1 x2 x3 x4 x5 y
      = sumsBlock x0 x1 x2 x3 x4 x5 (tableAt i) y := by
  unfold out0_A_6
  rw [View.read_writes_junk_eq_canon]
  exact View.canon_apply_of_pieces _ _ (pieces_sums harg3 harg4 harg5 harg6 harg7 harg8 x0 x1 x2 x3 x4 x5 c i harg9 harg10).mem y
    (cover0_A_6 c i arg3 harg3 arg4 harg4 arg5 harg5 arg6 harg6 arg7 harg7 arg8 harg8 arg9 harg9 arg10 harg10 x0 x1 x2 x3 x4 x5 y)

/-- What a grid point leaves in the block of statistics. -/
theorem out_stats (arg9 : Memref sig .tc .vmem S2048x1024 .bf16) (harg9 : arg9.IsWhole) (arg10 : Memref sig .tc .vmem S2048x128 .f32) (harg10 : arg10.IsWhole)
    (y : S2048x128.Idx) :
    out0_A_7 c i arg3 harg3 arg4 harg4 arg5 harg5 arg6 harg6 arg7 harg7 arg8 harg8 arg9 harg9 arg10 harg10 x0 x1 x2 x3 x4 x5 y
      = statsBlock x0 x1 x2 x5 (tableAt i) y := by
  unfold out0_A_7
  rw [View.read_writes_junk_eq_canon]
  exact View.canon_apply_of_pieces _ _ (pieces_stats harg3 harg4 harg5 harg6 harg7 harg8 x0 x1 x2 x3 x4 x5 c i harg9 harg10).mem y
    (cover0_A_7 c i arg3 harg3 arg4 harg4 arg5 harg5 arg6 harg6 arg7 harg7 arg8 harg8 arg9 harg9 arg10 harg10 x0 x1 x2 x3 x4 x5 y)

end Cert.KernelIdeal.Tile

end
-- ==== Proof.AttnLoad.lean ====
/-
  What a grid point of the attention kernel loads, read off the arrays it is launched on, and its scores in the reference's
  terms.
-/
module

public import proofs.«01_k».proof.Proof.AttnHost
public import proofs.«01_k».proof.Proof.AttnStats

@[expose] public section

set_option maxRecDepth 16384

noncomputable section

namespace Cert.KernelIdeal.Arrays

open Cert.KernelIdeal Cert.KernelIdeal.Gen Idealize.ShloMosaic Idealize.ShloMosaic.TcCoe Idealize.SL.Sem Cert.AttnSpec Cert.KernelIdeal.Tile

section Point

variable (q k v : FVec Ideal S4x8192x1024 .f32) (a : FVec Ideal S16 .f32) (g : Fin 16)
  {xq : Vec Ideal S2048x1024 .bf16} {xp : Vec Ideal S128x1024 .bf16} {x : Vec Ideal S2048x1024 .bf16} {xb : Vec Ideal S2x8x256x256 .f32}

/-- The rows around a block of a tile are the rows of the sequence's block and the one before it, where there is one. -/
theorem around_eq (hp : ∀ (r : Fin 128) (l : Fin 1024), xp (ix2 r l) = flat k (ix2 ⟨(g.val * 16 - 1) * 128 + r.val, by omega⟩ l))
    (hx : ∀ (r : Fin 2048) (l : Fin 1024), x (ix2 r l) = flat k (ix2 ⟨g.val * 2048 + r.val, by omega⟩ l))
    (sb : Fin 16) (j : Fin 256) (l : Fin 1024) (h : ¬(g.val % 4 * 16 + sb.val = 0 ∧ j.val < 128)) :
    around xp x sb j l = keyAt k ⟨g.val / 4, by omega⟩ ⟨g.val % 4 * 16 + sb.val, by omega⟩ j l := by
  have h' : ¬((g.val % 4 * 16 + sb.val) * 128 + j.val < 128) := by omega
  refine Eq.trans ?_ (dif_neg h').symm
  unfold around
  by_cases h0 : sb.val * 128 + j.val < 128
  · rw [dif_pos h0, hp, flat_apply]
    exact congrArg k (congrArg₂ (fun b n => ix3 b n l) (Fin.ext (by simp; omega)) (Fin.ext (by simp; omega)))
  · rw [dif_neg h0, hx, flat_apply]
    exact congrArg k (congrArg₂ (fun b n => ix3 b n l) (Fin.ext (by simp; omega)) (Fin.ext (by simp; omega)))

/-- The kernel's scores are the reference's in units of the logarithm of two. -/
theorem rowScore_eq (hq : ∀ (r : Fin 2048) (l : Fin 1024), xq (ix2 r l) = scaled q (ix2 ⟨g.val * 2048 + r.val, by omega⟩ l))
    (hp : ∀ (r : Fin 128) (l : Fin 1024), xp (ix2 r l) = flat k (ix2 ⟨(g.val * 16 - 1) * 128 + r.val, by omega⟩ l))
    (hx : ∀ (r : Fin 2048) (l : Fin 1024), x (ix2 r l) = flat k (ix2 ⟨g.val * 2048 + r.val, by omega⟩ l))
    (hb : ∀ (tb : Fin 2) (p : Fin 8) (R j : Fin 256), xb (ix4 tb p R j) = tables a (ix4 tb p R j))
    (tb : Fin 2) (ht : tb.val = min (g.val % 4) 1) (R : Fin 2048) (h : Fin 16) (j : Fin 256) :
    rowScore xq xp x xb tb R h j = AttnRow.perLog2 * row q k a ⟨g.val / 4, by omega⟩ ⟨g.val % 4 * 16 + R.val / 128, by omega⟩ ⟨R.val % 128, by omega⟩ h j := by
  have hu : (⟨(h.val % 2 * 128 + R.val % 128) % 128, by omega⟩ : Fin 128) = ⟨R.val % 128, by omega⟩ := Fin.ext (by simp)
  have hh : (⟨h.val / 2 * 2 + (h.val % 2 * 128 + R.val % 128) / 128, by omega⟩ : Fin 16) = h := Fin.ext (by simp; omega)
  have htb : (tableOf tb (sub R)).val = 0 ↔ g.val % 4 * 16 + R.val / 128 = 0 := by
    unfold tableOf sub
    by_cases h0 : R.val / 128 = 0
    · rw [if_pos h0, ht]; omega
    · rw [if_neg h0]; simp; omega
  unfold rowScore row
  rw [hb, tables_apply]
  simp only [hu, hh]
  by_cases hv : Valid ⟨g.val % 4 * 16 + R.val / 128, by omega⟩ ⟨R.val % 128, by omega⟩ j
  · rw [if_pos hv, if_pos ⟨hv.1, fun h' => hv.2 ⟨htb.1 h'.1, h'.2⟩⟩, ← AttnRow.score_scale]
    refine congrArg (· + _) (Finset.sum_congr rfl fun e _ => ?_)
    rw [around_eq k g hp hx (sub R) j _ hv.2, hq, scaled_apply]
    refine congrArg₂ (· * ·) (congrArg (· * _) (congrArg q (congrArg₂ (fun b n => ix3 b n _) (Fin.ext ?_) (Fin.ext ?_)))) rfl
    · simp; omega
    · simp; omega
  · rw [if_neg hv, if_neg fun h' => hv ⟨h'.1, fun h'' => h'.2 ⟨htb.2 h''.1, h''.2⟩⟩, AttnRow.perLog2_mul_bot, EReal.add_bot]

/-- A key that is not before the sequence, or whose score is minus infinity. -/
theorem row_bot (b : Fin 4) (n : Fin 64) (u : Fin 128) (h : Fin 16) (j : Fin 256) (hn : n.val = 0 ∧ j.val < 128) : row q k a b n u h j = ⊥ :=
  if_neg fun hv => hv.2 hn

end Point

variable (m : (ℓ : Loc nD τ sig) → Buf (Elt Ideal) ℓ)

/-- Which row block of the arrays grid point `t` works on. -/
def tileOf (t : Fin cfg0.N) : Fin 16 := ⟨t.val % 4 * 4 + t.val / 4, by have : t.val < 16 := t.isLt; omega⟩

/-- Where each window's block sits in its array at point `t`. -/
theorem index_facts : ∀ t : Fin cfg0.N, win0_0.index t = ![(tileOf t).val, 0] ∧ win0_1.index t = ![(tileOf t).val * 16 - 1, 0]
    ∧ win0_2.index t = ![(tileOf t).val, 0] ∧ win0_3.index t = ![(tileOf t).val * 16 - 1, 0] ∧ win0_4.index t = ![(tileOf t).val, 0]
    ∧ win0_5.index t = ![0, 0, 0, 0] ∧ win0_6.index t = ![(tileOf t).val, 0] ∧ win0_7.index t = ![(tileOf t).val, 0]
    ∧ (tableAt (grid0.coords t)).val = min ((tileOf t).val % 4) 1 := by decide +kernel

/-- The queries a point loads are those of its row tile. -/
theorem blk_q (c : Dev nD) (t : Fin cfg0.N) (r : Fin 2048) (l : Fin 1024) :
    iblk m c 0 t (ix2 r l) = scaled (m ((c.tc : Thread nD τ).loc main_arg0)) (ix2 ⟨(tileOf t).val * 2048 + r.val, by omega⟩ l) := by
  rw [← V_q]
  have i := (index_facts t).1
  blk_ext! [iblk, i]

/-- The block of keys before the row tile; at the first tile it is the first block itself. -/
theorem blk_kp (c : Dev nD) (t : Fin cfg0.N) (r : Fin 128) (l : Fin 1024) :
    iblk m c 1 t (ix2 r l) = flat (m ((c.tc : Thread nD τ).loc main_arg1)) (ix2 ⟨((tileOf t).val * 16 - 1) * 128 + r.val, by omega⟩ l) := by
  rw [← V_k]
  have i := (index_facts t).2.1
  blk_ext! [iblk, i]

/-- The keys a point loads are those of its row tile. -/
theorem blk_k (c : Dev nD) (t : Fin cfg0.N) (r : Fin 2048) (l : Fin 1024) :
    iblk m c 2 t (ix2 r l) = flat (m ((c.tc : Thread nD τ).loc main_arg1)) (ix2 ⟨(tileOf t).val * 2048 + r.val, by omega⟩ l) := by
  rw [← V_k]
  have i := (index_facts t).2.2.1
  blk_ext! [iblk, i]

/-- The block of values before the row tile; at the first tile it is the first block itself. -/
theorem blk_vp (c : Dev nD) (t : Fin cfg0.N) (r : Fin 128) (l : Fin 1024) :
    iblk m c 3 t (ix2 r l) = flat (m ((c.tc : Thread nD τ).loc main_arg2)) (ix2 ⟨((tileOf t).val * 16 - 1) * 128 + r.val, by omega⟩ l) := by
  rw [← V_v]
  have i := (index_facts t).2.2.2.1
  blk_ext! [iblk, i]

/-- The values a point loads are those of its row tile. -/
theorem blk_v (c : Dev nD) (t : Fin cfg0.N) (r : Fin 2048) (l : Fin 1024) :
    iblk m c 4 t (ix2 r l) = flat (m ((c.tc : Thread nD τ).loc main_arg2)) (ix2 ⟨(tileOf t).val * 2048 + r.val, by omega⟩ l) := by
  rw [← V_v]
  have i := (index_facts t).2.2.2.2.1
  blk_ext! [iblk, i]

/-- A point loads both bias tables whole. -/
theorem blk_b (c : Dev nD) (t : Fin cfg0.N) (tb : Fin 2) (p : Fin 8) (R j : Fin 256) :
    iblk m c 5 t (ix4 tb p R j) = tables (m ((c.tc : Thread nD τ).loc main_arg3)) (ix4 tb p R j) := by
  rw [← V_b]
  have i := (index_facts t).2.2.2.2.2.1
  blk_ext! [iblk, i]

end Cert.KernelIdeal.Arrays

end
-- ==== Proof.AttnValue.lean ====
/-
  The attention call: the kernel's two result arrays and the reference's are the same arrays, and the claim that says so.
-/
module

public import proofs.«01_k».proof.Defs
public import proofs.«01_k».proof.Proof.AttnLoad
public import Idealize.ShloMosaic.Lib.Claim

@[expose] public section

set_option maxRecDepth 16384

noncomputable section

namespace Cert.KernelIdeal.Arrays

open Cert.KernelIdeal Cert.KernelIdeal.Gen Idealize.ShloMosaic Idealize.ShloMosaic.TcCoe Idealize.SL.Sem Cert.AttnSpec Cert.KernelIdeal.Tile

variable (m : (ℓ : Loc nD τ sig) → Buf (Elt Ideal) ℓ)

/-- A point's scores are the reference's in units of the logarithm of two. -/
theorem scores_eq (c : Dev nD) (t : Fin cfg0.N) (R : Fin 2048) (h : Fin 16) (j : Fin 256) :
    rowScore (iblk m c 0 t) (iblk m c 1 t) (iblk m c 2 t) (iblk m c 5 t) (tableAt (grid0.coords t)) R h j
      = AttnRow.perLog2 * row (m ((c.tc : Thread nD τ).loc main_arg0)) (m ((c.tc : Thread nD τ).loc main_arg1)) (m ((c.tc : Thread nD τ).loc main_arg3))
        ⟨(tileOf t).val / 4, by omega⟩ ⟨(tileOf t).val % 4 * 16 + R.val / 128, by omega⟩ ⟨R.val % 128, by omega⟩ h j :=
  rowScore_eq _ _ _ _ (blk_q m c t) (blk_kp m c t) (blk_k m c t) (blk_b m c t) _ (index_facts t).2.2.2.2.2.2.2.2 R h j

/-- The weighted sums after the run are the reference's. -/
theorem final_sums (c : Dev nD) : (dats m 0 c).arrAt 6 cfg0.N
    = Cert.ReferenceIdeal.Value.sums (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 6 _ (by decide +kernel) fun t hf y => ?_
  idx_vars y
  blk_simp
  rw [after0_6]
  have i6 := (index_facts t).2.2.2.2.2.2.1
  have he : (win0_6.blk t).view.emb (ix2 y0 y1) = ix2 ⟨(tileOf t).val * 2048 + y0.val, by omega⟩ y1 :=
    funext (Fin.forall_fin_two.mpr ⟨Fin.ext (by blk_simp [i6]), Fin.ext (by blk_simp [i6])⟩)
  have eb : (⟨((tileOf t).val * 2048 + y0.val) / 8192, by omega⟩ : Fin 4) = ⟨(tileOf t).val / 4, by omega⟩ := Fin.ext (by simp; omega)
  have en : (⟨((tileOf t).val * 2048 + y0.val) / 128 % 64, by omega⟩ : Fin 64) = ⟨(tileOf t).val % 4 * 16 + y0.val / 128, by omega⟩ := Fin.ext (by simp; omega)
  have eu : (⟨((tileOf t).val * 2048 + y0.val) % 128, by omega⟩ : Fin 128) = ⟨y0.val % 128, by omega⟩ := Fin.ext (by simp; omega)
  rw [he, Cert.ReferenceIdeal.Value.sums_apply]
  simp only [eb, en, eu]
  unfold outsAt0
  dsimp only
  rw [out_sums]
  refine AttnRow.num_scale (fun j => scores_eq m c t y0 _ j) fun j => ?_
  by_cases hn : (tileOf t).val % 4 * 16 + y0.val / 128 = 0 ∧ j.val < 128
  · exact Or.inl (row_bot _ _ _ _ _ _ _ j hn)
  · exact Or.inr (around_eq _ _ (blk_vp m c t) (blk_v m c t) (sub y0) j y1 hn)

/-- The statistics after the run are the reference's. -/
theorem final_stats (c : Dev nD) : (dats m 0 c).arrAt 7 cfg0.N
    = Cert.ReferenceIdeal.Value.stats (m ((c.tc : Thread nD τ).loc main_arg0)) (m ((c.tc : Thread nD τ).loc main_arg1))
        (m ((c.tc : Thread nD τ).loc main_arg3)) := by
  refine (dats m 0 c).arrAt_eq_of_covers 7 _ (by decide +kernel) fun t hf y => ?_
  idx_vars y
  blk_simp
  rw [after0_7]
  have i7 := (index_facts t).2.2.2.2.2.2.2.1
  have he : (win0_7.blk t).view.emb (ix2 y0 y1) = ix2 ⟨(tileOf t).val * 2048 + y0.val, by omega⟩ y1 :=
    funext (Fin.forall_fin_two.mpr ⟨Fin.ext (by blk_simp [i7]), Fin.ext (by blk_simp [i7])⟩)
  have eb : (⟨((tileOf t).val * 2048 + y0.val) / 8192, by omega⟩ : Fin 4) = ⟨(tileOf t).val / 4, by omega⟩ := Fin.ext (by simp; omega)
  have en : (⟨((tileOf t).val * 2048 + y0.val) / 128 % 64, by omega⟩ : Fin 64) = ⟨(tileOf t).val % 4 * 16 + y0.val / 128, by omega⟩ := Fin.ext (by simp; omega)
  have eu : (⟨((tileOf t).val * 2048 + y0.val) % 128, by omega⟩ : Fin 128) = ⟨y0.val % 128, by omega⟩ := Fin.ext (by simp; omega)
  rw [he, Cert.ReferenceIdeal.Value.stats_apply]
  simp only [eb, en, eu]
  unfold outsAt0
  dsimp only
  rw [out_stats]
  show statsAt _ _ _ _ _ y0 y1 = _
  unfold statsAt
  by_cases h0 : y1.val < 16
  · rw [dif_pos h0, dif_pos h0]
    exact AttnRow.top_scale (scores_eq m c t y0 _)
  · rw [dif_neg h0, dif_neg h0]
    by_cases h1 : y1.val < 32
    · rw [dif_pos h1, dif_pos h1]
      exact AttnRow.den_scale (scores_eq m c t y0 _)
    · rw [dif_neg h1, dif_neg h1]

end Cert.KernelIdeal.Arrays

namespace Cert.KernelIdeal

open Idealize.ShloMosaic Idealize.ShloMosaic.TcCoe Idealize.SL.Sem

/-- The attention kernel and the reference, run on the same arguments, end with the same weighted sums and statistics. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.ReferenceIdeal.Value.sums (m ((c.tc : Thread nD τ).loc main_arg0)) (m ((c.tc : Thread nD τ).loc main_arg1))
      (m ((c.tc : Thread nD τ).loc main_arg2)) (m ((c.tc : Thread nD τ).loc main_arg3)),
    fun c => Cert.ReferenceIdeal.Value.stats (m ((c.tc : Thread nD τ).loc main_arg0)) (m ((c.tc : Thread nD τ).loc main_arg1))
      (m ((c.tc : Thread nD τ).loc main_arg3)), ?_, ?_⟩
  · refine (θ_run _ _ _).mono (fun r h c => ?_) (Cert.KernelIdeal.Value.run_blocks (F := Ideal) m g)
    exact ⟨(h c).1.trans (Arrays.final_sums m c), (h c).2.1.trans (Arrays.final_stats m c), (h c).2.2⟩
  · refine (θ_run _ _ _).mono (fun r h c => ?_) (Cert.ReferenceIdeal.Value.run (F := Ideal) m' g')
    obtain ⟨h0, h1, h2, h3⟩ := hagree c
    refine ⟨(h c).1.trans ?_, (h c).2.1.trans ?_, (h c).2.2⟩
    · rw [Cert.ReferenceIdeal.Value.res_sums, h0, h1, h2, h3]
    · rw [Cert.ReferenceIdeal.Value.res_stats, h0, h1, h3]

end Cert.KernelIdeal

end
-- ==== Proof.ConvRow.lean ====
/-
  The convolution mixer of one token, over the extended reals: a function of the token's row, of the gated rows of the
  token and of the two before it, of the gains, of the taps and of the weight matrices.
-/
module

public import proofs.«01_k».proof.Proof.FfnRow

@[expose] public section

noncomputable section

namespace Cert.ConvRow

/-- The gated lane `d` of a row that is normalised already: the product of its two projections. -/
def gated (y : Fin 1024 → EReal) (wc wh : Fin 1024 → Fin 1024 → EReal) (d : Fin 1024) : EReal :=
  (∑ k, y k * wc k d) * ∑ k, y k * wh k d

/-- The convolution's lane `d`: the taps times the gated rows two tokens back, one token back and here. -/
def conv (w : Fin 3 → Fin 1024 → EReal) (u2 u1 u0 : Fin 1024 → EReal) (d : Fin 1024) : EReal :=
  w 0 d * u2 d + w 1 d * u1 d + w 2 d * u0 d

/-- The whole layer at lane `c`: the row plus the normalised projection of the gated convolution `z`. -/
def layer (x g g' : Fin 1024 → EReal) (wb wo : Fin 1024 → Fin 1024 → EReal) (z : Fin 1024 → EReal) (c : Fin 1024) : EReal :=
  x c + FfnRow.rms (fun d => ∑ j, ((∑ k, FfnRow.rms x g k * wb k j) * z j) * wo j d) g' c

/-- The gated row `back` tokens before token `n` of a sequence of rows: zero before the sequence's start. -/
def before (x : Fin 8192 → Fin 1024 → EReal) (g : Fin 1024 → EReal) (wc wh : Fin 1024 → Fin 1024 → EReal) (n : Fin 8192) (back : Nat)
    (d : Fin 1024) : EReal :=
  if n.val < back then 0 else gated (FfnRow.rms (x ⟨n.val - back, by omega⟩) g) wc wh d

/-- The layer of token `n` of a sequence of rows. -/
def token (x : Fin 8192 → Fin 1024 → EReal) (g g' : Fin 1024 → EReal) (wb wc wh wo : Fin 1024 → Fin 1024 → EReal)
    (w : Fin 3 → Fin 1024 → EReal) (n : Fin 8192) (c : Fin 1024) : EReal :=
  layer (x n) g g' wb wo (conv w (before x g wc wh n 2) (before x g wc wh n 1) (before x g wc wh n 0)) c

end Cert.ConvRow

end
-- ==== Proof.ConvTile.lean ====
/-
  The convolution mixer's kernel, one tile of 256 rows: what it computes of a tile of the block, of the gains, of the
  taps, of the weights and of the three shifted tiles of gated rows.
-/
module

public import proofs.«01_k».proof.Proof.ConvRow
public import proofs.«01_k».proof.Proof.Gen.ConvIdeal.Frame

@[expose] public section

set_option maxRecDepth 16384

noncomputable section

namespace Cert.ConvIdeal.Gen

open Idealize.ShloMosaic

/-- The normalised tile holds, at row `r`, the normalisation of row `r`. -/
theorem norm_tile (x : Vec Ideal S1x256x1024 .f32) (g : Vec Ideal S1x1x1024 .f32) (r : Fin 256) (k : Fin 1024) :
    k0_pay5 x g (ix2 r k) = FfnRow.rms (fun k => x (ix3 0 r k)) (fun k => g (ix3 0 0 k)) k := by
  pointwise [k0_pay5, k0_pay4]
  rfl

/-- The tile of gated rows holds, at row `r`, the gated row of the normalised row `r`. -/
theorem gate_tile (x : Vec Ideal S1x256x1024 .f32) (g : Vec Ideal S1x1x1024 .f32) (wc wh : Vec Ideal S1x1024x1024 .bf16) (r : Fin 256)
    (d : Fin 1024) :
    k0_pay6 x g wc wh (ix2 r d) = ConvRow.gated (FfnRow.rms (fun k => x (ix3 0 r k)) (fun k => g (ix3 0 0 k)))
      (fun k d => wc (ix3 0 k d)) (fun k d => wh (ix3 0 k d)) d := by
  pointwise [k0_pay6]
  simp only [norm_tile]
  rfl

/-- The projected tile holds, at row `r`, the projection of the gate times the convolution of row `r`. -/
theorem mix_tile (y : FVec Ideal S256x1024 .bf16) (w2 w0 w1 : Vec Ideal S1x1x1024 .f32) (u0 u2 u1 : Vec Ideal S256x1024 .f32)
    (wb wo : Vec Ideal S1x1024x1024 .bf16) (r : Fin 256) (d : Fin 1024) :
    k0_pay7 y w2 u0 w0 u2 w1 u1 wb wo (ix2 r d)
      = ∑ j : Fin 1024, ((∑ k : Fin 1024, y (ix2 r k) * wb (ix3 0 k j))
          * (w0 (ix3 0 0 j) * u2 (ix2 r j) + w1 (ix3 0 0 j) * u1 (ix2 r j) + w2 (ix3 0 0 j) * u0 (ix2 r j))) * wo (ix3 0 j d) := by
  pointwise [k0_pay7]
  refine Finset.sum_congr rfl fun j _ => ?_
  refine congrArg (· * _) (congrArg (_ * ·) ?_)
  rw [add_assoc, add_comm]

/-- The stored tile holds, at row `r`, the row of `x` plus the normalisation of the row of `y`. -/
theorem add_tile (x : Vec Ideal S1x256x1024 .f32) (y : FVec Ideal S256x1024 .f32) (g : Vec Ideal S1x1x1024 .f32) (r : Fin 256)
    (d : Fin 1024) :
    k0_pay1 (k0_pay4 x) y g (ix3 0 r d) = x (ix3 0 r d) + FfnRow.rms (fun d => y (ix2 r d)) (fun k => g (ix3 0 0 k)) d := by
  pointwise [k0_pay1, k0_pay4]
  rfl

/-- The stored tile of a tile `x` whose gated rows and the two shifts of them are `u0`, `u1`, `u2`. -/
theorem layer_tile (x : Vec Ideal S1x256x1024 .f32) (g g' : Vec Ideal S1x1x1024 .f32) (w2 w0 w1 : Vec Ideal S1x1x1024 .f32)
    (u0 u2 u1 : Vec Ideal S256x1024 .f32) (wb wo : Vec Ideal S1x1024x1024 .bf16) (r : Fin 256) (d : Fin 1024) :
    k0_pay1 (k0_pay4 x) (k0_pay7 (k0_pay5 x g) w2 u0 w0 u2 w1 u1 wb wo) g' (ix3 0 r d)
      = ConvRow.layer (fun k => x (ix3 0 r k)) (fun k => g (ix3 0 0 k)) (fun k => g' (ix3 0 0 k)) (fun k j => wb (ix3 0 k j))
          (fun j d => wo (ix3 0 j d)) (fun j => w0 (ix3 0 0 j) * u2 (ix2 r j) + w1 (ix3 0 0 j) * u1 (ix2 r j) + w2 (ix3 0 0 j) * u0 (ix2 r j)) d := by
  rw [add_tile]
  simp only [mix_tile, norm_tile]
  rfl

/-- The other tiles' gated rows are the same function. -/
theorem gate1_eq (x : Vec Ideal S1x256x1024 .f32) (g : Vec Ideal S1x1x1024 .f32) (wc wh : Vec Ideal S1x1024x1024 .bf16) :
    k0_pay15 (k0_pay14 x g wc wh) = k0_pay6 x g wc wh := rfl

/-- The third tile's gated rows are the same function. -/
theorem gate2_eq (x : Vec Ideal S1x256x1024 .f32) (g : Vec Ideal S1x1x1024 .f32) (wc wh : Vec Ideal S1x1024x1024 .bf16) :
    k0_pay24 (k0_pay22 x g wc) (k0_pay23 x g wh) = k0_pay6 x g wc wh := rfl

/-- The fourth tile's gated rows are the same function. -/
theorem gate3_eq (x : Vec Ideal S1x256x1024 .f32) (g : Vec Ideal S1x1x1024 .f32) (wc wh : Vec Ideal S1x1024x1024 .bf16) :
    k0_pay31 (k0_pay29 x g) (k0_pay30 x g wc) wh = k0_pay6 x g wc wh := rfl

/-- The first tile's stored rows are the same function as the last tile's. -/
theorem store0_eq (x : Vec Ideal S1x256x1024 .f32) (g g' : Vec Ideal S1x1x1024 .f32) (w2 w0 w1 : Vec Ideal S1x1x1024 .f32)
    (u0 u2 u1 : Vec Ideal S256x1024 .f32) (wb wo : Vec Ideal S1x1024x1024 .bf16) :
    k0_pay11 (k0_pay4 x) (k0_pay7 (k0_pay5 x g) w2 u0 w0 u2 w1 u1 wb wo) (k0_pay8 g') (k0_pay9 (k0_pay5 x g) w2 u0 w0 u2 w1 u1 wb wo) k0_pay10
      = k0_pay1 (k0_pay4 x) (k0_pay7 (k0_pay5 x g) w2 u0 w0 u2 w1 u1 wb wo) g' := rfl

/-- The second tile's stored rows are the same function. -/
theorem store1_eq (x : Vec Ideal S1x256x1024 .f32) (g g' : Vec Ideal S1x1x1024 .f32) (w2 w0 w1 : Vec Ideal S1x1x1024 .f32)
    (u0 u2 u1 : Vec Ideal S256x1024 .f32) (wb wo : Vec Ideal S1x1024x1024 .bf16) :
    k0_pay19 (k0_pay12 x) (k0_pay16 (k0_pay13 x g) w2 u0 w0 u2 w1 u1 wb wo) (k0_pay17 g') (k0_pay18 (k0_pay13 x g) w2 u0 w0 u2 w1 u1 wb wo)
      = k0_pay1 (k0_pay4 x) (k0_pay7 (k0_pay5 x g) w2 u0 w0 u2 w1 u1 wb wo) g' := rfl

/-- The third tile's stored rows are the same function. -/
theorem store2_eq (x : Vec Ideal S1x256x1024 .f32) (g g' : Vec Ideal S1x1x1024 .f32) (w2 w0 w1 : Vec Ideal S1x1x1024 .f32)
    (u0 u2 u1 : Vec Ideal S256x1024 .f32) (wb wo : Vec Ideal S1x1024x1024 .bf16) :
    k0_pay27 (k0_pay20 x) (k0_pay25 (k0_pay21 x g) w2 u0 w0 u2 w1 u1 wb wo) (k0_pay26 g')
      = k0_pay1 (k0_pay4 x) (k0_pay7 (k0_pay5 x g) w2 u0 w0 u2 w1 u1 wb wo) g' := rfl

/-- The fourth tile's stored rows are the same function. -/
theorem store3_eq (x : Vec Ideal S1x256x1024 .f32) (g g' : Vec Ideal S1x1x1024 .f32) (w2 w0 w1 : Vec Ideal S1x1x1024 .f32)
    (u0 u2 u1 : Vec Ideal S256x1024 .f32) (wb wo : Vec Ideal S1x1024x1024 .bf16) :
    k0_pay1 (k0_pay28 x) (k0_pay32 (k0_pay29 x g) w2 u0 w0 u2 w1 u1 wb wo) g'
      = k0_pay1 (k0_pay4 x) (k0_pay7 (k0_pay5 x g) w2 u0 w0 u2 w1 u1 wb wo) g' := rfl

end Cert.ConvIdeal.Gen

end
-- ==== Proof.ConvScratch.lean ====
/-
  The convolution mixer's kernel, the scratch of a block: eight rows from before the block and the block's gated rows
  below them, as the four stores of a point leave them.
-/
module

public import proofs.«01_k».proof.Proof.ConvTile
public import Idealize.ShloMosaic.Lib.Pipeline.ReadBack

@[expose] public section

set_option maxRecDepth 16384

noncomputable section

namespace Cert.ConvIdeal.Gen

open Idealize.ShloMosaic

/-- The gated row `r` of a block. -/
def gate (x : Vec Ideal S1x1024x1024 .f32) (g : Vec Ideal S1x1x1024 .f32) (w : Vec Ideal S1x1024x3072 .bf16) (r : Fin 1024)
    (d : Fin 1024) : EReal :=
  ConvRow.gated (FfnRow.rms (fun k => x (ix3 0 r k)) (fun k => g (ix3 0 0 k))) (fun k d => w (ix3 0 k ⟨1024 + d.val, by omega⟩))
    (fun k d => w (ix3 0 k ⟨2048 + d.val, by omega⟩)) d

/-- The scratch's contents: the rows `top`, and below them the block's gated rows. -/
def held (top : Fin 8 → Fin 1024 → EReal) (x : Vec Ideal S1x1024x1024 .f32) (g : Vec Ideal S1x1x1024 .f32)
    (w : Vec Ideal S1x1024x3072 .bf16) (R : Fin 1032) (d : Fin 1024) : EReal :=
  if h : R.val < 8 then top ⟨R.val, h⟩ d else gate x g w ⟨R.val - 8, by omega⟩ d

/-- The scratch's contents as an array. -/
def heldVec (top : Fin 8 → Fin 1024 → EReal) (x : Vec Ideal S1x1024x1024 .f32) (g : Vec Ideal S1x1x1024 .f32)
    (w : Vec Ideal S1x1024x3072 .bf16) : Vec Ideal S1032x1024 .f32 := fun y => held top x g w (y 0) (y 1)

/-- Row `r` of 256 rows placed at row `p` of the scratch is row `p + r`. -/
theorem emb_256 (p : Nat) (inb : ∀ a, (![p, 0] : Fin 2 → Nat) a + S256x1024.size a ≤ S1032x1024.size a) (r : Fin 256) (d : Fin 1024) :
    (Rect.unit (s := S1032x1024) ![p, 0] S256x1024.size inb).emb (ix2 r d) = (ix2 ⟨p + r.val, by have : p + 256 ≤ 1032 := inb 0; omega⟩ d : S1032x1024.Idx) := by
  funext a
  match a with
  | ⟨0, _⟩ => exact Fin.ext (by show p + 1 * r.val = p + r.val; omega)
  | ⟨1, _⟩ => exact Fin.ext (by show 0 + 1 * d.val = d.val; omega)

/-- Row `r` of eight rows placed at the scratch's top is row `r`. -/
theorem emb_8 (r : Fin 8) (d : Fin 1024) :
    (Rect.unit (s := S1032x1024) ![0, 0] S8x1024.size inb_S1032x1024_S8x1024_0_0).emb (ix2 r d) = (ix2 ⟨r.val, by omega⟩ d : S1032x1024.Idx) := by
  funext a
  match a with
  | ⟨0, _⟩ => exact Fin.ext (by show 0 + 1 * r.val = r.val; omega)
  | ⟨1, _⟩ => exact Fin.ext (by show 0 + 1 * d.val = d.val; omega)

/-- A tile of gated rows stored at rows `8 + o` of the scratch is that part of the contents. -/
theorem gate_piece (top : Fin 8 → Fin 1024 → EReal) (x : Vec Ideal S1x1024x1024 .f32) (g : Vec Ideal S1x1x1024 .f32)
    (w : Vec Ideal S1x1024x3072 .bf16) (o p : Nat) (hp : p = 8 + o)
    (inb : ∀ a, (![0, o, 0] : Fin 3 → Nat) a + S1x256x1024.size a ≤ S1x1024x1024.size a)
    (inb' : ∀ a, (![p, 0] : Fin 2 → Nat) a + S256x1024.size a ≤ S1032x1024.size a) (y : S256x1024.Idx) :
    k0_pay6 (View.ld x (Rect.unit (s := S1x1024x1024) ![0, o, 0] S1x256x1024.size inb))
        (View.ld g (Rect.unit (s := S1x1x1024) ![0, 0, 0] S1x1x1024.size inb_S1x1x1024_S1x1x1024_0_0_0))
        (View.ld w (Rect.unit (s := S1x1024x3072) ![0, 0, 1024] S1x1024x1024.size inb_S1x1024x3072_S1x1024x1024_0_0_1024))
        (View.ld w (Rect.unit (s := S1x1024x3072) ![0, 0, 2048] S1x1024x1024.size inb_S1x1024x3072_S1x1024x1024_0_0_2048)) y
      = heldVec top x g w ((Rect.unit (s := S1032x1024) ![p, 0] S256x1024.size inb').emb y) := by
  idx_vars y
  have hb : o + 256 ≤ 1024 := inb 1
  have hR : p + y0.val < 1032 := by omega
  refine (gate_tile _ _ _ _ y0 y1).trans (Eq.trans ?_ (congrArg (heldVec top x g w) (emb_256 p inb' y0 y1)).symm)
  show _ = held top x g w ⟨p + y0.val, hR⟩ y1
  unfold held
  rw [dif_neg (by show ¬ p + y0.val < 8; omega)]
  have e : (⟨p + y0.val - 8, by omega⟩ : Fin 1024) = ⟨o + y0.val, by omega⟩ := Fin.ext (by show p + y0.val - 8 = o + y0.val; omega)
  refine Eq.trans ?_ (congrArg (fun r => gate x g w r y1) e).symm
  unfold gate
  pointwise

/-- Eight zero rows stored at the top of the scratch. -/
theorem zero_piece (x : Vec Ideal S1x1024x1024 .f32) (g : Vec Ideal S1x1x1024 .f32) (w : Vec Ideal S1x1024x3072 .bf16) (y : S8x1024.Idx) :
    k0_pay2 (F := Ideal) y = heldVec (fun _ _ => 0) x g w ((Rect.unit (s := S1032x1024) ![0, 0] S8x1024.size inb_S1032x1024_S8x1024_0_0).emb y) := by
  idx_vars y
  refine Eq.trans ?_ (congrArg (heldVec (fun _ _ => 0) x g w) (emb_8 y0 y1)).symm
  show _ = held (fun _ _ => 0) x g w ⟨y0.val, by omega⟩ y1
  unfold held
  rw [dif_pos (by show y0.val < 8; omega)]
  pointwise [k0_pay2]

/-- The last eight rows of the scratch as the block before left it, stored at the top. -/
theorem carry_piece (s : Vec Ideal S1032x1024 .f32) (x : Vec Ideal S1x1024x1024 .f32) (g : Vec Ideal S1x1x1024 .f32)
    (w : Vec Ideal S1x1024x3072 .bf16) (y : S8x1024.Idx) :
    k0_pay3 (View.ld s (Rect.unit (s := S1032x1024) ![1024, 0] S8x1024.size inb_S1032x1024_S8x1024_1024_0)) y
      = heldVec (fun i d => s (ix2 ⟨1024 + i.val, by omega⟩ d)) x g w ((Rect.unit (s := S1032x1024) ![0, 0] S8x1024.size inb_S1032x1024_S8x1024_0_0).emb y) := by
  idx_vars y
  refine Eq.trans ?_ (congrArg (heldVec (fun i d => s (ix2 ⟨1024 + i.val, by omega⟩ d)) x g w) (emb_8 y0 y1)).symm
  show _ = held (fun i d => s (ix2 ⟨1024 + i.val, by omega⟩ d)) x g w ⟨y0.val, by omega⟩ y1
  unfold held
  rw [dif_pos (by show y0.val < 8; omega)]
  pointwise [k0_pay3]

/-- A load of the scratch over stores that are parts of `G` reads `G`, where the stores cover the load. -/
theorem load_held (v : View sig .tc .vmem S1032x1024 .f32) (G : Vec Ideal S1032x1024 .f32)
    (L : List (View.Piece (Elt Ideal) S1032x1024 .f32)) (h : View.PiecesOf G L) (p : Nat)
    (inb : ∀ a, (![p, 0] : Fin 2 → Nat) a + S256x1024.size a ≤ S1032x1024.size a)
    (hc : ∀ y : S1032x1024.Idx, (y 0).val < p + 256 → ∃ q ∈ L, y ∈ q.1.set) (r : Fin 256) (d : Fin 1024) :
    v.readCov L (Rect.unit (s := S1032x1024) ![p, 0] S256x1024.size inb).toLoadRect (ix2 r d)
      = G (ix2 ⟨p + r.val, by have : p + 256 ≤ 1032 := inb 0; omega⟩ d) := by
  rw [View.readCov_eq_canon']
  have hb : p + 256 ≤ 1032 := inb 0
  show View.canon L ((Rect.unit (s := S1032x1024) ![p, 0] S256x1024.size inb).emb (ix2 r d)) = _
  rw [emb_256]
  exact View.canon_apply_of_pieces G L h.mem _ (hc _ (by show p + r.val < p + 256; omega))

/-- Row `R` lies in the rows `p` to `p + n` of the scratch. -/
theorem mem_rows (p n : Nat) (inb : ∀ a, (![p, 0] : Fin 2 → Nat) a + (![n, 1024] : Fin 2 → Nat) a ≤ S1032x1024.size a) (y : S1032x1024.Idx)
    (h : p ≤ (y 0).val) (h' : (y 0).val < p + n) : y ∈ (Rect.unit (s := S1032x1024) ![p, 0] ![n, 1024] inb).set := by
  rw [Rect.mem_set_unit]
  intro a
  match a with
  | ⟨0, _⟩ => exact ⟨h, h'⟩
  | ⟨1, _⟩ => exact ⟨Nat.zero_le _, by show (y 1).val < 0 + 1024; have : (y 1).val < 1024 := (y 1).isLt; omega⟩

end Cert.ConvIdeal.Gen

end
-- ==== Proof.ConvPieces.lean ====
/-
  The convolution mixer's kernel, the scratch's stores of a point, case by case: a sequence's first block, over eight zero
  rows, and a later block, over the last eight rows the block before left.
-/
module

public import proofs.«01_k».proof.Proof.ConvScratch

@[expose] public section

set_option maxRecDepth 16384

noncomputable section

namespace Cert.ConvIdeal.Gen

open Idealize.ShloMosaic

/-- After the first tile of a sequence's first block the scratch's stores are parts of its contents. -/
theorem piecesA_2 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16) :
    View.PiecesOf (heldVec (fun _ _ => 0) x0 x1 x3) (kernelRun0_A.sl.HS0_2 (F := Ideal) c arg2 harg2 arg3 harg3 arg5 harg5 x0 x1 x3) := by
  unfold kernelRun0_A.sl.HS0_2
  refine ⟨fun y => ?_, fun y => ?_, trivial⟩
  · simp only [kernelRun0_A.sl.r_2, View.readAt_eq_ld, Memref.IsWhole.read_unread]
    exact gate_piece (fun _ _ => 0) x0 x1 x3 0 8 rfl _ _ y
  · simp only [View.readAt_eq_ld, Memref.IsWhole.read_unread]
    exact zero_piece x0 x1 x3 y

/-- … and they fill its first 264 rows. -/
theorem fillA_2 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16)
    (y : S1032x1024.Idx) (h : (y 0).val < 264) : ∃ q ∈ kernelRun0_A.sl.HS0_2 (F := Ideal) c arg2 harg2 arg3 harg3 arg5 harg5 x0 x1 x3, y ∈ q.1.set := by
  unfold kernelRun0_A.sl.HS0_2
  by_cases h' : (y 0).val < 8
  · exact ⟨_, List.mem_cons_of_mem _ (List.mem_singleton.mpr rfl), mem_rows 0 8 inb_S1032x1024_S8x1024_0_0 y (Nat.zero_le _) (by omega)⟩
  · exact ⟨_, List.mem_cons_self, mem_rows 8 256 inb_S1032x1024_S256x1024_8_0 y (by omega) (by omega)⟩

/-- After the second tile of a sequence's first block the scratch's stores are parts of its contents. -/
theorem piecesA_3 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16) :
    View.PiecesOf (heldVec (fun _ _ => 0) x0 x1 x3) (kernelRun0_A.sl.HS0_3 (F := Ideal) c arg2 harg2 arg3 harg3 arg5 harg5 x0 x1 x3) := by
  unfold kernelRun0_A.sl.HS0_3
  refine ⟨fun y => ?_, piecesA_2 c arg2 harg2 arg3 harg3 arg5 harg5 x0 x1 x3⟩
  simp only [kernelRun0_A.sl.r_8, View.readAt_eq_ld, Memref.IsWhole.read_unread]
  exact (congrFun (gate1_eq _ _ _ _) y).trans (gate_piece (fun _ _ => 0) x0 x1 x3 256 264 rfl _ _ y)

/-- … and they fill its first 520 rows. -/
theorem fillA_3 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16)
    (y : S1032x1024.Idx) (h : (y 0).val < 520) : ∃ q ∈ kernelRun0_A.sl.HS0_3 (F := Ideal) c arg2 harg2 arg3 harg3 arg5 harg5 x0 x1 x3, y ∈ q.1.set := by
  unfold kernelRun0_A.sl.HS0_3
  by_cases h' : (y 0).val < 264
  · obtain ⟨q, hq, hy⟩ := fillA_2 c arg2 harg2 arg3 harg3 arg5 harg5 x0 x1 x3 y h'
    exact ⟨q, List.mem_cons_of_mem _ hq, hy⟩
  · exact ⟨_, List.mem_cons_self, mem_rows 264 256 inb_S1032x1024_S256x1024_264_0 y (by omega) (by omega)⟩

/-- After the third tile of a sequence's first block the scratch's stores are parts of its contents. -/
theorem piecesA_4 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16) :
    View.PiecesOf (heldVec (fun _ _ => 0) x0 x1 x3) (kernelRun0_A.sl.HS0_4 (F := Ideal) c arg2 harg2 arg3 harg3 arg5 harg5 x0 x1 x3) := by
  unfold kernelRun0_A.sl.HS0_4
  refine ⟨fun y => ?_, piecesA_3 c arg2 harg2 arg3 harg3 arg5 harg5 x0 x1 x3⟩
  simp only [kernelRun0_A.sl.r_14, kernelRun0_A.sl.r_15, View.readAt_eq_ld, Memref.IsWhole.read_unread]
  exact (congrFun (gate2_eq _ _ _ _) y).trans (gate_piece (fun _ _ => 0) x0 x1 x3 512 520 rfl _ _ y)

/-- … and they fill its first 776 rows. -/
theorem fillA_4 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16)
    (y : S1032x1024.Idx) (h : (y 0).val < 776) : ∃ q ∈ kernelRun0_A.sl.HS0_4 (F := Ideal) c arg2 harg2 arg3 harg3 arg5 harg5 x0 x1 x3, y ∈ q.1.set := by
  unfold kernelRun0_A.sl.HS0_4
  by_cases h' : (y 0).val < 520
  · obtain ⟨q, hq, hy⟩ := fillA_3 c arg2 harg2 arg3 harg3 arg5 harg5 x0 x1 x3 y h'
    exact ⟨q, List.mem_cons_of_mem _ hq, hy⟩
  · exact ⟨_, List.mem_cons_self, mem_rows 520 256 inb_S1032x1024_S256x1024_520_0 y (by omega) (by omega)⟩

/-- After the fourth tile of a sequence's first block the scratch's stores are parts of its contents. -/
theorem piecesA_5 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16) :
    View.PiecesOf (heldVec (fun _ _ => 0) x0 x1 x3) (kernelRun0_A.sl.HS0_5 (F := Ideal) c arg2 harg2 arg3 harg3 arg5 harg5 x0 x1 x3) := by
  unfold kernelRun0_A.sl.HS0_5
  refine ⟨fun y => ?_, piecesA_4 c arg2 harg2 arg3 harg3 arg5 harg5 x0 x1 x3⟩
  simp only [kernelRun0_A.sl.r_19, kernelRun0_A.sl.r_20, kernelRun0_A.sl.r_21, View.readAt_eq_ld, Memref.IsWhole.read_unread]
  exact (congrFun (gate3_eq _ _ _ _) y).trans (gate_piece (fun _ _ => 0) x0 x1 x3 768 776 rfl _ _ y)

/-- … and they fill its first 1032 rows. -/
theorem fillA_5 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole)
    (x0 : Vec Ideal S1x1024x1024 .f32) (x1 : Vec Ideal S1x1x1024 .f32) (x3 : Vec Ideal S1x1024x3072 .bf16)
    (y : S1032x1024.Idx) (h : (y 0).val < 1032) : ∃ q ∈ kernelRun0_A.sl.HS0_5 (F := Ideal) c arg2 harg2 arg3 harg3 arg5 harg5 x0 x1 x3, y ∈ q.1.set := by
  unfold kernelRun0_A.sl.HS0_5
  by_cases h' : (y 0).val < 776
  · obtain ⟨q, hq, hy⟩ := fillA_4 c arg2 harg2 arg3 harg3 arg5 harg5 x0 x1 x3 y h'
    exact ⟨q, List.mem_cons_of_mem _ hq, hy⟩
  · exact ⟨_, List.mem_cons_self, mem_rows 776 256 inb_S1032x1024_S256x1024_776_0 y (by omega) (by omega)⟩

/-- After the first tile of a later block the scratch's stores are parts of its contents. -/
theorem piecesB_2 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32) :
    View.PiecesOf (heldVec (fun i d => xs0 (ix2 ⟨1024 + i.val, by omega⟩ d)) x0 x1 x3) (kernelRun0_B.sl.HS0_2 (F := Ideal) c arg2 harg2 arg3 harg3 arg5 harg5 arg9 harg9 x0 x1 x3 xs0) := by
  unfold kernelRun0_B.sl.HS0_2
  refine ⟨fun y => ?_, fun y => ?_, trivial⟩
  · simp only [kernelRun0_B.sl.r_2, View.readAt_eq_ld, Memref.IsWhole.read_unread]
    exact gate_piece (fun i d => xs0 (ix2 ⟨1024 + i.val, by omega⟩ d)) x0 x1 x3 0 8 rfl _ _ y
  · simp only [View.readAt_eq_ld, Memref.IsWhole.read_unread]
    exact carry_piece xs0 x0 x1 x3 y

/-- … and they fill its first 264 rows. -/
theorem fillB_2 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32)
    (y : S1032x1024.Idx) (h : (y 0).val < 264) : ∃ q ∈ kernelRun0_B.sl.HS0_2 (F := Ideal) c arg2 harg2 arg3 harg3 arg5 harg5 arg9 harg9 x0 x1 x3 xs0, y ∈ q.1.set := by
  unfold kernelRun0_B.sl.HS0_2
  by_cases h' : (y 0).val < 8
  · exact ⟨_, List.mem_cons_of_mem _ (List.mem_singleton.mpr rfl), mem_rows 0 8 inb_S1032x1024_S8x1024_0_0 y (Nat.zero_le _) (by omega)⟩
  · exact ⟨_, List.mem_cons_self, mem_rows 8 256 inb_S1032x1024_S256x1024_8_0 y (by omega) (by omega)⟩

/-- After the second tile of a later block the scratch's stores are parts of its contents. -/
theorem piecesB_3 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32) :
    View.PiecesOf (heldVec (fun i d => xs0 (ix2 ⟨1024 + i.val, by omega⟩ d)) x0 x1 x3) (kernelRun0_B.sl.HS0_3 (F := Ideal) c arg2 harg2 arg3 harg3 arg5 harg5 arg9 harg9 x0 x1 x3 xs0) := by
  unfold kernelRun0_B.sl.HS0_3
  refine ⟨fun y => ?_, piecesB_2 c arg2 harg2 arg3 harg3 arg5 harg5 arg9 harg9 x0 x1 x3 xs0⟩
  simp only [kernelRun0_B.sl.r_8, View.readAt_eq_ld, Memref.IsWhole.read_unread]
  exact (congrFun (gate1_eq _ _ _ _) y).trans (gate_piece (fun i d => xs0 (ix2 ⟨1024 + i.val, by omega⟩ d)) x0 x1 x3 256 264 rfl _ _ y)

/-- … and they fill its first 520 rows. -/
theorem fillB_3 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32)
    (y : S1032x1024.Idx) (h : (y 0).val < 520) : ∃ q ∈ kernelRun0_B.sl.HS0_3 (F := Ideal) c arg2 harg2 arg3 harg3 arg5 harg5 arg9 harg9 x0 x1 x3 xs0, y ∈ q.1.set := by
  unfold kernelRun0_B.sl.HS0_3
  by_cases h' : (y 0).val < 264
  · obtain ⟨q, hq, hy⟩ := fillB_2 c arg2 harg2 arg3 harg3 arg5 harg5 arg9 harg9 x0 x1 x3 xs0 y h'
    exact ⟨q, List.mem_cons_of_mem _ hq, hy⟩
  · exact ⟨_, List.mem_cons_self, mem_rows 264 256 inb_S1032x1024_S256x1024_264_0 y (by omega) (by omega)⟩

/-- After the third tile of a later block the scratch's stores are parts of its contents. -/
theorem piecesB_4 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32) :
    View.PiecesOf (heldVec (fun i d => xs0 (ix2 ⟨1024 + i.val, by omega⟩ d)) x0 x1 x3) (kernelRun0_B.sl.HS0_4 (F := Ideal) c arg2 harg2 arg3 harg3 arg5 harg5 arg9 harg9 x0 x1 x3 xs0) := by
  unfold kernelRun0_B.sl.HS0_4
  refine ⟨fun y => ?_, piecesB_3 c arg2 harg2 arg3 harg3 arg5 harg5 arg9 harg9 x0 x1 x3 xs0⟩
  simp only [kernelRun0_B.sl.r_14, kernelRun0_B.sl.r_15, View.readAt_eq_ld, Memref.IsWhole.read_unread]
  exact (congrFun (gate2_eq _ _ _ _) y).trans (gate_piece (fun i d => xs0 (ix2 ⟨1024 + i.val, by omega⟩ d)) x0 x1 x3 512 520 rfl _ _ y)

/-- … and they fill its first 776 rows. -/
theorem fillB_4 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32)
    (y : S1032x1024.Idx) (h : (y 0).val < 776) : ∃ q ∈ kernelRun0_B.sl.HS0_4 (F := Ideal) c arg2 harg2 arg3 harg3 arg5 harg5 arg9 harg9 x0 x1 x3 xs0, y ∈ q.1.set := by
  unfold kernelRun0_B.sl.HS0_4
  by_cases h' : (y 0).val < 520
  · obtain ⟨q, hq, hy⟩ := fillB_3 c arg2 harg2 arg3 harg3 arg5 harg5 arg9 harg9 x0 x1 x3 xs0 y h'
    exact ⟨q, List.mem_cons_of_mem _ hq, hy⟩
  · exact ⟨_, List.mem_cons_self, mem_rows 520 256 inb_S1032x1024_S256x1024_520_0 y (by omega) (by omega)⟩

/-- After the fourth tile of a later block the scratch's stores are parts of its contents. -/
theorem piecesB_5 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32) :
    View.PiecesOf (heldVec (fun i d => xs0 (ix2 ⟨1024 + i.val, by omega⟩ d)) x0 x1 x3) (kernelRun0_B.sl.HS0_5 (F := Ideal) c arg2 harg2 arg3 harg3 arg5 harg5 arg9 harg9 x0 x1 x3 xs0) := by
  unfold kernelRun0_B.sl.HS0_5
  refine ⟨fun y => ?_, piecesB_4 c arg2 harg2 arg3 harg3 arg5 harg5 arg9 harg9 x0 x1 x3 xs0⟩
  simp only [kernelRun0_B.sl.r_19, kernelRun0_B.sl.r_20, kernelRun0_B.sl.r_21, View.readAt_eq_ld, Memref.IsWhole.read_unread]
  exact (congrFun (gate3_eq _ _ _ _) y).trans (gate_piece (fun i d => xs0 (ix2 ⟨1024 + i.val, by omega⟩ d)) x0 x1 x3 768 776 rfl _ _ y)

/-- … and they fill its first 1032 rows. -/
theorem fillB_5 (c : Dev nD) (arg2 : Memref sig .tc .vmem S1x1024x1024 .f32) (harg2 : arg2.IsWhole) (arg3 : Memref sig .tc .vmem S1x1x1024 .f32)
    (harg3 : arg3.IsWhole) (arg5 : Memref sig .tc .vmem S1x1024x3072 .bf16) (harg5 : arg5.IsWhole) (arg9 : Memref sig .tc .vmem S1032x1024 .f32)
    (harg9 : arg9.IsWhole)
    (x0 : Vec Ideal S1x1024x1024 .f32) (x1 : Vec Ideal S1x1x1024 .f32) (x3 : Vec Ideal S1x1024x3072 .bf16) (xs0 : Vec Ideal S1032x1024 .f32)
    (y : S1032x1024.Idx) (h : (y 0).val < 1032) : ∃ q ∈ kernelRun0_B.sl.HS0_5 (F := Ideal) c arg2 harg2 arg3 harg3 arg5 harg5 arg9 harg9 x0 x1 x3 xs0, y ∈ q.1.set := by
  unfold kernelRun0_B.sl.HS0_5
  by_cases h' : (y 0).val < 776
  · obtain ⟨q, hq, hy⟩ := fillB_4 c arg2 harg2 arg3 harg3 arg5 harg5 arg9 harg9 x0 x1 x3 xs0 y h'
    exact ⟨q, List.mem_cons_of_mem _ hq, hy⟩
  · exact ⟨_, List.mem_cons_self, mem_rows 776 256 inb_S1032x1024_S256x1024_776_0 y (by omega) (by omega)⟩

end Cert.ConvIdeal.Gen

end
-- ==== Proof.ConvBlock.lean ====
/-
  The convolution mixer's kernel, a whole block: row `r` of what a point stores is the layer of row `r`, its convolution
  over the scratch's rows `6 + r`, `7 + r` and `8 + r`; and the scratch it leaves is the contents of ConvScratch.lean.
-/
module

public import proofs.«01_k».proof.Proof.ConvPieces

@[expose] public section

set_option maxRecDepth 16384

noncomputable section

namespace Cert.ConvIdeal.Gen

open Idealize.ShloMosaic

/-- The layer of row `r` of a block over the scratch's contents `G`. -/
def block (G : Vec Ideal S1032x1024 .f32) (x : Vec Ideal S1x1024x1024 .f32) (g g' : Vec Ideal S1x1x1024 .f32)
    (w : Vec Ideal S1x1024x3072 .bf16) (taps : Vec Ideal S1x3x1024 .f32) (wo : Vec Ideal S1x1024x1024 .bf16) (r d : Fin 1024) : EReal :=
  ConvRow.layer (fun k => x (ix3 0 r k)) (fun k => g (ix3 0 0 k)) (fun k => g' (ix3 0 0 k)) (fun k j => w (ix3 0 k ⟨j.val, by omega⟩))
    (fun j d => wo (ix3 0 j d))
    (ConvRow.conv (fun i d => taps (ix3 0 i d)) (fun d => G (ix2 ⟨6 + r.val, by omega⟩ d)) (fun d => G (ix2 ⟨7 + r.val, by omega⟩ d))
      (fun d => G (ix2 ⟨8 + r.val, by omega⟩ d))) d

/-- The layers of a block's rows as an array. -/
def blockVec (G : Vec Ideal S1032x1024 .f32) (x : Vec Ideal S1x1024x1024 .f32) (g g' : Vec Ideal S1x1x1024 .f32)
    (w : Vec Ideal S1x1024x3072 .bf16) (taps : Vec Ideal S1x3x1024 .f32) (wo : Vec Ideal S1x1024x1024 .bf16) :
    Vec Ideal S1x1024x1024 .f32 := fun y => block G x g g' w taps wo (y 1) (y 2)

/-- Row `r` of 256 rows placed at row `o` of the block is row `o + r`. -/
theorem emb_out (o : Nat) (inb : ∀ a, (![0, o, 0] : Fin 3 → Nat) a + S1x256x1024.size a ≤ S1x1024x1024.size a) (b : Fin 1) (r : Fin 256)
    (d : Fin 1024) :
    (Rect.unit (s := S1x1024x1024) ![0, o, 0] S1x256x1024.size inb).emb (ix3 b r d)
      = (ix3 0 ⟨o + r.val, by have : o + 256 ≤ 1024 := inb 1; omega⟩ d : S1x1024x1024.Idx) := by
  funext a
  match a with
  | ⟨0, _⟩ => exact Fin.ext (by show 0 + 1 * b.val = 0; omega)
  | ⟨1, _⟩ => exact Fin.ext (by show o + 1 * r.val = o + r.val; omega)
  | ⟨2, _⟩ => exact Fin.ext (by show 0 + 1 * d.val = d.val; omega)

/-- A tile stored at rows `o` to `o + 256` of the block, its three shifted tiles read off the scratch's contents `G`, is that
    part of the block. -/
theorem store_piece (G : Vec Ideal S1032x1024 .f32) (x : Vec Ideal S1x1024x1024 .f32) (g g' : Vec Ideal S1x1x1024 .f32)
    (w : Vec Ideal S1x1024x3072 .bf16) (taps : Vec Ideal S1x3x1024 .f32) (wo : Vec Ideal S1x1024x1024 .bf16) (o p0 p2 p1 : Nat)
    (inb : ∀ a, (![0, o, 0] : Fin 3 → Nat) a + S1x256x1024.size a ≤ S1x1024x1024.size a) (u0 u2 u1 : Vec Ideal S256x1024 .f32)
    (b0 : p0 + 256 ≤ 1032) (b2 : p2 + 256 ≤ 1032) (b1 : p1 + 256 ≤ 1032)
    (e0 : p0 = 8 + o) (e2 : p2 = 6 + o) (e1 : p1 = 7 + o)
    (h0 : ∀ (r : Fin 256) (d : Fin 1024), u0 (ix2 r d) = G (ix2 ⟨p0 + r.val, by omega⟩ d))
    (h2 : ∀ (r : Fin 256) (d : Fin 1024), u2 (ix2 r d) = G (ix2 ⟨p2 + r.val, by omega⟩ d))
    (h1 : ∀ (r : Fin 256) (d : Fin 1024), u1 (ix2 r d) = G (ix2 ⟨p1 + r.val, by omega⟩ d)) (y : S1x256x1024.Idx) :
    k0_pay1 (k0_pay4 (View.ld x (Rect.unit (s := S1x1024x1024) ![0, o, 0] S1x256x1024.size inb)))
        (k0_pay7 (k0_pay5 (View.ld x (Rect.unit (s := S1x1024x1024) ![0, o, 0] S1x256x1024.size inb))
            (View.ld g (Rect.unit (s := S1x1x1024) ![0, 0, 0] S1x1x1024.size inb_S1x1x1024_S1x1x1024_0_0_0)))
          (View.ld taps (Rect.unit (s := S1x3x1024) ![0, 2, 0] S1x1x1024.size inb_S1x3x1024_S1x1x1024_0_2_0)) u0
          (View.ld taps (Rect.unit (s := S1x3x1024) ![0, 0, 0] S1x1x1024.size inb_S1x3x1024_S1x1x1024_0_0_0)) u2
          (View.ld taps (Rect.unit (s := S1x3x1024) ![0, 1, 0] S1x1x1024.size inb_S1x3x1024_S1x1x1024_0_1_0)) u1
          (View.ld w (Rect.unit (s := S1x1024x3072) ![0, 0, 0] S1x1024x1024.size inb_S1x1024x3072_S1x1024x1024_0_0_0))
          (View.ld wo (Rect.unit (s := S1x1024x1024) ![0, 0, 0] S1x1024x1024.size inb_S1x1024x1024_S1x1024x1024_0_0_0)))
        (View.ld g' (Rect.unit (s := S1x1x1024) ![0, 0, 0] S1x1x1024.size inb_S1x1x1024_S1x1x1024_0_0_0)) y
      = blockVec G x g g' w taps wo ((Rect.unit (s := S1x1024x1024) ![0, o, 0] S1x256x1024.size inb).emb y) := by
  idx_vars y
  have hb : o + 256 ≤ 1024 := inb 1
  subst e0 e2 e1
  rw [show y0 = 0 from Subsingleton.elim _ _]
  refine (layer_tile _ _ _ _ _ _ _ _ _ _ _ y1 y2).trans (Eq.trans ?_ (congrArg (blockVec G x g g' w taps wo) (emb_out o inb 0 y1 y2)).symm)
  show _ = block G x g g' w taps wo ⟨o + y1.val, by omega⟩ y2
  unfold block
  simp only [h0, h1, h2, Nat.add_assoc]
  pointwise [ConvRow.conv]
  rfl

/-- What the point of a sequence's first block stores is the block over the scratch's contents. -/
theorem outA (c : Dev nD) (i : grid0.Coords) (arg2 : Memref sig .tc .vmem S1x1024x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1x1024x3072 .bf16) (harg5 : arg5.IsWhole) (arg6 : Memref sig .tc .vmem S1x3x1024 .f32) (harg6 : arg6.IsWhole)
    (arg7 : Memref sig .tc .vmem S1x1024x1024 .bf16) (harg7 : arg7.IsWhole) (arg8 : Memref sig .tc .vmem S1x1024x1024 .f32) (harg8 : arg8.IsWhole)
    (arg9 : Memref sig .tc .vmem S1032x1024 .f32) (harg9 : arg9.IsWhole) (hc0 : cond0_0 i) (hc1 : ¬cond0_1 i)
    (x0 : Vec Ideal S1x1024x1024 .f32) (x1 : Vec Ideal S1x1x1024 .f32) (x2 : Vec Ideal S1x1x1024 .f32) (x3 : Vec Ideal S1x1024x3072 .bf16)
    (x4 : Vec Ideal S1x3x1024 .f32) (x5 : Vec Ideal S1x1024x1024 .bf16) :
    out0_A_6 (F := Ideal) c i arg2 harg2 arg3 harg3 arg4 harg4 arg5 harg5 arg6 harg6 arg7 harg7 arg8 harg8 arg9 harg9 hc0 hc1 x0 x1 x2 x3 x4 x5
      = blockVec (heldVec (fun _ _ => 0) x0 x1 x3) x0 x1 x2 x3 x4 x5 := by
  have key : View.PiecesOf (blockVec (heldVec (fun _ _ => 0) x0 x1 x3) x0 x1 x2 x3 x4 x5)
      (kernelRun0_A (F := Ideal) c i arg2 harg2 arg3 harg3 arg4 harg4 arg5 harg5 arg6 harg6 arg7 harg7 arg8 harg8 arg9 harg9 hc0 hc1 x0 x1 x2 x3 x4 x5).1 := by
    unfold kernelRun0_A
    dsimp only
    refine ⟨fun y => ?_, fun y => ?_, fun y => ?_, fun y => ?_, trivial⟩
    · simp only [kernelRun0_A.sl.r_18, kernelRun0_A.sl.r_22, kernelRun0_A.sl.r_19, View.readAt_eq_ld, Memref.IsWhole.read_unread]
      exact (congrFun (store3_eq _ _ _ _ _ _ _ _ _ _ _) y).trans (store_piece _ x0 x1 x2 x3 x4 x5 768 776 774 775 _ _ _ _
        (by decide) (by decide) (by decide) rfl rfl rfl
        (fun r d => load_held arg9.view _ _ (piecesA_5 c arg2 harg2 arg3 harg3 arg5 harg5 x0 x1 x3) 776 _ (fun y h => fillA_5 c arg2 harg2 arg3 harg3 arg5 harg5 x0 x1 x3 y (by omega)) r d)
        (fun r d => load_held arg9.view _ _ (piecesA_5 c arg2 harg2 arg3 harg3 arg5 harg5 x0 x1 x3) 774 _ (fun y h => fillA_5 c arg2 harg2 arg3 harg3 arg5 harg5 x0 x1 x3 y (by omega)) r d)
        (fun r d => load_held arg9.view _ _ (piecesA_5 c arg2 harg2 arg3 harg3 arg5 harg5 x0 x1 x3) 775 _ (fun y h => fillA_5 c arg2 harg2 arg3 harg3 arg5 harg5 x0 x1 x3 y (by omega)) r d) y)
    · simp only [kernelRun0_A.sl.r_12, kernelRun0_A.sl.r_16, kernelRun0_A.sl.r_17, kernelRun0_A.sl.r_13, View.readAt_eq_ld, Memref.IsWhole.read_unread]
      exact (congrFun (store2_eq _ _ _ _ _ _ _ _ _ _ _) y).trans (store_piece _ x0 x1 x2 x3 x4 x5 512 520 518 519 _ _ _ _
        (by decide) (by decide) (by decide) rfl rfl rfl
        (fun r d => load_held arg9.view _ _ (piecesA_4 c arg2 harg2 arg3 harg3 arg5 harg5 x0 x1 x3) 520 _ (fun y h => fillA_4 c arg2 harg2 arg3 harg3 arg5 harg5 x0 x1 x3 y (by omega)) r d)
        (fun r d => load_held arg9.view _ _ (piecesA_4 c arg2 harg2 arg3 harg3 arg5 harg5 x0 x1 x3) 518 _ (fun y h => fillA_4 c arg2 harg2 arg3 harg3 arg5 harg5 x0 x1 x3 y (by omega)) r d)
        (fun r d => load_held arg9.view _ _ (piecesA_4 c arg2 harg2 arg3 harg3 arg5 harg5 x0 x1 x3) 519 _ (fun y h => fillA_4 c arg2 harg2 arg3 harg3 arg5 harg5 x0 x1 x3 y (by omega)) r d) y)
    · simp only [kernelRun0_A.sl.r_6, kernelRun0_A.sl.r_9, kernelRun0_A.sl.r_10, kernelRun0_A.sl.r_11, kernelRun0_A.sl.r_7, View.readAt_eq_ld, Memref.IsWhole.read_unread]
      exact (congrFun (store1_eq _ _ _ _ _ _ _ _ _ _ _) y).trans (store_piece _ x0 x1 x2 x3 x4 x5 256 264 262 263 _ _ _ _
        (by decide) (by decide) (by decide) rfl rfl rfl
        (fun r d => load_held arg9.view _ _ (piecesA_3 c arg2 harg2 arg3 harg3 arg5 harg5 x0 x1 x3) 264 _ (fun y h => fillA_3 c arg2 harg2 arg3 harg3 arg5 harg5 x0 x1 x3 y (by omega)) r d)
        (fun r d => load_held arg9.view _ _ (piecesA_3 c arg2 harg2 arg3 harg3 arg5 harg5 x0 x1 x3) 262 _ (fun y h => fillA_3 c arg2 harg2 arg3 harg3 arg5 harg5 x0 x1 x3 y (by omega)) r d)
        (fun r d => load_held arg9.view _ _ (piecesA_3 c arg2 harg2 arg3 harg3 arg5 harg5 x0 x1 x3) 263 _ (fun y h => fillA_3 c arg2 harg2 arg3 harg3 arg5 harg5 x0 x1 x3 y (by omega)) r d) y)
    · simp only [kernelRun0_A.sl.r, kernelRun0_A.sl.r_3, kernelRun0_A.sl.r_4, kernelRun0_A.sl.r_5, kernelRun0_A.sl.r_1, View.readAt_eq_ld, Memref.IsWhole.read_unread]
      exact (congrFun (store0_eq _ _ _ _ _ _ _ _ _ _ _) y).trans (store_piece _ x0 x1 x2 x3 x4 x5 0 8 6 7 _ _ _ _
        (by decide) (by decide) (by decide) rfl rfl rfl
        (fun r d => load_held arg9.view _ _ (piecesA_2 c arg2 harg2 arg3 harg3 arg5 harg5 x0 x1 x3) 8 _ (fun y h => fillA_2 c arg2 harg2 arg3 harg3 arg5 harg5 x0 x1 x3 y (by omega)) r d)
        (fun r d => load_held arg9.view _ _ (piecesA_2 c arg2 harg2 arg3 harg3 arg5 harg5 x0 x1 x3) 6 _ (fun y h => fillA_2 c arg2 harg2 arg3 harg3 arg5 harg5 x0 x1 x3 y (by omega)) r d)
        (fun r d => load_held arg9.view _ _ (piecesA_2 c arg2 harg2 arg3 harg3 arg5 harg5 x0 x1 x3) 7 _ (fun y h => fillA_2 c arg2 harg2 arg3 harg3 arg5 harg5 x0 x1 x3 y (by omega)) r d) y)
  unfold out0_A_6
  rw [View.read_writes_junk_eq_canon]
  exact funext fun y => View.canon_apply_of_pieces _ _ key.mem y (cover0_A_6 c i arg2 harg2 arg3 harg3 arg4 harg4 arg5 harg5 arg6 harg6 arg7 harg7 arg8 harg8 arg9 harg9 hc0 hc1 x0 x1 x2 x3 x4 x5 y)

/-- The scratch that the point of a sequence's first block leaves. -/
theorem soutA (c : Dev nD) (i : grid0.Coords) (arg2 : Memref sig .tc .vmem S1x1024x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1x1024x3072 .bf16) (harg5 : arg5.IsWhole) (arg6 : Memref sig .tc .vmem S1x3x1024 .f32) (harg6 : arg6.IsWhole)
    (arg7 : Memref sig .tc .vmem S1x1024x1024 .bf16) (harg7 : arg7.IsWhole) (arg8 : Memref sig .tc .vmem S1x1024x1024 .f32) (harg8 : arg8.IsWhole)
    (arg9 : Memref sig .tc .vmem S1032x1024 .f32) (harg9 : arg9.IsWhole) (hc0 : cond0_0 i) (hc1 : ¬cond0_1 i)
    (x0 : Vec Ideal S1x1024x1024 .f32) (x1 : Vec Ideal S1x1x1024 .f32) (x2 : Vec Ideal S1x1x1024 .f32) (x3 : Vec Ideal S1x1024x3072 .bf16)
    (x4 : Vec Ideal S1x3x1024 .f32) (x5 : Vec Ideal S1x1024x1024 .bf16) :
    sout0_A_0 (F := Ideal) c i arg2 harg2 arg3 harg3 arg4 harg4 arg5 harg5 arg6 harg6 arg7 harg7 arg8 harg8 arg9 harg9 hc0 hc1 x0 x1 x2 x3 x4 x5 = heldVec (fun _ _ => 0) x0 x1 x3 := by
  unfold sout0_A_0
  rw [View.read_writes_junk_eq_canon]
  have key : View.PiecesOf (heldVec (fun _ _ => 0) x0 x1 x3) (kernelRun0_A (F := Ideal) c i arg2 harg2 arg3 harg3 arg4 harg4 arg5 harg5 arg6 harg6 arg7 harg7 arg8 harg8 arg9 harg9 hc0 hc1 x0 x1 x2 x3 x4 x5).2.1 :=
    piecesA_5 c arg2 harg2 arg3 harg3 arg5 harg5 x0 x1 x3
  exact funext fun y => View.canon_apply_of_pieces _ _ key.mem y (scover0_A_0 c i arg2 harg2 arg3 harg3 arg4 harg4 arg5 harg5 arg6 harg6 arg7 harg7 arg8 harg8 arg9 harg9 hc0 hc1 x0 x1 x2 x3 x4 x5 y)

/-- What the point of a later block stores is the block over the scratch's contents. -/
theorem outB (c : Dev nD) (i : grid0.Coords) (arg2 : Memref sig .tc .vmem S1x1024x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1x1024x3072 .bf16) (harg5 : arg5.IsWhole) (arg6 : Memref sig .tc .vmem S1x3x1024 .f32) (harg6 : arg6.IsWhole)
    (arg7 : Memref sig .tc .vmem S1x1024x1024 .bf16) (harg7 : arg7.IsWhole) (arg8 : Memref sig .tc .vmem S1x1024x1024 .f32) (harg8 : arg8.IsWhole)
    (arg9 : Memref sig .tc .vmem S1032x1024 .f32) (harg9 : arg9.IsWhole) (hc0 : ¬cond0_0 i) (hc1 : cond0_1 i)
    (x0 : Vec Ideal S1x1024x1024 .f32) (x1 : Vec Ideal S1x1x1024 .f32) (x2 : Vec Ideal S1x1x1024 .f32) (x3 : Vec Ideal S1x1024x3072 .bf16)
    (x4 : Vec Ideal S1x3x1024 .f32) (x5 : Vec Ideal S1x1024x1024 .bf16) (xs0 : Vec Ideal S1032x1024 .f32) :
    out0_B_6 (F := Ideal) c i arg2 harg2 arg3 harg3 arg4 harg4 arg5 harg5 arg6 harg6 arg7 harg7 arg8 harg8 arg9 harg9 hc0 hc1 x0 x1 x2 x3 x4 x5 xs0
      = blockVec (heldVec (fun i d => xs0 (ix2 ⟨1024 + i.val, by omega⟩ d)) x0 x1 x3) x0 x1 x2 x3 x4 x5 := by
  have key : View.PiecesOf (blockVec (heldVec (fun i d => xs0 (ix2 ⟨1024 + i.val, by omega⟩ d)) x0 x1 x3) x0 x1 x2 x3 x4 x5)
      (kernelRun0_B (F := Ideal) c i arg2 harg2 arg3 harg3 arg4 harg4 arg5 harg5 arg6 harg6 arg7 harg7 arg8 harg8 arg9 harg9 hc0 hc1 x0 x1 x2 x3 x4 x5 xs0).1 := by
    unfold kernelRun0_B
    dsimp only
    refine ⟨fun y => ?_, fun y => ?_, fun y => ?_, fun y => ?_, trivial⟩
    · simp only [kernelRun0_B.sl.r_18, kernelRun0_B.sl.r_22, kernelRun0_B.sl.r_19, View.readAt_eq_ld, Memref.IsWhole.read_unread]
      exact (congrFun (store3_eq _ _ _ _ _ _ _ _ _ _ _) y).trans (store_piece _ x0 x1 x2 x3 x4 x5 768 776 774 775 _ _ _ _
        (by decide) (by decide) (by decide) rfl rfl rfl
        (fun r d => load_held arg9.view _ _ (piecesB_5 c arg2 harg2 arg3 harg3 arg5 harg5 arg9 harg9 x0 x1 x3 xs0) 776 _ (fun y h => fillB_5 c arg2 harg2 arg3 harg3 arg5 harg5 arg9 harg9 x0 x1 x3 xs0 y (by omega)) r d)
        (fun r d => load_held arg9.view _ _ (piecesB_5 c arg2 harg2 arg3 harg3 arg5 harg5 arg9 harg9 x0 x1 x3 xs0) 774 _ (fun y h => fillB_5 c arg2 harg2 arg3 harg3 arg5 harg5 arg9 harg9 x0 x1 x3 xs0 y (by omega)) r d)
        (fun r d => load_held arg9.view _ _ (piecesB_5 c arg2 harg2 arg3 harg3 arg5 harg5 arg9 harg9 x0 x1 x3 xs0) 775 _ (fun y h => fillB_5 c arg2 harg2 arg3 harg3 arg5 harg5 arg9 harg9 x0 x1 x3 xs0 y (by omega)) r d) y)
    · simp only [kernelRun0_B.sl.r_12, kernelRun0_B.sl.r_16, kernelRun0_B.sl.r_17, kernelRun0_B.sl.r_13, View.readAt_eq_ld, Memref.IsWhole.read_unread]
      exact (congrFun (store2_eq _ _ _ _ _ _ _ _ _ _ _) y).trans (store_piece _ x0 x1 x2 x3 x4 x5 512 520 518 519 _ _ _ _
        (by decide) (by decide) (by decide) rfl rfl rfl
        (fun r d => load_held arg9.view _ _ (piecesB_4 c arg2 harg2 arg3 harg3 arg5 harg5 arg9 harg9 x0 x1 x3 xs0) 520 _ (fun y h => fillB_4 c arg2 harg2 arg3 harg3 arg5 harg5 arg9 harg9 x0 x1 x3 xs0 y (by omega)) r d)
        (fun r d => load_held arg9.view _ _ (piecesB_4 c arg2 harg2 arg3 harg3 arg5 harg5 arg9 harg9 x0 x1 x3 xs0) 518 _ (fun y h => fillB_4 c arg2 harg2 arg3 harg3 arg5 harg5 arg9 harg9 x0 x1 x3 xs0 y (by omega)) r d)
        (fun r d => load_held arg9.view _ _ (piecesB_4 c arg2 harg2 arg3 harg3 arg5 harg5 arg9 harg9 x0 x1 x3 xs0) 519 _ (fun y h => fillB_4 c arg2 harg2 arg3 harg3 arg5 harg5 arg9 harg9 x0 x1 x3 xs0 y (by omega)) r d) y)
    · simp only [kernelRun0_B.sl.r_6, kernelRun0_B.sl.r_9, kernelRun0_B.sl.r_10, kernelRun0_B.sl.r_11, kernelRun0_B.sl.r_7, View.readAt_eq_ld, Memref.IsWhole.read_unread]
      exact (congrFun (store1_eq _ _ _ _ _ _ _ _ _ _ _) y).trans (store_piece _ x0 x1 x2 x3 x4 x5 256 264 262 263 _ _ _ _
        (by decide) (by decide) (by decide) rfl rfl rfl
        (fun r d => load_held arg9.view _ _ (piecesB_3 c arg2 harg2 arg3 harg3 arg5 harg5 arg9 harg9 x0 x1 x3 xs0) 264 _ (fun y h => fillB_3 c arg2 harg2 arg3 harg3 arg5 harg5 arg9 harg9 x0 x1 x3 xs0 y (by omega)) r d)
        (fun r d => load_held arg9.view _ _ (piecesB_3 c arg2 harg2 arg3 harg3 arg5 harg5 arg9 harg9 x0 x1 x3 xs0) 262 _ (fun y h => fillB_3 c arg2 harg2 arg3 harg3 arg5 harg5 arg9 harg9 x0 x1 x3 xs0 y (by omega)) r d)
        (fun r d => load_held arg9.view _ _ (piecesB_3 c arg2 harg2 arg3 harg3 arg5 harg5 arg9 harg9 x0 x1 x3 xs0) 263 _ (fun y h => fillB_3 c arg2 harg2 arg3 harg3 arg5 harg5 arg9 harg9 x0 x1 x3 xs0 y (by omega)) r d) y)
    · simp only [kernelRun0_B.sl.r, kernelRun0_B.sl.r_3, kernelRun0_B.sl.r_4, kernelRun0_B.sl.r_5, kernelRun0_B.sl.r_1, View.readAt_eq_ld, Memref.IsWhole.read_unread]
      exact (congrFun (store0_eq _ _ _ _ _ _ _ _ _ _ _) y).trans (store_piece _ x0 x1 x2 x3 x4 x5 0 8 6 7 _ _ _ _
        (by decide) (by decide) (by decide) rfl rfl rfl
        (fun r d => load_held arg9.view _ _ (piecesB_2 c arg2 harg2 arg3 harg3 arg5 harg5 arg9 harg9 x0 x1 x3 xs0) 8 _ (fun y h => fillB_2 c arg2 harg2 arg3 harg3 arg5 harg5 arg9 harg9 x0 x1 x3 xs0 y (by omega)) r d)
        (fun r d => load_held arg9.view _ _ (piecesB_2 c arg2 harg2 arg3 harg3 arg5 harg5 arg9 harg9 x0 x1 x3 xs0) 6 _ (fun y h => fillB_2 c arg2 harg2 arg3 harg3 arg5 harg5 arg9 harg9 x0 x1 x3 xs0 y (by omega)) r d)
        (fun r d => load_held arg9.view _ _ (piecesB_2 c arg2 harg2 arg3 harg3 arg5 harg5 arg9 harg9 x0 x1 x3 xs0) 7 _ (fun y h => fillB_2 c arg2 harg2 arg3 harg3 arg5 harg5 arg9 harg9 x0 x1 x3 xs0 y (by omega)) r d) y)
  unfold out0_B_6
  rw [View.read_writes_junk_eq_canon]
  exact funext fun y => View.canon_apply_of_pieces _ _ key.mem y (cover0_B_6 c i arg2 harg2 arg3 harg3 arg4 harg4 arg5 harg5 arg6 harg6 arg7 harg7 arg8 harg8 arg9 harg9 hc0 hc1 x0 x1 x2 x3 x4 x5 xs0 y)

/-- The scratch that the point of a later block leaves. -/
theorem soutB (c : Dev nD) (i : grid0.Coords) (arg2 : Memref sig .tc .vmem S1x1024x1024 .f32) (harg2 : arg2.IsWhole)
    (arg3 : Memref sig .tc .vmem S1x1x1024 .f32) (harg3 : arg3.IsWhole) (arg4 : Memref sig .tc .vmem S1x1x1024 .f32) (harg4 : arg4.IsWhole)
    (arg5 : Memref sig .tc .vmem S1x1024x3072 .bf16) (harg5 : arg5.IsWhole) (arg6 : Memref sig .tc .vmem S1x3x1024 .f32) (harg6 : arg6.IsWhole)
    (arg7 : Memref sig .tc .vmem S1x1024x1024 .bf16) (harg7 : arg7.IsWhole) (arg8 : Memref sig .tc .vmem S1x1024x1024 .f32) (harg8 : arg8.IsWhole)
    (arg9 : Memref sig .tc .vmem S1032x1024 .f32) (harg9 : arg9.IsWhole) (hc0 : ¬cond0_0 i) (hc1 : cond0_1 i)
    (x0 : Vec Ideal S1x1024x1024 .f32) (x1 : Vec Ideal S1x1x1024 .f32) (x2 : Vec Ideal S1x1x1024 .f32) (x3 : Vec Ideal S1x1024x3072 .bf16)
    (x4 : Vec Ideal S1x3x1024 .f32) (x5 : Vec Ideal S1x1024x1024 .bf16) (xs0 : Vec Ideal S1032x1024 .f32) :
    sout0_B_0 (F := Ideal) c i arg2 harg2 arg3 harg3 arg4 harg4 arg5 harg5 arg6 harg6 arg7 harg7 arg8 harg8 arg9 harg9 hc0 hc1 x0 x1 x2 x3 x4 x5 xs0 = heldVec (fun i d => xs0 (ix2 ⟨1024 + i.val, by omega⟩ d)) x0 x1 x3 := by
  unfold sout0_B_0
  rw [View.read_writes_junk_eq_canon]
  have key : View.PiecesOf (heldVec (fun i d => xs0 (ix2 ⟨1024 + i.val, by omega⟩ d)) x0 x1 x3) (kernelRun0_B (F := Ideal) c i arg2 harg2 arg3 harg3 arg4 harg4 arg5 harg5 arg6 harg6 arg7 harg7 arg8 harg8 arg9 harg9 hc0 hc1 x0 x1 x2 x3 x4 x5 xs0).2.1 :=
    piecesB_5 c arg2 harg2 arg3 harg3 arg5 harg5 arg9 harg9 x0 x1 x3 xs0
  exact funext fun y => View.canon_apply_of_pieces _ _ key.mem y (scover0_B_0 c i arg2 harg2 arg3 harg3 arg4 harg4 arg5 harg5 arg6 harg6 arg7 harg7 arg8 harg8 arg9 harg9 hc0 hc1 x0 x1 x2 x3 x4 x5 xs0 y)

end Cert.ConvIdeal.Gen

end
-- ==== Proof.ConvRef.lean ====
/-
  The convolution mixer's reference, entry by entry: at token `n` of a sequence, the layer of ConvRow.lean.
-/
module

public import proofs.«01_k».proof.Proof.ConvRow
public import proofs.«01_k».proof.Proof.Gen.ConvRefIdeal.Run
public import Idealize.ShloMosaic.Lib.KernelVsHost

@[expose] public section

set_option maxRecDepth 16384

noncomputable section

namespace Cert.ConvRefIdeal.Value

open Cert.ConvRefIdeal Cert.ConvRefIdeal.Gen Idealize.ShloMosaic Idealize.SL.Sem Idealize.ShloMosaic.TcCoe

/-- Every row of an array normalised, times a gain row. -/
def norm (x : FVec Ideal S4x8192x1024 .f32) (g : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- The three projections side by side. -/
def projected (y : FVec Ideal S4x8192x1024 .f32) (W : FVec Ideal S1024x3072 .f32) : FVec Ideal S4x8192x3072 .f32 :=
  Host.dotGeneral dot_S4x8192x1024_S1024x3072_S4x8192x3072_2_0_01_1_n_n none y W

/-- The gated rows with two rows of zeros before each sequence. -/
def padded (p : FVec Ideal S4x8192x3072 .f32) : FVec Ideal S4x8194x1024 .f32 :=
  pad S4x8194x1024 ![0, 2, 0] ![0, 0, 0] ![0, 0, 0]
    (mulf (extractStridedSlice S4x8192x1024 ![0, 0, 1024] p slices_S4x8192x3072_S4x8192x1024_0_0_1024)
      (extractStridedSlice S4x8192x1024 ![0, 0, 2048] p slices_S4x8192x3072_S4x8192x1024_0_0_2048))
    (sitofp .f32 (constantI S_ 32 0#32)) pads_S4x8192x1024_S4x8194x1024_000_200_000 h_S_

/-- A tap's row at every token. -/
def spread (w : FVec Ideal S1x1024 .f32) : FVec Ideal S4x8192x1024 .f32 :=
  broadcastInDim S4x8192x1024 ![0, 1, 2] bcast_S1x1x1024_S4x8192x1024_0_1_2 (broadcastInDim S1x1x1024 ![2] bcast_S1024_S1x1x1024_2 (shapeCast S1024 w shapeCasts_S1x1024_S1024))

/-- The convolution of the padded rows with the three taps. -/
def convolved (u : FVec Ideal S4x8194x1024 .f32) (w : FVec Ideal S3x1024 .f32) : FVec Ideal S4x8192x1024 .f32 :=
  addf (addf
      (mulf (spread (extractStridedSlice S1x1024 ![0, 0] w slices_S3x1024_S1x1024_0_0)) (extractStridedSlice S4x8192x1024 ![0, 0, 0] u slices_S4x8194x1024_S4x8192x1024_0_0_0))
      (mulf (spread (extractStridedSlice S1x1024 ![1, 0] w slices_S3x1024_S1x1024_1_0)) (extractStridedSlice S4x8192x1024 ![0, 1, 0] u slices_S4x8194x1024_S4x8192x1024_0_1_0)))
    (mulf (spread (extractStridedSlice S1x1024 ![2, 0] w slices_S3x1024_S1x1024_2_0)) (extractStridedSlice S4x8192x1024 ![0, 2, 0] u slices_S4x8194x1024_S4x8192x1024_0_2_0))

/-- Gain row `i` of layer 1. -/
def gain0 (G : FVec Ideal S4x4x1024 .f32) : FVec Ideal S1024 .f32 :=
  shapeCast S1024 (extractStridedSlice S1x1024 ![0, 0] (shapeCast S4x1024 (extractStridedSlice S1x4x1024 ![1, 0, 0] G slices_S4x4x1024_S1x4x1024_1_0_0) shapeCasts_S1x4x1024_S4x1024) slices_S4x1024_S1x1024_0_0) shapeCasts_S1x1024_S1024

/-- Gain row 1 of layer 1. -/
def gain1 (G : FVec Ideal S4x4x1024 .f32) : FVec Ideal S1024 .f32 :=
  shapeCast S1024 (extractStridedSlice S1x1024 ![1, 0] (shapeCast S4x1024 (extractStridedSlice S1x4x1024 ![1, 0, 0] G slices_S4x4x1024_S1x4x1024_1_0_0) shapeCasts_S1x4x1024_S4x1024) slices_S4x1024_S1x1024_1_0) shapeCasts_S1x1024_S1024

/-- The input weights of layer 1. -/
def weights (W : FVec Ideal S2x1024x3072 .f32) : FVec Ideal S1024x3072 .f32 :=
  shapeCast S1024x3072 (extractStridedSlice S1x1024x3072 ![1, 0, 0] W slices_S2x1024x3072_S1x1024x3072_1_0_0) shapeCasts_S1x1024x3072_S1024x3072

/-- The taps of layer 1. -/
def taps (w : FVec Ideal S2x3x1024 .f32) : FVec Ideal S3x1024 .f32 :=
  shapeCast S3x1024 (extractStridedSlice S1x3x1024 ![1, 0, 0] w slices_S2x3x1024_S1x3x1024_1_0_0) shapeCasts_S1x3x1024_S3x1024

/-- The output weights of layer 1. -/
def outWeights (W : FVec Ideal S2x1024x1024 .f32) : FVec Ideal S1024x1024 .f32 :=
  shapeCast S1024x1024 (extractStridedSlice S1x1024x1024 ![1, 0, 0] W slices_S2x1024x1024_S1x1024x1024_1_0_0) shapeCasts_S1x1024x1024_S1024x1024

/-- The reference's result from its arguments. -/
def result (x : FVec Ideal S4x8192x1024 .f32) (G : FVec Ideal S4x4x1024 .f32) (W : FVec Ideal S2x1024x3072 .f32) (w : FVec Ideal S2x3x1024 .f32)
    (W' : FVec Ideal S2x1024x1024 .f32) : FVec Ideal S4x8192x1024 .f32 :=
  addf x (norm (Host.dotGeneral dot_S4x8192x1024_S1024x1024_S4x8192x1024_2_0_01_1_n_n none
    (mulf (extractStridedSlice S4x8192x1024 ![0, 0, 0] (projected (norm x (gain0 G)) (weights W)) slices_S4x8192x3072_S4x8192x1024_0_0_0)
      (convolved (padded (projected (norm x (gain0 G)) (weights W))) (taps w)))
    (outWeights W')) (gain1 G))

/-- The reference's result is `result` of its arguments. -/
theorem res_eq (m : (ℓ : Loc nD τ sig) → Buf (Elt Ideal) ℓ) (c : Dev nD) :
    res_main_v66 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The normalised array, entry by entry. -/
theorem norm_apply (x : FVec Ideal S4x8192x1024 .f32) (g : FVec Ideal S1024 .f32) (b : Fin 4) (n : Fin 8192) (k : Fin 1024) :
    norm x g (ix3 b n k) = FfnRow.rms (fun i => x (ix3 b n i)) (fun i => g (ix1 i)) k := by
  pointwise [norm]
  rfl

/-- The projections, entry by entry. -/
theorem projected_apply (y : FVec Ideal S4x8192x1024 .f32) (W : FVec Ideal S1024x3072 .f32) (b : Fin 4) (n : Fin 8192) (j : Fin 3072) :
    projected y W (ix3 b n j) = ∑ k : Fin 1024, y (ix3 b n k) * W (ix2 k j) := by
  pointwise [projected]

/-- The padded gated rows, entry by entry. -/
theorem padded_apply (p : FVec Ideal S4x8192x3072 .f32) (b : Fin 4) (n : Fin 8194) (d : Fin 1024) :
    padded p (ix3 b n d) = if h : n.val < 2 then 0 else
      p (ix3 b ⟨n.val - 2, by omega⟩ ⟨1024 + d.val, by omega⟩) * p (ix3 b ⟨n.val - 2, by omega⟩ ⟨2048 + d.val, by omega⟩) := by
  pointwise [padded]
  by_cases h : n.val < 2
  · rw [dif_neg (by omega), dif_pos h]
    exact sitofp_zero
  · rw [dif_pos (by omega), dif_neg h]

/-- The convolution, entry by entry. -/
theorem convolved_apply (u : FVec Ideal S4x8194x1024 .f32) (w : FVec Ideal S3x1024 .f32) (b : Fin 4) (n : Fin 8192) (d : Fin 1024) :
    convolved u w (ix3 b n d) = ConvRow.conv (fun k d => w (ix2 k d)) (fun d => u (ix3 b ⟨n.val, by omega⟩ d)) (fun d => u (ix3 b ⟨1 + n.val, by omega⟩ d))
      (fun d => u (ix3 b ⟨2 + n.val, by omega⟩ d)) d := by
  pointwise [convolved, spread, ConvRow.conv]

/-- The padded gated rows at `n + 2 - back`, as the gated row `back` tokens before token `n`. -/
theorem padded_before (x : FVec Ideal S4x8192x1024 .f32) (G : FVec Ideal S4x4x1024 .f32) (W : FVec Ideal S2x1024x3072 .f32) (b : Fin 4)
    (n : Fin 8192) (back : Nat) (s : Fin 8194) (hs : s.val + back = n.val + 2) (hb : back ≤ 2) (d : Fin 1024) :
    padded (projected (norm x (gain0 G)) (weights W)) (ix3 b s d)
      = ConvRow.before (fun n k => x (ix3 b n k)) (fun k => G (ix3 1 0 k)) (fun k j => W (ix3 1 k ⟨1024 + j.val, by omega⟩))
          (fun k j => W (ix3 1 k ⟨2048 + j.val, by omega⟩)) n back d := by
  rw [padded_apply]
  unfold ConvRow.before
  by_cases h : n.val < back
  · rw [dif_pos (by omega), if_pos h]
  · rw [dif_neg (by omega), if_neg h]
    have e : (⟨s.val - 2, by omega⟩ : Fin 8192) = ⟨n.val - back, by omega⟩ := Fin.ext (by show s.val - 2 = n.val - back; omega)
    rw [e]
    simp only [projected_apply, norm_apply]
    pointwise [gain0, weights]
    rfl

/-- The reference's result at token `n` of sequence `b` is the layer of that token. -/
theorem result_apply (x : FVec Ideal S4x8192x1024 .f32) (G : FVec Ideal S4x4x1024 .f32) (W : FVec Ideal S2x1024x3072 .f32)
    (w : FVec Ideal S2x3x1024 .f32) (W' : FVec Ideal S2x1024x1024 .f32) (b : Fin 4) (n : Fin 8192) (d : Fin 1024) :
    result x G W w W' (ix3 b n d)
      = ConvRow.token (fun n k => x (ix3 b n k)) (fun k => G (ix3 1 0 k)) (fun k => G (ix3 1 1 k)) (fun k j => W (ix3 1 k ⟨j.val, by omega⟩))
          (fun k j => W (ix3 1 k ⟨1024 + j.val, by omega⟩)) (fun k j => W (ix3 1 k ⟨2048 + j.val, by omega⟩)) (fun j d => W' (ix3 1 j d))
          (fun i d => w (ix3 1 i d)) n d := by
  pointwise [result]
  simp only [norm_apply]
  pointwise
  simp only [convolved_apply, projected_apply, norm_apply]
  have e2 : ∀ j : Fin 1024, padded (projected (norm x (gain0 G)) (weights W)) (ix3 b ⟨n.val, by omega⟩ j) = _ := fun j =>
    padded_before x G W b n 2 _ rfl (le_refl 2) j
  have e1 : ∀ j : Fin 1024, padded (projected (norm x (gain0 G)) (weights W)) (ix3 b ⟨1 + n.val, by omega⟩ j) = _ := fun j =>
    padded_before x G W b n 1 _ (by show 1 + n.val + 1 = n.val + 2; omega) (by decide) j
  have e0 : ∀ j : Fin 1024, padded (projected (norm x (gain0 G)) (weights W)) (ix3 b ⟨2 + n.val, by omega⟩ j) = _ := fun j =>
    padded_before x G W b n 0 _ (by show 2 + n.val + 0 = n.val + 2; omega) (by decide) j
  simp only [e0, e1, e2]
  pointwise [gain0, gain1, weights, taps, outWeights]
  rfl

end Cert.ConvRefIdeal.Value

end
-- ==== Proof.ConvValue.lean ====
/-
  The convolution mixer's call: the kernel's result array and the reference's are the same array, token by token the layer
  of ConvRow.lean, and the claim that says so.
-/
module

public import proofs.«01_k».proof.Defs
public import proofs.«01_k».proof.Proof.ConvBlock
public import proofs.«01_k».proof.Proof.ConvRef
public import proofs.«01_k».proof.Proof.Gen.ConvIdeal.Value
public import proofs.«01_k».proof.Proof.Gen.ConvRefIdeal.Run
public import Idealize.ShloMosaic.Lib.Claim

@[expose] public section

set_option maxRecDepth 16384

noncomputable section

namespace Cert.ConvIdeal.RowValue

open Cert.ConvIdeal Cert.ConvIdeal.Gen Idealize.ShloMosaic Idealize.ShloMosaic.TcCoe Idealize.SL.Sem

variable (m : (ℓ : Loc nD τ sig) → Buf (Elt Ideal) ℓ)

/-- The gated row `back` tokens before token `n` of sequence `b`. -/
def earlier (c : Dev nD) (b : Fin 4) (n : Fin 8192) (back : Nat) (d : Fin 1024) : EReal :=
  ConvRow.before (fun n k => m ((c.tc : Thread nD τ).loc main_arg0) (ix3 b n k)) (fun k => m ((c.tc : Thread nD τ).loc main_arg1) (ix3 1 0 k))
    (fun k j => m ((c.tc : Thread nD τ).loc main_arg2) (ix3 1 k ⟨1024 + j.val, by omega⟩))
    (fun k j => m ((c.tc : Thread nD τ).loc main_arg2) (ix3 1 k ⟨2048 + j.val, by omega⟩)) n back d

/-- The kernel's result array: at token `n` of sequence `b` and lane `d`, the layer of that token. -/
def result (c : Dev nD) : Buf (Elt Ideal) ((c.tc : Thread nD τ).loc main_v3) := fun i =>
  ConvRow.token (fun n k => m ((c.tc : Thread nD τ).loc main_arg0) (ix3 (i 0) n k)) (fun k => m ((c.tc : Thread nD τ).loc main_arg1) (ix3 1 0 k)) (fun k => m ((c.tc : Thread nD τ).loc main_arg1) (ix3 1 1 k))
    (fun k j => m ((c.tc : Thread nD τ).loc main_arg2) (ix3 1 k ⟨j.val, by omega⟩))
    (fun k j => m ((c.tc : Thread nD τ).loc main_arg2) (ix3 1 k ⟨1024 + j.val, by omega⟩))
    (fun k j => m ((c.tc : Thread nD τ).loc main_arg2) (ix3 1 k ⟨2048 + j.val, by omega⟩))
    (fun j d => m ((c.tc : Thread nD τ).loc main_arg4) (ix3 1 j d)) (fun i d => m ((c.tc : Thread nD τ).loc main_arg3) (ix3 1 i d)) (i 1) (i 2)

/-- Where each window's block sits in its array at point `t`. -/
theorem index_facts : ∀ t : Fin cfg0.N, win0_0.index t = ![t.val / 8, t.val % 8, 0] ∧ win0_1.index t = ![4, 0, 0] ∧ win0_2.index t = ![5, 0, 0]
    ∧ win0_3.index t = ![1, 0, 0] ∧ win0_4.index t = ![1, 0, 0] ∧ win0_5.index t = ![1, 0, 0] ∧ win0_6.index t = ![t.val / 8, t.val % 8, 0] := by
  decide +kernel

/-- The grid has 32 points. -/
theorem point_lt (t : Fin cfg0.N) : t.val < 32 := t.isLt

/-- Row `r` of the token block at point `t`. -/
theorem tokens_at (c : Dev nD) (t : Fin cfg0.N) (r k : Fin 1024) :
    iblk m c 0 t (ix3 0 r k) = m ((c.tc : Thread nD τ).loc main_arg0) (ix3 ⟨t.val / 8, by have := point_lt t; omega⟩ ⟨t.val % 8 * 1024 + r.val, by omega⟩ k) := by
  obtain ⟨i0, i1, i2, i3, i4, i5, i6⟩ := index_facts t
  blk_ext! [iblk, V, i0]

/-- The first gain at point `t`. -/
theorem gain_at (c : Dev nD) (t : Fin cfg0.N) (k : Fin 1024) : iblk m c 1 t (ix3 0 0 k) = m ((c.tc : Thread nD τ).loc main_arg1) (ix3 1 0 k) := by
  obtain ⟨i0, i1, i2, i3, i4, i5, i6⟩ := index_facts t
  blk_ext! [iblk, V, i1]

/-- The second gain at point `t`. -/
theorem gain'_at (c : Dev nD) (t : Fin cfg0.N) (k : Fin 1024) : iblk m c 2 t (ix3 0 0 k) = m ((c.tc : Thread nD τ).loc main_arg1) (ix3 1 1 k) := by
  obtain ⟨i0, i1, i2, i3, i4, i5, i6⟩ := index_facts t
  blk_ext! [iblk, V, i2]

/-- The projection's weights at point `t`. -/
theorem weights_at (c : Dev nD) (t : Fin cfg0.N) (k : Fin 1024) (j : Fin 3072) : iblk m c 3 t (ix3 0 k j) = m ((c.tc : Thread nD τ).loc main_arg2) (ix3 1 k j) := by
  obtain ⟨i0, i1, i2, i3, i4, i5, i6⟩ := index_facts t
  blk_ext! [iblk, V, i3]

/-- The taps at point `t`. -/
theorem taps_at (c : Dev nD) (t : Fin cfg0.N) (i : Fin 3) (d : Fin 1024) : iblk m c 4 t (ix3 0 i d) = m ((c.tc : Thread nD τ).loc main_arg3) (ix3 1 i d) := by
  obtain ⟨i0, i1, i2, i3, i4, i5, i6⟩ := index_facts t
  blk_ext! [iblk, V, i4]

/-- The output projection's weights at point `t`. -/
theorem outWeights_at (c : Dev nD) (t : Fin cfg0.N) (j d : Fin 1024) : iblk m c 5 t (ix3 0 j d) = m ((c.tc : Thread nD τ).loc main_arg4) (ix3 1 j d) := by
  obtain ⟨i0, i1, i2, i3, i4, i5, i6⟩ := index_facts t
  blk_ext! [iblk, V, i5]

/-- Row `r` of the gated block at point `t`, as the gated row `back` tokens before token `n`, where that is the row. -/
theorem gate_at (c : Dev nD) (t : Fin cfg0.N) (r d : Fin 1024) (b : Fin 4) (n : Fin 8192) (back : Nat) (hb : b.val = t.val / 8)
    (hn : n.val = t.val % 8 * 1024 + r.val + back) :
    gate (iblk m c 0 t) (iblk m c 1 t) (iblk m c 3 t) r d = earlier m c b n back d := by
  unfold gate earlier ConvRow.before
  rw [if_neg (by omega)]
  simp only [tokens_at, gain_at, weights_at]
  have e : (⟨n.val - back, by omega⟩ : Fin 8192) = ⟨t.val % 8 * 1024 + r.val, by omega⟩ := Fin.ext (by show n.val - back = t.val % 8 * 1024 + r.val; omega)
  rw [e]
  have e' : (⟨t.val / 8, by have := point_lt t; omega⟩ : Fin 4) = b := Fin.ext hb.symm
  rw [e']

/-- The scratch's last eight rows after point `t` are the last eight gated rows of its block. -/
theorem carried (c : Dev nD) (t : Fin cfg0.N) (i : Fin 8) (d : Fin 1024) :
    (outsAt0 m c t.val t.isLt).2 (ix2 ⟨1024 + i.val, by omega⟩ d)
      = gate (iblk m c 0 t) (iblk m c 1 t) (iblk m c 3 t) ⟨1016 + i.val, by omega⟩ d := by
  have key : ∀ top, heldVec top (iblk m c 0 t) (iblk m c 1 t) (iblk m c 3 t) (ix2 ⟨1024 + i.val, by omega⟩ d)
      = gate (iblk m c 0 t) (iblk m c 1 t) (iblk m c 3 t) ⟨1016 + i.val, by omega⟩ d := fun top => by
    show held top _ _ _ ⟨1024 + i.val, by omega⟩ d = _
    unfold held
    rw [dif_neg (by show ¬1024 + i.val < 8; omega)]
    congr 1
    exact Fin.ext (by show 1024 + i.val - 8 = 1016 + i.val; omega)
  by_cases h0 : t.val % 8 = 0
  · rw [outsAt0_A m c t h0 (by omega)]
    dsimp only
    rw [soutA]
    exact key _
  · rw [outsAt0_B m c t h0 (by omega)]
    dsimp only
    rw [soutB]
    exact key _

/-- Row `R` of the scratch at point `t`, when its first eight rows are the gated rows before the block: the gated row
    `back` tokens before the block's row `r`, where `R + back` is `8 + r`. -/
theorem held_at (c : Dev nD) (t : Fin cfg0.N) (top : Fin 8 → Fin 1024 → EReal)
    (htop : ∀ (i : Fin 8) (d : Fin 1024) (n : Fin 8192) (back : Nat), n.val + 8 = t.val % 8 * 1024 + i.val + back →
      n.val < t.val % 8 * 1024 + back → top i d = earlier m c ⟨t.val / 8, by have := point_lt t; omega⟩ n back d)
    (R : Fin 1032) (d : Fin 1024) (n : Fin 8192) (back : Nat) (h : n.val + 8 = t.val % 8 * 1024 + R.val + back) :
    heldVec top (iblk m c 0 t) (iblk m c 1 t) (iblk m c 3 t) (ix2 R d) = earlier m c ⟨t.val / 8, by have := point_lt t; omega⟩ n back d := by
  show held top _ _ _ R d = _
  unfold held
  by_cases h8 : R.val < 8
  · rw [dif_pos h8]
    exact htop _ d n back h (by omega)
  · rw [dif_neg h8]
    exact gate_at m c t _ d _ n back rfl (by show n.val = t.val % 8 * 1024 + (R.val - 8) + back; omega)

/-- What point `t` stores: row `r` is the layer of the token at that row. -/
theorem stored (c : Dev nD) (t : Fin cfg0.N) (r d : Fin 1024) :
    (outsAt0 m c t.val t.isLt).1 (ix3 0 r d)
      = result m c (ix3 ⟨t.val / 8, by have := point_lt t; omega⟩ ⟨t.val % 8 * 1024 + r.val, by omega⟩ d) := by
  have key : ∀ top : Fin 8 → Fin 1024 → EReal,
      (∀ (i : Fin 8) (d : Fin 1024) (n : Fin 8192) (back : Nat), n.val + 8 = t.val % 8 * 1024 + i.val + back →
        n.val < t.val % 8 * 1024 + back → top i d = earlier m c ⟨t.val / 8, by have := point_lt t; omega⟩ n back d) →
      blockVec (heldVec top (iblk m c 0 t) (iblk m c 1 t) (iblk m c 3 t)) (iblk m c 0 t) (iblk m c 1 t) (iblk m c 2 t) (iblk m c 3 t)
          (iblk m c 4 t) (iblk m c 5 t) (ix3 0 r d)
        = result m c (ix3 ⟨t.val / 8, by have := point_lt t; omega⟩ ⟨t.val % 8 * 1024 + r.val, by omega⟩ d) := fun top htop => by
    show block _ _ _ _ _ _ _ r d = _
    unfold block result ConvRow.token
    have e2 : ∀ d, heldVec top (iblk m c 0 t) (iblk m c 1 t) (iblk m c 3 t) (ix2 ⟨6 + r.val, by omega⟩ d) = _ := fun d =>
      held_at m c t top htop ⟨6 + r.val, by omega⟩ d ⟨t.val % 8 * 1024 + r.val, by omega⟩ 2 (by show t.val % 8 * 1024 + r.val + 8 = t.val % 8 * 1024 + (6 + r.val) + 2; omega)
    have e1 : ∀ d, heldVec top (iblk m c 0 t) (iblk m c 1 t) (iblk m c 3 t) (ix2 ⟨7 + r.val, by omega⟩ d) = _ := fun d =>
      held_at m c t top htop ⟨7 + r.val, by omega⟩ d ⟨t.val % 8 * 1024 + r.val, by omega⟩ 1 (by show t.val % 8 * 1024 + r.val + 8 = t.val % 8 * 1024 + (7 + r.val) + 1; omega)
    have e0 : ∀ d, heldVec top (iblk m c 0 t) (iblk m c 1 t) (iblk m c 3 t) (ix2 ⟨8 + r.val, by omega⟩ d) = _ := fun d =>
      held_at m c t top htop ⟨8 + r.val, by omega⟩ d ⟨t.val % 8 * 1024 + r.val, by omega⟩ 0 (by show t.val % 8 * 1024 + r.val + 8 = t.val % 8 * 1024 + (8 + r.val) + 0; omega)
    simp only [e0, e1, e2, tokens_at, gain_at, gain'_at, weights_at, taps_at, outWeights_at]
    rfl
  by_cases h0 : t.val % 8 = 0
  · rw [outsAt0_A m c t h0 (by omega)]
    dsimp only
    rw [outA]
    refine key _ fun i d n back h hlt => ?_
    unfold earlier ConvRow.before
    rw [if_pos (by omega)]
  · rw [outsAt0_B m c t h0 (by omega)]
    dsimp only
    rw [outB]
    refine key _ fun i d n back h hlt => ?_
    have ht := point_lt t
    refine (carried m c ⟨t.val - 1, by have := t.isLt; omega⟩ i d).trans (gate_at m c _ _ d _ n back ?_ ?_)
    · show t.val / 8 = (t.val - 1) / 8
      omega
    · show n.val = (t.val - 1) % 8 * 1024 + (1016 + i.val) + back
      omega

/-- The result array after the run is `result`: point `t` writes rows `1024 (t % 8)` to `1024 (t % 8) + 1023` of sequence
    `t / 8`. -/
theorem final (c : Dev nD) : (dats m 0 c).arrAt 6 cfg0.N = result m c := by
  refine (dats m 0 c).arrAt_eq_of_covers 6 _ (by decide +kernel) fun t hf y => ?_
  idx_vars y
  rw [after0_6, show y0 = 0 from Subsingleton.elim _ _]
  obtain ⟨i0, i1, i2, i3, i4, i5, i6⟩ := index_facts t
  refine (stored m c t y1 y2).trans (congrArg (result m c) ?_)
  blk_ext! [i6]

end Cert.ConvIdeal.RowValue

namespace Cert.ConvIdeal

open Idealize.ShloMosaic Idealize.ShloMosaic.TcCoe Idealize.SL.Sem

/-- The convolution mixer's kernel and the reference, run on the same arguments, end with the same result array. -/
theorem algebraic : Cert.algebraic_ConvIdeal_ConvRefIdeal (hConvIdeal := Cert.ConvIdeal.Gen.facts) (hConvRefIdeal := Cert.ConvRefIdeal.Gen.facts) := by
  intro m g m' g' _ hagree
  refine ⟨RowValue.result m, ?_, ?_⟩
  · refine (θ_run _ _ _).mono (fun r h c => ?_) (Cert.ConvIdeal.Value.run_blocks (F := Ideal) m g)
    exact ⟨(h c).1.trans (RowValue.final m c), (h c).2⟩
  · refine (θ_run _ _ _).mono (fun r h c => ?_) (Cert.ConvRefIdeal.Value.run (F := Ideal) m' g')
    refine ⟨(h c).1.trans ?_, (h c).2⟩
    obtain ⟨h0, h1, h2, h3, h4⟩ := hagree c
    rw [Cert.ConvRefIdeal.Value.res_eq, h0, h1, h2, h3, h4]
    funext i
    obtain ⟨b, n, d, rfl⟩ : ∃ (b : Fin 4) (n : Fin 8192) (d : Fin 1024), i = ix3 b n d := ⟨i 0, i 1, i 2, eq_ix3 i⟩
    exact Cert.ConvRefIdeal.Value.result_apply _ _ _ _ _ b n d

end Cert.ConvIdeal

end
-- ==== Proof.Attn4Ref.lean ====
/-
  The reference's attention at dilation four, staged: the blocks of keys and values with the block before them, the mask, the scores, and the
  two results read at an index as rows of AttnRow.lean.
-/
module

public import proofs.«01_k».proof.Proof.AttnRef
public import proofs.«01_k».proof.Proof.Gen.Attn4RefIdeal.Run
public import Idealize.ShloMosaic.Lib.Pointwise

@[expose] public section

set_option maxRecDepth 16384

noncomputable section

open Idealize.ShloMosaic

namespace Cert.Attn4Spec

open Cert.AttnSpec (word band)

/-- The distance of query `u` from key `j`. -/
def dist (u : Fin 128) (j : Fin 256) : EReal := FloatOps.sitofp (F := Ideal) .f32 (IntOp.muli (word u j) 4#32)

/-- Whether query `u` of block `n` of a strided sequence sees key `j`: it is in the window, and not before the sequence. -/
def Valid (n : Fin 16) (u : Fin 128) (j : Fin 256) : Prop := band u j = 1#1 ∧ ¬(n.val = 0 ∧ j.val < 128)

instance (n : Fin 16) (u : Fin 128) (j : Fin 256) : Decidable (Valid n u j) := inferInstanceAs (Decidable (_ ∧ _))

/-- Row `j` of block `n` with the block before it, of the positions of sequence `b` of `x` that are `r` modulo four; zeros
    before the sequence. -/
def keyAt (x : (⟨3, ![4, 8192, 1024]⟩ : Shape).Idx → EReal) (b : Fin 4) (n : Fin 16) (r : Fin 4) (j : Fin 256) (l : Fin 1024) : EReal :=
  if h : n.val * 128 + j.val < 128 then 0 else x (ix3 b ⟨(n.val * 128 + j.val - 128) * 4 + r.val, by omega⟩ l)

/-- The scores of query `u` of block `n` of strided sequence `r` of `b` at head `h`: minus infinity for the keys it does not
    see. -/
def row (q k : (⟨3, ![4, 8192, 1024]⟩ : Shape).Idx → EReal) (a : (⟨1, ![16]⟩ : Shape).Idx → EReal) (b : Fin 4) (n : Fin 16) (r : Fin 4) (u : Fin 128)
    (h : Fin 16) : Fin 256 → EReal := fun j =>
  if Valid n u j then AttnRow.score (fun e => q (ix3 b ⟨n.val * 512 + u.val * 4 + r.val, by omega⟩ ⟨h.val * 64 + e.val, by omega⟩))
    (fun e => keyAt k b n r j ⟨h.val * 64 + e.val, by omega⟩) (a (ix1 h)) (dist u j)
  else ⊥

end Cert.Attn4Spec

namespace Cert.Attn4RefIdeal.Value

open Cert.Attn4RefIdeal Cert.Attn4RefIdeal.Gen Idealize.ShloMosaic.TcCoe Idealize.SL.Sem Cert.Attn4Spec
open Cert.AttnSpec (word band)

/-- The blocks of an array. -/
def blocks (x : FVec Ideal S4x8192x1024 .f32) : FVec Ideal S4x16x128x4x16x64 .f32 :=
  shapeCast S4x16x128x4x16x64 (shapeCast S4x8192x16x64 x shapeCasts_S4x8192x1024_S4x8192x16x64) shapeCasts_S4x8192x16x64_S4x16x128x4x16x64

/-- The blocks before the blocks of an array, zeros before the first. -/
def prevs (x : FVec Ideal S4x8192x1024 .f32) : FVec Ideal S4x16x128x4x16x64 .f32 :=
  concatenate S4x16x128x4x16x64 1 [⟨S4x1x128x4x16x64, broadcastInDim S4x1x128x4x16x64 ![] bcast_S_S4x1x128x4x16x64 (constant S_ .f32 0x00000000#32)⟩,
    ⟨S4x15x128x4x16x64, extractStridedSlice S4x15x128x4x16x64 ![0, 0, 0, 0, 0, 0] (blocks x) slices_S4x16x128x4x16x64_S4x15x128x4x16x64_0_0_0_0_0_0⟩]
    concatenates_S4x1x128x4x16x64_S4x15x128x4x16x64_S4x16x128x4x16x64_d1

/-- The blocks of an array, each with the block before it. -/
def cat (x : FVec Ideal S4x8192x1024 .f32) : FVec Ideal S4x16x256x4x16x64 .f32 :=
  concatenate S4x16x256x4x16x64 2 [⟨S4x16x128x4x16x64, prevs x⟩, ⟨S4x16x128x4x16x64, blocks x⟩]
    concatenates_S4x16x128x4x16x64_S4x16x128x4x16x64_S4x16x256x4x16x64_d2

/-- The blocked array, entry by entry. -/
theorem blocks_apply (x : FVec Ideal S4x8192x1024 .f32) (b : Fin 4) (n : Fin 16) (r : Fin 4) (u : Fin 128) (h : Fin 16) (e : Fin 64) :
    blocks x (ix6 b n u r h e) = x (ix3 b ⟨n.val * 512 + u.val * 4 + r.val, by omega⟩ ⟨h.val * 64 + e.val, by omega⟩) := by
  pointwise [blocks]

/-- The blocks moved by one, with zeros before the first. -/
theorem prevs_apply (x : FVec Ideal S4x8192x1024 .f32) (b : Fin 4) (n : Fin 16) (r : Fin 4) (u : Fin 128) (h : Fin 16) (e : Fin 64) :
    prevs x (ix6 b n u r h e) = keyAt x b n r ⟨u.val, by omega⟩ ⟨h.val * 64 + e.val, by omega⟩ := by
  pointwise [prevs]
  rw [keyAt]
  by_cases h0 : n.val < 1
  · rw [dif_pos h0, dif_pos (by simp; omega)]
  · rw [dif_neg h0, dif_neg (by simp; omega), blocks_apply]
    exact congrArg x (congrArg₂ (ix3 b) (Fin.ext (by simp; omega)) rfl)

/-- A block together with the one before it, entry by entry. -/
theorem cat_apply (x : FVec Ideal S4x8192x1024 .f32) (b : Fin 4) (n : Fin 16) (r : Fin 4) (j : Fin 256) (h : Fin 16) (e : Fin 64) :
    cat x (ix6 b n j r h e) = keyAt x b n r j ⟨h.val * 64 + e.val, by omega⟩ := by
  pointwise [cat]
  rw [keyAt]
  by_cases h0 : j.val < 128
  · rw [dif_pos h0, prevs_apply, keyAt]
  · rw [dif_neg h0, dif_neg (by omega), blocks_apply]
    exact congrArg x (congrArg₂ (ix3 b) (Fin.ext (by simp; omega)) rfl)

/-- The distances, as words. -/
def words : IVec S128x256 32 :=
  subi (broadcastInDim S128x256 ![0, 1] bcast_S128x1_S128x256_0_1 (addi (broadcastInDim S128x1 ![0] bcast_S128_S128x1_0 (iotaInDim S128 32 0))
    (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The table of distances between a query and a key of its two blocks. -/
theorem words_apply (u : Fin 128) (j : Fin 256) : words (ix2 u j) = word u j := by
  pointwise [words, word]

/-- Who sees whom, as bits. -/
def mask : IVec S16x128x256 1 :=
  andi (broadcastInDim S16x128x256 ![0, 1, 2] bcast_S1x128x256_S16x128x256_0_1_2 (broadcastInDim S1x128x256 ![1, 2] bcast_S128x256_S1x128x256_1_2
      (andi (cmpi .sge words (broadcastInDim S128x256 ![] bcast_S_S128x256 (constantI S_ 32 0#32)))
        (cmpi .sle words (broadcastInDim S128x256 ![] bcast_S_S128x256 (constantI S_ 32 128#32))))))
    (broadcastInDim S16x128x256 ![0, 1, 2] bcast_S16x1x256_S16x128x256_0_1_2 (noti (andi
      (broadcastInDim S16x1x256 ![0, 1, 2] bcast_S16x1x1_S16x1x256_0_1_2 (broadcastInDim S16x1x1 ![0] bcast_S16_S16x1x1_0
        (cmpi .eq (iotaInDim S16 32 0) (broadcastInDim S16 ![] bcast_S_S16 (constantI S_ 32 0#32)))))
      (broadcastInDim S16x1x256 ![0, 1, 2] bcast_S1x1x256_S16x1x256_0_1_2 (broadcastInDim S1x1x256 ![1, 2] bcast_S1x256_S1x1x256_1_2
        (cmpi .slt (broadcastInDim S1x256 ![1] bcast_S256_S1x256_1 (iotaInDim S256 32 0)) (broadcastInDim S1x256 ![] bcast_S_S1x256 (constantI S_ 32 128#32))))))))

/-- The mask holds where the pair is valid. -/
theorem mask_apply (n : Fin 16) (u : Fin 128) (j : Fin 256) : mask (ix3 n u j) = if Valid n u j then 1#1 else 0#1 := by
  pointwise [mask, words_apply]
  have e1 : ∀ n : Fin 16, IntOp.cmpi .eq (BitVec.ofNat 32 n.val) 0#32 = if n.val = 0 then 1#1 else 0#1 := by decide +kernel
  have e2 : ∀ j : Fin 256, IntOp.cmpi .slt (BitVec.ofNat 32 j.val) 128#32 = if j.val < 128 then 1#1 else 0#1 := by decide +kernel
  have e3 : ∀ (w : BitVec 1) (p q : Prop) [Decidable p] [Decidable q],
      IntOp.andi w (~~~IntOp.andi (if p then 1#1 else 0#1) (if q then 1#1 else 0#1)) = if w = 1#1 ∧ ¬(p ∧ q) then 1#1 else 0#1 := fun w p q _ _ => by
    have h : w = 0#1 ∨ w = 1#1 := by revert w; decide
    rcases h with h | h <;> subst h <;> by_cases hp : p <;> by_cases hq : q <;> simp [hp, hq, IntOp.andi]
  rw [e1, e2]
  exact (e3 (band u j) _ _).trans (if_congr Iff.rfl rfl rfl)

/-- The scores. -/
def scores (q k : FVec Ideal S4x8192x1024 .f32) (a : FVec Ideal S16 .f32) : FVec Ideal S4x16x4x16x128x256 .f32 :=
  select (broadcastInDim S4x16x4x16x128x256 ![1, 2, 3, 4, 5] bcast_S16x1x1x128x256_S4x16x4x16x128x256_1_2_3_4_5
      (broadcastInDim S16x1x1x128x256 ![0, 3, 4] bcast_S16x128x256_S16x1x1x128x256_0_3_4 mask))
    (addf (Host.dotGeneral dot_S4x16x128x4x16x64_S4x16x256x4x16x64_S4x16x4x16x128x256_5_5_2_2_0134_0134 none
        (shapeCast S4x16x128x4x16x64 (mulf (shapeCast S4x8192x16x64 q shapeCasts_S4x8192x1024_S4x8192x16x64)
          (broadcastInDim S4x8192x16x64 ![] bcast_S_S4x8192x16x64 (constant S_ .f32 0x3E000000#32))) shapeCasts_S4x8192x16x64_S4x16x128x4x16x64) (cat k))
      (broadcastInDim S4x16x4x16x128x256 ![0, 1, 2, 3, 4, 5] bcast_S1x1x1x16x128x256_S4x16x4x16x128x256_0_1_2_3_4_5
        (broadcastInDim S1x1x1x16x128x256 ![3, 4, 5] bcast_S16x128x256_S1x1x1x16x128x256_3_4_5
          (mulf (broadcastInDim S16x128x256 ![0, 1, 2] bcast_S16x1x1_S16x128x256_0_1_2 (Host.negf (broadcastInDim S16x1x1 ![0] bcast_S16_S16x1x1_0 a)))
            (broadcastInDim S16x128x256 ![0, 1, 2] bcast_S1x128x256_S16x128x256_0_1_2 (broadcastInDim S1x128x256 ![1, 2] bcast_S128x256_S1x128x256_1_2
              (sitofp .f32 (muli words (broadcastInDim S128x256 ![] bcast_S_S128x256 (constantI S_ 32 4#32))))))))))
    (broadcastInDim S4x16x4x16x128x256 ![] bcast_S_S4x16x4x16x128x256 (id (constant S_ .f32 0xFF800000#32)))

/-- The masked scores, entry by entry: the row of the specification. -/
theorem scores_apply (q k : FVec Ideal S4x8192x1024 .f32) (a : FVec Ideal S16 .f32) (b : Fin 4) (n : Fin 16) (r : Fin 4) (h : Fin 16) (u : Fin 128) (j : Fin 256) :
    scores q k a (ix6 b n r h u j) = row q k a b n r u h j := by
  pointwise [scores, mask_apply, cat_apply, words_apply]
  have e8 : Ideal.ofBits .f32 0x3E000000#32 = ((1 / 8 : ℝ) : EReal) := by
    have h : ((8388608 : ℝ) : EReal) * ((1 / 67108864 : ℝ) : EReal) = ((1 / 8 : ℝ) : EReal) := by
      rw [← EReal.coe_mul]; norm_num
    refine Eq.trans ?_ h
    simp [Ideal.ofBits, Ideal.ieee]
    norm_num
  have em : Ideal.ofBits .f32 0xFF800000#32 = ⊥ := by simp [Ideal.ofBits, Ideal.ieee]
  rw [row, e8]
  by_cases hv : Valid n u j
  · rw [if_pos hv, if_pos hv, Scalar.select, if_pos (by decide)]
    rfl
  · rw [if_neg hv, if_neg hv, Scalar.select, if_neg (by decide)]
    exact em

/-- The largest score of a row. -/
def tops (s : FVec Ideal S4x16x4x16x128x256 .f32) : FVec Ideal S4x16x4x16x128x1 .f32 :=
  broadcastInDim S4x16x4x16x128x1 ![0, 1, 2, 3, 4] bcast_S4x16x4x16x128_S4x16x4x16x128x1_0_1_2_3_4
    (Host.reduce FloatOps.maximumf s (constant S_ .f32 0xFF800000#32) reducesTo_S4x16x4x16x128x256_S4x16x4x16x128_d5 h_S_)

/-- The weights. -/
def weights (s : FVec Ideal S4x16x4x16x128x256 .f32) : FVec Ideal S4x16x4x16x128x256 .f32 :=
  Host.exp (subf s (broadcastInDim S4x16x4x16x128x256 ![0, 1, 2, 3, 4, 5] bcast_S4x16x4x16x128x1_S4x16x4x16x128x256_0_1_2_3_4_5 (tops s)))

/-- The sums of the weights. -/
def dens (p : FVec Ideal S4x16x4x16x128x256 .f32) : FVec Ideal S4x16x4x16x128x1 .f32 :=
  broadcastInDim S4x16x4x16x128x1 ![0, 1, 2, 3, 4] bcast_S4x16x4x16x128_S4x16x4x16x128x1_0_1_2_3_4
    (Host.reduceAdd p (constant S_ .f32 0x00000000#32) reducesTo_S4x16x4x16x128x256_S4x16x4x16x128_d5 h_S_)

/-- The weighted sums of the values. -/
def nums (v : FVec Ideal S4x8192x1024 .f32) (p : FVec Ideal S4x16x4x16x128x256 .f32) : FVec Ideal S4x16x4x16x64x128 .f32 :=
  Host.dotGeneral dot_S4x16x256x4x16x64_S4x16x4x16x128x256_S4x16x4x16x64x128_2_5_5_4_0134_0123 none (cat v) p

/-- The scores of a row are those at its indices. -/
theorem row_indices (b : Fin 4) (n : Fin 16) (r : Fin 4) (h : Fin 16) (u : Fin 128) (i : S4x16x4x16x128x256.Idx) :
    reducesTo_S4x16x4x16x128x256_S4x16x4x16x128_d5.drop i = ix5 b n r h u ↔ ∃ j : Fin 256, ix6 b n r h u j = i := by
  idx_vars i
  constructor
  · intro e
    refine ⟨i5, ?_⟩
    have e0 : i0 = b := congrFun e 0
    have e1 : i1 = n := congrFun e 1
    have e2 : i2 = r := congrFun e 2
    have e3 : i3 = h := congrFun e 3
    have e4 : i4 = u := congrFun e 4
    rw [e0, e1, e2, e3, e4]
  · rintro ⟨j, e⟩
    rw [← e]
    funext a
    match a with
    | 0 => rfl
    | 1 => rfl
    | 2 => rfl
    | 3 => rfl
    | 4 => rfl

/-- The indices of a row are distinct. -/
theorem last_inj (b : Fin 4) (n : Fin 16) (r : Fin 4) (h : Fin 16) (u : Fin 128) :
    Function.Injective fun j : Fin 256 => (ix6 b n r h u j : S4x16x4x16x128x256.Idx) := fun _ _ e => congrFun e 5

/-- The greatest score of each row. -/
theorem tops_apply (s : FVec Ideal S4x16x4x16x128x256 .f32) (b : Fin 4) (n : Fin 16) (r : Fin 4) (h : Fin 16) (u : Fin 128) :
    tops s (ix6 b n r h u 0) = AttnRow.top fun j : Fin 256 => s (ix6 b n r h u j) := by
  have em : Ideal.ofBits .f32 0xFF800000#32 = ⊥ := by simp [Ideal.ofBits, Ideal.ieee]
  pointwise [tops]
  rw [em]
  exact Finset.fold_filter_eq_fold_of_fiber _ _ (fun j : Fin 256 => ix6 b n r h u j) (last_inj b n r h u) (row_indices b n r h u) _ _

/-- The weight of each key. -/
theorem weights_apply (s : FVec Ideal S4x16x4x16x128x256 .f32) (b : Fin 4) (n : Fin 16) (r : Fin 4) (h : Fin 16) (u : Fin 128) (j : Fin 256) :
    weights s (ix6 b n r h u j) = AttnRow.weight (fun j : Fin 256 => s (ix6 b n r h u j)) j := by
  pointwise [weights, tops_apply]
  rfl

/-- The sum of the weights of each row. -/
theorem dens_apply (s : FVec Ideal S4x16x4x16x128x256 .f32) (b : Fin 4) (n : Fin 16) (r : Fin 4) (h : Fin 16) (u : Fin 128) :
    dens (weights s) (ix6 b n r h u 0) = AttnRow.den fun j : Fin 256 => s (ix6 b n r h u j) := by
  pointwise [dens]
  refine (zero_add _).trans ((Finset.sum_filter_eq_sum_of_fiber _ (fun j : Fin 256 => ix6 b n r h u j) (last_inj b n r h u) (row_indices b n r h u) _).trans ?_)
  exact Finset.sum_congr rfl fun j _ => weights_apply s b n r h u j

/-- The weighted sum of the values of each row. -/
theorem nums_apply (v : FVec Ideal S4x8192x1024 .f32) (s : FVec Ideal S4x16x4x16x128x256 .f32) (b : Fin 4) (n : Fin 16) (r : Fin 4) (h : Fin 16) (e : Fin 64)
    (u : Fin 128) : nums v (weights s) (ix6 b n r h e u) =
      AttnRow.num (fun j : Fin 256 => s (ix6 b n r h u j)) fun j => keyAt v b n r j ⟨h.val * 64 + e.val, by omega⟩ := by
  pointwise [nums, weights_apply, cat_apply]
  exact Finset.sum_congr rfl fun j _ => mul_comm _ _

/-- The first result: the weighted sums, a row per position. -/
def sums (q k v : FVec Ideal S4x8192x1024 .f32) (a : FVec Ideal S16 .f32) : FVec Ideal S8192x4096 .bf16 :=
  truncf .bf16 (shapeCast S8192x4096 (transpose S4x16x128x4x16x64 [0, 1, 5, 2, 3, 4] (nums v (weights (scores q k a)))
    transposes_S4x16x4x16x64x128_S4x16x128x4x16x64_0_1_5_2_3_4) shapeCasts_S4x16x128x4x16x64_S8192x4096) bitsLt_bf16_f32

/-- A number for each head and query, a row per position. -/
def perHead (x : FVec Ideal S4x16x4x16x128x1 .f32) : FVec Ideal S8192x4x16 .f32 :=
  shapeCast S8192x4x16 (transpose S4x16x128x4x16 [0, 1, 4, 2, 3] (shapeCast S4x16x4x16x128 x shapeCasts_S4x16x4x16x128x1_S4x16x4x16x128)
    transposes_S4x16x4x16x128_S4x16x128x4x16_0_1_4_2_3) shapeCasts_S4x16x128x4x16_S8192x4x16

/-- The second result: the largest scores over the logarithm of two, the sums of the weights, and zeros. -/
def stats (q k : FVec Ideal S4x8192x1024 .f32) (a : FVec Ideal S16 .f32) : FVec Ideal S8192x512 .f32 :=
  shapeCast S8192x512 (concatenate S8192x4x128 2 [⟨S8192x4x16, Host.divf (perHead (tops (scores q k a)))
      (broadcastInDim S8192x4x16 ![] bcast_S_S8192x4x16 (id (Host.log (constant S_ .f32 0x40000000#32))))⟩,
    ⟨S8192x4x16, perHead (dens (weights (scores q k a)))⟩,
    ⟨S8192x4x96, broadcastInDim S8192x4x96 ![] bcast_S_S8192x4x96 (constant S_ .f32 0x00000000#32)⟩]
    concatenates_S8192x4x16_S8192x4x16_S8192x4x96_S8192x4x128_d2) shapeCasts_S8192x4x128_S8192x512

/-- A per-head array laid out by rows of the sequence. -/
theorem perHead_apply (x : FVec Ideal S4x16x4x16x128x1 .f32) (R : Fin 8192) (r : Fin 4) (h : Fin 16) :
    perHead x (ix3 R r h) = x (ix6 ⟨R.val / 2048, by omega⟩ ⟨R.val / 128 % 16, by omega⟩ r h ⟨R.val % 128, by omega⟩ 0) := by
  pointwise [perHead]

/-- The first result, at position `R` and lane `L`. -/
theorem sums_apply (q k v : FVec Ideal S4x8192x1024 .f32) (a : FVec Ideal S16 .f32) (R : Fin 8192) (L : Fin 4096) :
    sums q k v a (ix2 R L) = AttnRow.num (row q k a ⟨R.val / 2048, by omega⟩ ⟨R.val / 128 % 16, by omega⟩ ⟨L.val / 1024, by omega⟩ ⟨R.val % 128, by omega⟩ ⟨L.val / 64 % 16, by omega⟩)
      fun j => keyAt v ⟨R.val / 2048, by omega⟩ ⟨R.val / 128 % 16, by omega⟩ ⟨L.val / 1024, by omega⟩ j ⟨L.val % 1024, by omega⟩ := by
  pointwise [sums]
  rw [nums_apply]
  refine congrArg₂ AttnRow.num (funext fun j => scores_apply q k a _ _ _ _ _ j) (funext fun j => congrArg (keyAt v _ _ _ j) (Fin.ext ?_))
  simp; omega

/-- The second result, at position `R` and lane `l`. -/
theorem stats_apply (q k : FVec Ideal S4x8192x1024 .f32) (a : FVec Ideal S16 .f32) (R : Fin 8192) (l : Fin 512) :
    stats q k a (ix2 R l) =
      if h : l.val % 128 < 16 then AttnRow.perLog2 * AttnRow.top
        (row q k a ⟨R.val / 2048, by omega⟩ ⟨R.val / 128 % 16, by omega⟩ ⟨l.val / 128, by omega⟩ ⟨R.val % 128, by omega⟩ ⟨l.val % 128, h⟩)
      else if h : l.val % 128 < 32 then AttnRow.den
        (row q k a ⟨R.val / 2048, by omega⟩ ⟨R.val / 128 % 16, by omega⟩ ⟨l.val / 128, by omega⟩ ⟨R.val % 128, by omega⟩ ⟨l.val % 128 - 16, by omega⟩)
      else 0 := by
  pointwise [stats]
  have el : ∀ x : EReal, Ideal.div x (Ideal.log (Ideal.ofBits .f32 0x40000000#32)) = AttnRow.perLog2 * x := fun x => by
    have e2 : Ideal.ofBits .f32 0x40000000#32 = ((2 : ℝ) : EReal) := by
      have h : ((8388608 : ℝ) : EReal) * ((1 / 4194304 : ℝ) : EReal) = ((2 : ℝ) : EReal) := by
        rw [← EReal.coe_mul]; norm_num
      refine Eq.trans ?_ h
      simp [Ideal.ofBits, Ideal.ieee]
      norm_num
    rw [e2, Ideal.log_coe, if_neg (by norm_num), Ideal.div_coe AttnRow.log2_pos.ne', mul_comm, one_div]
    rfl
  by_cases h0 : l.val % 128 < 16
  · rw [dif_pos h0, dif_pos h0, perHead_apply, tops_apply]
    refine (el _).trans (congrArg (AttnRow.perLog2 * ·) (congrArg AttnRow.top (funext fun j => scores_apply q k a _ _ _ _ _ j)))
  · rw [dif_neg h0, dif_neg h0]
    by_cases h1 : l.val % 128 < 32
    · rw [dif_pos h1, dif_pos (by omega), perHead_apply, dens_apply]
      exact congrArg AttnRow.den (funext fun j => scores_apply q k a _ _ _ _ _ j)
    · rw [dif_neg h1, dif_neg (by omega)]

/-- The reference's first result is the array of weighted sums. -/
theorem res_sums (m : (ℓ : Loc nD τ sig) → Buf (Elt Ideal) ℓ) (c : Dev nD) :
    res_main_v84 (F := Ideal) m c = sums (m ((c.tc : Thread nD τ).loc main_arg0)) (m ((c.tc : Thread nD τ).loc main_arg1))
      (m ((c.tc : Thread nD τ).loc main_arg2)) (m ((c.tc : Thread nD τ).loc main_arg3)) := rfl

/-- The reference's second result is the array of statistics. -/
theorem res_stats (m : (ℓ : Loc nD τ sig) → Buf (Elt Ideal) ℓ) (c : Dev nD) :
    res_main_v85 (F := Ideal) m c = stats (m ((c.tc : Thread nD τ).loc main_arg0)) (m ((c.tc : Thread nD τ).loc main_arg1))
      (m ((c.tc : Thread nD τ).loc main_arg3)) := rfl

end Cert.Attn4RefIdeal.Value

end
-- ==== Proof.Attn4Host.lean ====
/-
  The arrays the attention kernel at dilation four is launched on: the scaled queries, the keys, the values and the bias tables, read at an
  index.
-/
module

public import proofs.«01_k».proof.Proof.Attn4Ref
public import proofs.«01_k».proof.Proof.Gen.Attn4Ideal.Value
public import Idealize.ShloMosaic.Lib.Pipeline.ValueKit
public import Idealize.ShloMosaic.Lib.Pointwise

@[expose] public section

set_option maxRecDepth 16384

noncomputable section

namespace Cert.Attn4Ideal.Arrays

open Cert.Attn4Ideal Cert.Attn4Ideal.Gen Idealize.ShloMosaic Idealize.ShloMosaic.TcCoe Idealize.SL.Sem Cert.Attn4Spec
open Cert.AttnSpec (word band)

/-- The logarithm of two. -/
def log2 : FVec Ideal S_ .f32 := Host.log (constant S_ .f32 0x40000000#32)

/-- Dividing by it is multiplying by `perLog2`. -/
theorem div_log2 (x : EReal) : Ideal.div x (log2 ix0) = AttnRow.perLog2 * x := by
  have e2 : Ideal.ofBits .f32 0x40000000#32 = ((2 : ℝ) : EReal) := by
    have h : ((8388608 : ℝ) : EReal) * ((1 / 4194304 : ℝ) : EReal) = ((2 : ℝ) : EReal) := by
      rw [← EReal.coe_mul]; norm_num
    refine Eq.trans ?_ h
    simp [Ideal.ofBits, Ideal.ieee]
    norm_num
  show Ideal.div x (Ideal.log (Ideal.ofBits .f32 0x40000000#32)) = _
  rw [e2, Ideal.log_coe, if_neg (by norm_num), Ideal.div_coe AttnRow.log2_pos.ne', mul_comm, one_div]
  rfl

/-- The queries, scaled. -/
def scaled (q : FVec Ideal S4x8192x1024 .f32) : FVec Ideal S8192x4096 .bf16 :=
  shapeCast S8192x4096 (truncf .bf16 (mulf q (broadcastInDim S4x8192x1024 ![] bcast_S_S4x8192x1024
    (id (Host.divf (constant S_ .f32 0x3E000000#32) log2)))) bitsLt_bf16_f32) shapeCasts_S4x8192x1024_S8192x4096

/-- The keys, or the values. -/
def flat (k : FVec Ideal S4x8192x1024 .f32) : FVec Ideal S8192x4096 .bf16 :=
  shapeCast S8192x4096 (truncf .bf16 k bitsLt_bf16_f32) shapeCasts_S4x8192x1024_S8192x4096

/-- The scaled queries, entry by entry: the query over eight logarithms of two. -/
theorem scaled_apply (q : FVec Ideal S4x8192x1024 .f32) (N : Fin 8192) (L : Fin 4096) :
    scaled q (ix2 N L) = q (ix3 ⟨N.val / 2048, by omega⟩ ⟨N.val % 2048 * 4 + L.val / 1024, by omega⟩ ⟨L.val % 1024, by omega⟩) * (((8 * Real.log 2)⁻¹ : ℝ) : EReal) := by
  have e8 : Ideal.ofBits .f32 0x3E000000#32 = ((1 / 8 : ℝ) : EReal) := by
    have h : ((8388608 : ℝ) : EReal) * ((1 / 67108864 : ℝ) : EReal) = ((1 / 8 : ℝ) : EReal) := by
      rw [← EReal.coe_mul]; norm_num
    refine Eq.trans ?_ h
    simp [Ideal.ofBits, Ideal.ieee]
    norm_num
  pointwise [scaled]
  refine congrArg (_ * ·) ?_
  show Ideal.div (Ideal.ofBits .f32 0x3E000000#32) (log2 ix0) = _
  rw [div_log2, e8, AttnRow.perLog2, ← EReal.coe_mul]
  exact congrArg _ (by rw [mul_inv]; ring)

/-- The keys or values as rows, entry by entry. -/
theorem flat_apply (k : FVec Ideal S4x8192x1024 .f32) (N : Fin 8192) (L : Fin 4096) :
    flat k (ix2 N L) = k (ix3 ⟨N.val / 2048, by omega⟩ ⟨N.val % 2048 * 4 + L.val / 1024, by omega⟩ ⟨L.val % 1024, by omega⟩) := by
  pointwise [flat]

/-- The distances, as words. -/
def words : IVec S128x256 32 :=
  subi (addi (iotaInDim S128x256 32 0) (broadcastInDim S128x256 ![] bcast_S_S128x256 (constantI S_ 32 128#32))) (iotaInDim S128x256 32 1)

/-- The table of distances between a query and a key of its two blocks. -/
theorem words_apply (u : Fin 128) (j : Fin 256) : words (ix2 u j) = word u j := by
  pointwise [words, word]

/-- The window, as bits. -/
def bands : IVec S128x256 1 :=
  andi (cmpi .sge words (broadcastInDim S128x256 ![] bcast_S_S128x256 (constantI S_ 32 0#32)))
    (cmpi .sle words (broadcastInDim S128x256 ![] bcast_S_S128x256 (constantI S_ 32 128#32)))

/-- The table of pairs whose distance lies in the window. -/
theorem bands_apply (u : Fin 128) (j : Fin 256) : bands (ix2 u j) = band u j := by
  pointwise [bands, words_apply]
  rfl

/-- The biases, before masking. -/
def biases (a : FVec Ideal S16 .f32) : FVec Ideal S16x128x256 .f32 :=
  Host.divf (mulf (broadcastInDim S16x128x256 ![0, 1, 2] bcast_S16x1x1_S16x128x256_0_1_2 (Host.negf (broadcastInDim S16x1x1 ![0] bcast_S16_S16x1x1_0 a)))
      (broadcastInDim S16x128x256 ![0, 1, 2] bcast_S1x128x256_S16x128x256_0_1_2 (broadcastInDim S1x128x256 ![1, 2] bcast_S128x256_S1x128x256_1_2
        (sitofp .f32 (muli words (broadcastInDim S128x256 ![] bcast_S_S128x256 (constantI S_ 32 4#32)))))))
    (broadcastInDim S16x128x256 ![] bcast_S_S16x128x256 (id log2))

/-- The bias of a head at a pair, in units of the logarithm of two. -/
theorem biases_apply (a : FVec Ideal S16 .f32) (h : Fin 16) (u : Fin 128) (j : Fin 256) :
    biases a (ix3 h u j) = -a (ix1 h) * dist u j * AttnRow.perLog2 := by
  pointwise [biases, words_apply]
  exact (div_log2 _).trans (mul_comm _ _)

/-- The biases where the bits `w` are set, minus infinity elsewhere. -/
def masked (w : IVec S128x256 1) (a : FVec Ideal S16 .f32) : FVec Ideal S16x128x256 .f32 :=
  select (broadcastInDim S16x128x256 ![0, 1, 2] bcast_S1x128x256_S16x128x256_0_1_2 (broadcastInDim S1x128x256 ![1, 2] bcast_S128x256_S1x128x256_1_2 w))
    (biases a) (broadcastInDim S16x128x256 ![] bcast_S_S16x128x256 (id (constant S_ .f32 0xFF800000#32)))

/-- A bias table is the bias where the mask holds and minus infinity elsewhere. -/
theorem masked_apply (w : IVec S128x256 1) (a : FVec Ideal S16 .f32) (h : Fin 16) (u : Fin 128) (j : Fin 256) :
    masked w a (ix3 h u j) = if w (ix2 u j) = 1#1 then -a (ix1 h) * dist u j * AttnRow.perLog2 else ⊥ := by
  have em : Ideal.ofBits .f32 0xFF800000#32 = ⊥ := by simp [Ideal.ofBits, Ideal.ieee]
  pointwise [masked, biases_apply]
  rw [Scalar.select]
  exact if_congr Iff.rfl rfl em

/-- The two bias tables: a sequence's first block's and the later blocks'. -/
def tables (a : FVec Ideal S16 .f32) : FVec Ideal S2x8x256x256 .f32 :=
  shapeCast S2x8x256x256 (concatenate S2x16x128x256 0
    [⟨S1x16x128x256, broadcastInDim S1x16x128x256 ![1, 2, 3] bcast_S16x128x256_S1x16x128x256_1_2_3
        (masked (andi bands (cmpi .sge (iotaInDim S128x256 32 1) (broadcastInDim S128x256 ![] bcast_S_S128x256 (constantI S_ 32 128#32)))) a)⟩,
      ⟨S1x16x128x256, broadcastInDim S1x16x128x256 ![1, 2, 3] bcast_S16x128x256_S1x16x128x256_1_2_3 (masked bands a)⟩]
    concatenates_S1x16x128x256_S1x16x128x256_S2x16x128x256_d0) shapeCasts_S2x16x128x256_S2x8x256x256

/-- The two bias tables, entry by entry: the first one also masks the block before the sequence. -/
theorem tables_apply (a : FVec Ideal S16 .f32) (tb : Fin 2) (p : Fin 8) (R j : Fin 256) :
    tables a (ix4 tb p R j) = if band ⟨R.val % 128, by omega⟩ j = 1#1 ∧ ¬(tb.val = 0 ∧ j.val < 128)
      then -a (ix1 ⟨p.val * 2 + R.val / 128, by omega⟩) * dist ⟨R.val % 128, by omega⟩ j * AttnRow.perLog2 else ⊥ := by
  have e2 : ∀ j : Fin 256, IntOp.cmpi .sge (BitVec.ofNat 32 j.val) 128#32 = if j.val < 128 then 0#1 else 1#1 := by decide +kernel
  have e3 : ∀ (w : BitVec 1) (q : Prop) [Decidable q], IntOp.andi w (if q then 0#1 else 1#1) = 1#1 ↔ w = 1#1 ∧ ¬q := fun w q _ => by
    have h : w = 0#1 ∨ w = 1#1 := by revert w; decide
    rcases h with h | h <;> subst h <;> by_cases hq : q <;> simp [hq, IntOp.andi]
  pointwise [tables]
  by_cases h0 : tb.val < 1
  · rw [dif_pos (by omega), masked_apply]
    pointwise [bands_apply]
    rw [e2]
    exact if_congr ((e3 _ _).trans (and_congr Iff.rfl (not_congr ⟨fun h => ⟨by omega, h⟩, fun h => h.2⟩))) rfl rfl
  · rw [dif_neg (by omega), masked_apply, bands_apply]
    exact if_congr ⟨fun h => ⟨h, fun h' => h0 (by omega)⟩, fun h => h.1⟩ rfl rfl

variable (m : (ℓ : Loc nD τ sig) → Buf (Elt Ideal) ℓ)

/-- The region finds the scaled queries. -/
theorem V_q (c : Dev nD) : V m c main_v6 = scaled (m ((c.tc : Thread nD τ).loc main_arg0)) := by
  unfold V
  simp only [hostOps0, hostOps0_1, hostOps0_2, hostOps0_3, hostOps0_4, List.flatten_cons, List.flatten_nil, List.append_nil, List.cons_append, List.nil_append]
  after_results
  rfl

/-- The region finds the keys. -/
theorem V_k (c : Dev nD) : V m c main_v8 = flat (m ((c.tc : Thread nD τ).loc main_arg1)) := by
  unfold V
  simp only [hostOps0, hostOps0_1, hostOps0_2, hostOps0_3, hostOps0_4, List.flatten_cons, List.flatten_nil, List.append_nil, List.cons_append, List.nil_append]
  after_results
  rfl

/-- The region finds the values. -/
theorem V_v (c : Dev nD) : V m c main_v10 = flat (m ((c.tc : Thread nD τ).loc main_arg2)) := by
  unfold V
  simp only [hostOps0, hostOps0_1, hostOps0_2, hostOps0_3, hostOps0_4, List.flatten_cons, List.flatten_nil, List.append_nil, List.cons_append, List.nil_append]
  after_results
  rfl

/-- The region finds the bias tables. -/
theorem V_b (c : Dev nD) : V m c main_v44 = tables (m ((c.tc : Thread nD τ).loc main_arg3)) := by
  unfold V
  simp only [hostOps0, hostOps0_1, hostOps0_2, hostOps0_3, hostOps0_4, List.flatten_cons, List.flatten_nil, List.append_nil, List.cons_append, List.nil_append]
  after_results
  rfl

end Cert.Attn4Ideal.Arrays

end
-- ==== Proof.Attn4Tile.lean ====
/-
  The tiles of the attention kernel at dilation four: what one pair of heads computes from a tile of 128 queries and the 256 keys around it,
  read at an index.
-/
module

public import proofs.«01_k».proof.Proof.Gen.Attn4Ideal.Value
public import proofs.«01_k».proof.Proof.AttnRow
public import Idealize.ShloMosaic.Lib.Pipeline.ValueKit
public import Idealize.ShloMosaic.Lib.Pointwise

@[expose] public section

set_option maxRecDepth 16384

noncomputable section

namespace Cert.Attn4Ideal.Tile

open Cert.Attn4Ideal Cert.Attn4Ideal.Gen Idealize.ShloMosaic Idealize.ShloMosaic.TcCoe Idealize.SL.Sem

/-- Choosing by "lane below 64". -/
theorem select_lane (l : Fin 128) (a b : EReal) :
    Scalar.select (IntOp.cmpi .slt (BitVec.ofNat 32 l.val) 64#32) a b = if l.val < 64 then a else b := by
  have h : IntOp.cmpi .slt (BitVec.ofNat 32 l.val) 64#32 = if l.val < 64 then 1#1 else 0#1 := by revert l; decide
  rw [h]
  split <;> rfl

/-- Choosing by "lane equal to `n`". -/
theorem select_eq (n l : Fin 128) (a b : EReal) :
    Scalar.select (IntOp.cmpi .eq (BitVec.ofNat 32 l.val) (BitVec.ofNat 32 n.val)) a b = if l = n then a else b := by
  have h : IntOp.cmpi .eq (BitVec.ofNat 32 l.val) (BitVec.ofNat 32 n.val) = if l = n then 1#1 else 0#1 := by
    revert n l; decide +kernel
  rw [h]
  split <;> rfl

variable (q : Vec Ideal S128x128 .bf16) (k v : FVec Ideal S256x128 .bf16) (b : Vec Ideal S1x1x256x256 .f32)

/-- The scores of a pair of heads: rows 0–127 the first head's, rows 128–255 the second's. -/
def scores : FVec Ideal S256x256 .f32 := k0_pay17 k0_pay2 (k0_pay14 q) k (Scalar.ofBits .bf16 0x0000#16) b

/-- The largest score of each row. -/
def maxima : FVec Ideal S256x1 .f32 := k0_pay18 k0_pay2 (k0_pay14 q) k (Scalar.ofBits .bf16 0x0000#16) b

/-- The weights. -/
def weights : FVec Ideal S256x256 .f32 := k0_pay19 k0_pay2 (k0_pay14 q) k (Scalar.ofBits .bf16 0x0000#16) b

/-- The sum of each row's weights. -/
def sums : FVec Ideal S256x1 .f32 := k0_pay20 k0_pay2 (k0_pay14 q) k (Scalar.ofBits .bf16 0x0000#16) b

/-- The tile stored: the weighted sums of the values, the lanes of each head from its own rows. -/
def out : FVec Ideal S128x128 .bf16 := k0_pay21 k0_pay2 (k0_pay14 q) k v (Scalar.ofBits .bf16 0x0000#16) b

/-- The zero that fills the other head's lanes. -/
theorem zero_word : (Scalar.ofBits .bf16 0x0000#16 : Ideal .bf16) = (0 : EReal) := Ideal.ofBits_zero_bf16

/-- The same scores as the kernel writes them for its first head pair. -/
theorem scores_eq : scores q k b = k0_pay17 k0_pay2 (k0_pay14 q) k (0 : EReal) b := by unfold scores; rw [zero_word]
/-- The same maxima as the kernel writes them for its first head pair. -/
theorem maxima_eq : maxima q k b = k0_pay18 k0_pay2 (k0_pay14 q) k (0 : EReal) b := by unfold maxima; rw [zero_word]
/-- The same weights as the kernel writes them for its first head pair. -/
theorem weights_eq : weights q k b = k0_pay19 k0_pay2 (k0_pay14 q) k (0 : EReal) b := by unfold weights; rw [zero_word]
/-- The same sums as the kernel writes them for its first head pair. -/
theorem sums_eq : sums q k b = k0_pay20 k0_pay2 (k0_pay14 q) k (0 : EReal) b := by unfold sums; rw [zero_word]
/-- The same result as the kernel writes them for its first head pair. -/
theorem out_eq : out q k v b = k0_pay21 k0_pay2 (k0_pay14 q) k v (0 : EReal) b := by unfold out; rw [zero_word]

/-- A score is the product over the head's 64 lanes plus the bias: the other head's lanes hold zeros. -/
theorem scores_apply (r : Fin 128) (h : Fin 2) (j : Fin 256) :
    scores q k b (ix2 ⟨h.val * 128 + r.val, by omega⟩ j)
      = (∑ e : Fin 64, q (ix2 r ⟨h.val * 64 + e.val, by omega⟩) * k (ix2 j ⟨h.val * 64 + e.val, by omega⟩))
        + b (ix4 0 0 ⟨h.val * 128 + r.val, by omega⟩ j) := by
  rw [scores_eq]
  pointwise [k0_pay17, k0_pay2, k0_pay14]
  congr 1
  simp only [select_lane]
  rw [Fin.sum_univ_add (a := 64) (b := 64)]
  fin_vals h with hk
  · simp [hk]
    rfl
  · simp [hk]
    refine Finset.sum_congr rfl fun e _ => ?_
    have he : e.addNat 64 = (⟨64 + e.val, by omega⟩ : Fin 128) := Fin.ext (by simp [add_comm])
    rw [he]

/-- The largest score of a row. -/
theorem maxima_apply (r : Fin 256) : maxima q k b (ix2 r 0) = AttnRow.top fun j => scores q k b (ix2 r j) := by
  rw [maxima_eq, scores_eq]
  pointwise [k0_pay18]
  rw [show Ideal.ofBits .f32 0xFF800000#32 = ⊥ from by simp [Ideal.ofBits, Ideal.ieee]]
  rfl

/-- A weight. -/
theorem weights_apply (r j : Fin 256) : weights q k b (ix2 r j) = AttnRow.weight2 (fun j => scores q k b (ix2 r j)) j := by
  have h := maxima_apply q k b r
  rw [maxima_eq, scores_eq] at h
  rw [weights_eq, scores_eq]
  pointwise [k0_pay19]
  rw [h]
  rfl

/-- The sum of a row's weights. -/
theorem sums_apply (r : Fin 256) : sums q k b (ix2 r 0) = AttnRow.den2 fun j => scores q k b (ix2 r j) := by
  have h := weights_apply q k b r
  rw [weights_eq] at h
  rw [sums_eq]
  pointwise [k0_pay20]
  simp only [h]
  rfl

/-- A lane of the stored tile: the weighted sum of the values of its lane by the weights of its head. -/
theorem out_apply (r l : Fin 128) :
    out q k v b (ix2 r l) = AttnRow.num2 (fun j => scores q k b (ix2 ⟨l.val / 64 * 128 + r.val, by omega⟩ j)) fun j => v (ix2 j l) := by
  have h := weights_apply q k b
  rw [weights_eq] at h
  rw [out_eq]
  pointwise [k0_pay21]
  simp only [h]
  have h2 : k0_pay2 (ix2 r l) = IntOp.cmpi .slt (BitVec.ofNat 32 l.val) 64#32 := by
    pointwise [k0_pay2]
  rw [h2, select_lane]
  split
  · have e : (⟨l.val / 64 * 128 + r.val, by omega⟩ : Fin 256) = ⟨r.val, by omega⟩ := Fin.ext (by simp only []; omega)
    rw [e]
    rfl
  · have e : (⟨l.val / 64 * 128 + r.val, by omega⟩ : Fin 256) = ⟨128 + r.val, by omega⟩ := Fin.ext (by simp only []; omega)
    rw [e]
    rfl

/-- A tile of statistics with two more lanes written: lane `a` from the first head's rows of `x`, lane `a'` from the second's. -/
def put (a a' : BitVec 32) (x : FVec Ideal S256x1 .f32) (t : FVec Ideal S128x128 .f32) : FVec Ideal S128x128 .f32 :=
  select (cmpi .eq (iota .tc S128x128 32 [1] iota_S128x128_d1_w32) (broadcast S128x128 a'))
    (broadcastTo S128x128 (shapeCast S128x1 (extractStridedSlice S128x1 ![128, 0] x slices_S256x1_o128_0_S128x1) shapeCasts_S128x1_S128x1) broadcasts_S128x1_S128x128)
    (select (cmpi .eq (iota .tc S128x128 32 [1] iota_S128x128_d1_w32) (broadcast S128x128 a))
      (broadcastTo S128x128 (shapeCast S128x1 (extractStridedSlice S128x1 ![0, 0] x slices_S256x1_o0_0_S128x1) shapeCasts_S128x1_S128x1) broadcasts_S128x1_S128x128)
      t)

/-- A lane of a tile with two more lanes written. -/
theorem put_apply (n n' : Fin 128) (x : FVec Ideal S256x1 .f32) (t : FVec Ideal S128x128 .f32) (r l : Fin 128) :
    put (BitVec.ofNat 32 n.val) (BitVec.ofNat 32 n'.val) x t (ix2 r l)
      = if l = n' then x (ix2 ⟨128 + r.val, by omega⟩ 0) else if l = n then x (ix2 ⟨r.val, by omega⟩ 0) else t (ix2 r l) := by
  unfold put
  pointwise
  rw [select_eq, select_eq]

/-- The lanes from `o` on written one pair of heads after the other, `p` pairs. -/
def chain (o : Nat) (x : Fin 8 → FVec Ideal S256x1 .f32) (t : FVec Ideal S128x128 .f32) : Nat → FVec Ideal S128x128 .f32
  | 0 => t
  | p + 1 => put (BitVec.ofNat 32 (o + 2 * p)) (BitVec.ofNat 32 (o + (2 * p + 1))) (x (Fin.ofNat 8 p)) (chain o x t p)

/-- A lane of the chain: lane `o + 2 p + h` holds head `h` of pair `p`; the others are as before. -/
theorem chain_apply (o : Nat) (ho : o + 16 ≤ 128) (x : Fin 8 → FVec Ideal S256x1 .f32) (t : FVec Ideal S128x128 .f32) (r l : Fin 128) :
    ∀ p : Nat, p ≤ 8 → chain o x t p (ix2 r l)
      = if h : o ≤ l.val ∧ l.val < o + 2 * p then
          x (Fin.ofNat 8 ((l.val - o) / 2)) (ix2 ⟨(l.val - o) % 2 * 128 + r.val, by omega⟩ 0)
        else t (ix2 r l)
  | 0, _ => by rw [chain, dif_neg (by omega)]
  | p + 1, hp => by
    have e := put_apply ⟨o + 2 * p, by omega⟩ ⟨o + (2 * p + 1), by omega⟩ (x (Fin.ofNat 8 p)) (chain o x t p) r l
    simp only [] at e
    rw [chain, e, chain_apply o ho x t r l p (by omega)]
    simp only [Fin.ext_iff]
    by_cases h1 : l.val = o + (2 * p + 1)
    · rw [if_pos h1, dif_pos (by omega)]
      have e1 : (l.val - o) / 2 = p := by omega
      have e2 : (⟨(l.val - o) % 2 * 128 + r.val, by omega⟩ : Fin 256) = ⟨128 + r.val, by omega⟩ := Fin.ext (by simp only []; omega)
      rw [e2, e1]
    · rw [if_neg h1]
      by_cases h0 : l.val = o + 2 * p
      · rw [if_pos h0, dif_pos (by omega)]
        have e1 : (l.val - o) / 2 = p := by omega
        have e2 : (⟨(l.val - o) % 2 * 128 + r.val, by omega⟩ : Fin 256) = ⟨r.val, by omega⟩ := Fin.ext (by simp only []; omega)
        rw [e2, e1]
      · rw [if_neg h0]
        by_cases h : o ≤ l.val ∧ l.val < o + 2 * p
        · rw [dif_pos h, dif_pos (by omega)]
        · rw [dif_neg h, dif_neg (by omega)]

/-- The tile of statistics of 128 queries: the maxima of the 16 heads, then their sums, then zeros. -/
def stats (m d : Fin 8 → FVec Ideal S256x1 .f32) : FVec Ideal S128x128 .f32 :=
  select (cmpi .slt (iota .tc S128x128 32 [1] iota_S128x128_d1_w32) (broadcast S128x128 16#32))
    (chain 0 m k0_pay3 8) (chain 16 d k0_pay4 8)

/-- A lane of the tile of statistics. -/
theorem stats_apply (m d : Fin 8 → FVec Ideal S256x1 .f32) (r l : Fin 128) :
    stats m d (ix2 r l) = if l.val < 16 then m (Fin.ofNat 8 (l.val / 2)) (ix2 ⟨l.val % 2 * 128 + r.val, by omega⟩ 0)
      else if l.val < 32 then d (Fin.ofNat 8 ((l.val - 16) / 2)) (ix2 ⟨(l.val - 16) % 2 * 128 + r.val, by omega⟩ 0) else 0 := by
  have hl : IntOp.cmpi .slt (BitVec.ofNat 32 l.val) 16#32 = if l.val < 16 then 1#1 else 0#1 := by revert l; decide
  unfold stats
  pointwise
  rw [chain_apply 0 (by omega) m _ r l 8 (by omega), chain_apply 16 (by omega) d _ r l 8 (by omega), hl]
  by_cases h : l.val < 16
  · simp [h, Scalar.select]
  · by_cases h' : l.val < 32
    · simp [h, h', Scalar.select, show 16 ≤ l.val by omega]
    · simp [h, h', Scalar.select]
      pointwise [k0_pay4]

end Cert.Attn4Ideal.Tile

end
-- ==== Proof.Attn4Block.lean ====
/-
  One grid point of the attention kernel at dilation four: what its stores leave in the block of weighted sums and in the block of
  statistics, as functions of the blocks it loads.
-/
module

public import proofs.«01_k».proof.Proof.Attn4Tile
public import Idealize.ShloMosaic.Lib.WholeRead
public import Idealize.ShloMosaic.Lib.Pipeline.ReadBack

@[expose] public section

set_option maxRecDepth 16384

noncomputable section

namespace Cert.Attn4Ideal.Tile

open Cert.Attn4Ideal Cert.Attn4Ideal.Gen Idealize.ShloMosaic Idealize.ShloMosaic.TcCoe Idealize.SL.Sem

/-- The 256 key (or value) rows around block `sb` of 128 queries: the 128 before it and its own, those before the tile from
    `xp`. -/
def around (xp : Vec Ideal S128x1024 .bf16) (x : Vec Ideal S2048x1024 .bf16) (sb : Fin 16) (j : Fin 256) (l : Fin 1024) : EReal :=
  if h : sb.val * 128 + j.val < 128 then xp (ix2 ⟨sb.val * 128 + j.val, h⟩ l) else x (ix2 ⟨sb.val * 128 + j.val - 128, by omega⟩ l)

/-- The block of 128 queries that row `R` of a tile is in. -/
def sub (R : Fin 2048) : Fin 16 := ⟨R.val / 128, by omega⟩

/-- The bias table of row block `sb`: the table of sequence starts for the first block of a sequence's first tile. -/
def tableOf (tb : Fin 2) (sb : Fin 16) : Fin 2 := if sb.val = 0 then tb else 1

variable (xq : Vec Ideal S2048x1024 .bf16) (xkp : Vec Ideal S128x1024 .bf16) (xk : Vec Ideal S2048x1024 .bf16)
  (xvp : Vec Ideal S128x1024 .bf16) (xv : Vec Ideal S2048x1024 .bf16) (xb : Vec Ideal S2x8x256x256 .f32) (tb : Fin 2)

/-- The score of the query at row `R` of a tile and head `h` against key `j`. -/
def rowScore (R : Fin 2048) (h : Fin 16) (j : Fin 256) : EReal :=
  (∑ e : Fin 64, xq (ix2 R ⟨h.val * 64 + e.val, by omega⟩) * around xkp xk (sub R) j ⟨h.val * 64 + e.val, by omega⟩)
    + xb (ix4 (tableOf tb (sub R)) ⟨h.val / 2, by omega⟩ ⟨h.val % 2 * 128 + R.val % 128, by omega⟩ j)

/-- The weighted sum at row `R` and lane `L` of the block. -/
def sumsAt (R : Fin 2048) (L : Fin 1024) : EReal :=
  AttnRow.num2 (rowScore xq xkp xk xb tb R ⟨L.val / 64, by omega⟩) fun j => around xvp xv (sub R) j L

/-- The block of weighted sums. -/
def sumsBlock (y : S2048x1024.Idx) : EReal := sumsAt xq xkp xk xvp xv xb tb (y 0) (y 1)

/-- The statistic at row `R` and lane `l` of the block: lanes 0–15 the largest scores of the 16 heads, lanes 16–31 the sums
    of their weights, then zeros. -/
def statsAt (R : Fin 2048) (l : Fin 128) : EReal :=
  if h : l.val < 16 then AttnRow.top (rowScore xq xkp xk xb tb R ⟨l.val, h⟩)
  else if h : l.val < 32 then AttnRow.den2 (rowScore xq xkp xk xb tb R ⟨l.val - 16, by omega⟩)
  else 0

/-- The block of statistics. -/
def statsBlock (y : S2048x128.Idx) : EReal := statsAt xq xkp xk xb tb (y 0) (y 1)

/-- A tile loaded from a whole two-axis buffer, read at an index. -/
theorem read_tile {e : EltTy} {M N a b : Nat} {arg : Memref sig .tc .vmem ⟨2, ![M, N]⟩ e} (harg : arg.IsWhole)
    (X : Vec Ideal ⟨2, ![M, N]⟩ e) (o cl : Nat)
    (inb : ∀ i, (![o, cl] : Fin 2 → Nat) i + (![a, b] : Fin 2 → Nat) i ≤ (⟨2, ![M, N]⟩ : Shape).size i) (r : Fin a) (l : Fin b)
    (hr : o + r.val < M) (hl : cl + l.val < N) :
    View.readAt (Elt Ideal) arg.view (Rect.unit (s := ⟨2, ![M, N]⟩) ![o, cl] ![a, b] inb).toLoadRect (harg.unread X) (ix2 r l)
      = X (ix2 ⟨o + r.val, hr⟩ ⟨cl + l.val, hl⟩) := by
  rw [harg.readAt_unread]
  refine congrArg X (funext fun i => ?_)
  revert i
  exact Fin.forall_fin_two.mpr ⟨Fin.ext (by simp), Fin.ext (by simp)⟩

/-- A bias table loaded from the tables, read at an index. -/
theorem read_bias {arg : Memref sig .tc .vmem S2x8x256x256 .f32} (harg : arg.IsWhole) (X : Vec Ideal S2x8x256x256 .f32)
    (off : Fin 4 → Nat) (t : Fin 2) (p : Fin 8) (ho : off = ![t.val, p.val, 0, 0])
    (inb : ∀ i, off i + (![1, 1, 256, 256] : Fin 4 → Nat) i ≤ S2x8x256x256.size i) (r j : Fin 256) :
    View.readAt (Elt Ideal) arg.view (Rect.unit (s := S2x8x256x256) off ![1, 1, 256, 256] inb).toLoadRect (harg.unread X) (ix4 0 0 r j)
      = X (ix4 t p r j) := by
  subst ho
  rw [harg.readAt_unread]
  refine congrArg X (funext fun i => ?_)
  fin_cases i <;> exact Fin.ext (by simp)

/-- Two tiles of 128 rows joined, read at an index. -/
theorem join_apply (a b : Vec Ideal S128x128 .bf16) (j : Fin 256) (l : Fin 128) :
    k0_pay5 a b (ix2 j l) = if h : j.val < 128 then a (ix2 ⟨j.val, h⟩ l) else b (ix2 ⟨j.val - 128, by omega⟩ l) := by
  pointwise [k0_pay5]

/-- The scores of one tile are those of its rows and heads of the block. -/
theorem scores_eq_block (sb : Fin 16) (p : Fin 8) (q : Vec Ideal S128x128 .bf16) (k : FVec Ideal S256x128 .bf16) (b : Vec Ideal S1x1x256x256 .f32)
    (hq : ∀ r l : Fin 128, q (ix2 r l) = xq (ix2 ⟨sb.val * 128 + r.val, by omega⟩ ⟨p.val * 128 + l.val, by omega⟩))
    (hk : ∀ (j : Fin 256) (l : Fin 128), k (ix2 j l) = around xkp xk sb j ⟨p.val * 128 + l.val, by omega⟩)
    (hb : ∀ r j : Fin 256, b (ix4 0 0 r j) = xb (ix4 (tableOf tb sb) p r j)) (r : Fin 128) (h : Fin 2) (j : Fin 256)
    (R : Fin 2048) (hR : R.val = sb.val * 128 + r.val) (H : Fin 16) (hH : H.val = p.val * 2 + h.val) :
    scores q k b (ix2 ⟨h.val * 128 + r.val, by omega⟩ j) = rowScore xq xkp xk xb tb R H j := by
  have hs : sub R = sb := Fin.ext (by simp only [sub]; omega)
  have eR : (⟨sb.val * 128 + r.val, by omega⟩ : Fin 2048) = R := Fin.ext hR.symm
  rw [scores_apply, rowScore, hs, hb]
  congr 1
  · refine Finset.sum_congr rfl fun e _ => ?_
    rw [hq, hk, eR]
    have he : (⟨p.val * 128 + (h.val * 64 + e.val), by omega⟩ : Fin 1024) = ⟨H.val * 64 + e.val, by omega⟩ := Fin.ext (by simp only []; omega)
    rw [he]
  · have e1 : (⟨H.val / 2, by omega⟩ : Fin 8) = p := Fin.ext (by simp only []; omega)
    have e2 : (⟨H.val % 2 * 128 + R.val % 128, by omega⟩ : Fin 256) = ⟨h.val * 128 + r.val, by omega⟩ := Fin.ext (by simp only []; omega)
    simp only [e1, e2]

/-- The weighted sums of one tile are those of its rows and lanes of the block, when the tile's queries, keys, values and
    biases are those of the block. -/
theorem out_eq_block (sb : Fin 16) (p : Fin 8) (q : Vec Ideal S128x128 .bf16) (k v : FVec Ideal S256x128 .bf16) (b : Vec Ideal S1x1x256x256 .f32)
    (hq : ∀ r l : Fin 128, q (ix2 r l) = xq (ix2 ⟨sb.val * 128 + r.val, by omega⟩ ⟨p.val * 128 + l.val, by omega⟩))
    (hk : ∀ (j : Fin 256) (l : Fin 128), k (ix2 j l) = around xkp xk sb j ⟨p.val * 128 + l.val, by omega⟩)
    (hv : ∀ (j : Fin 256) (l : Fin 128), v (ix2 j l) = around xvp xv sb j ⟨p.val * 128 + l.val, by omega⟩)
    (hb : ∀ r j : Fin 256, b (ix4 0 0 r j) = xb (ix4 (tableOf tb sb) p r j)) (r l : Fin 128) :
    out q k v b (ix2 r l) = sumsBlock xq xkp xk xvp xv xb tb (ix2 ⟨sb.val * 128 + r.val, by omega⟩ ⟨p.val * 128 + l.val, by omega⟩) := by
  have hs : sub ⟨sb.val * 128 + r.val, by omega⟩ = sb := Fin.ext (by simp only [sub]; omega)
  rw [out_apply]
  show _ = sumsAt xq xkp xk xvp xv xb tb ⟨sb.val * 128 + r.val, by omega⟩ ⟨p.val * 128 + l.val, by omega⟩
  unfold sumsAt
  refine congrArg₂ AttnRow.num2 (funext fun j => ?_) (funext fun j => ?_)
  · exact scores_eq_block xq xkp xk xb tb sb p q k b hq hk hb r ⟨l.val / 64, by omega⟩ j _ rfl _ (by simp only []; omega)
  · rw [hv, hs]

/-- The statistics of one row block are those of its rows of the block. -/
theorem stats_eq_block (sb : Fin 16) (q : Fin 8 → Vec Ideal S128x128 .bf16) (k : Fin 8 → FVec Ideal S256x128 .bf16) (b : Fin 8 → Vec Ideal S1x1x256x256 .f32)
    (hq : ∀ (p : Fin 8) (r l : Fin 128), q p (ix2 r l) = xq (ix2 ⟨sb.val * 128 + r.val, by omega⟩ ⟨p.val * 128 + l.val, by omega⟩))
    (hk : ∀ (p : Fin 8) (j : Fin 256) (l : Fin 128), k p (ix2 j l) = around xkp xk sb j ⟨p.val * 128 + l.val, by omega⟩)
    (hb : ∀ (p : Fin 8) (r j : Fin 256), b p (ix4 0 0 r j) = xb (ix4 (tableOf tb sb) p r j)) (r l : Fin 128) :
    stats (fun p => maxima (q p) (k p) (b p)) (fun p => sums (q p) (k p) (b p)) (ix2 r l)
      = statsBlock xq xkp xk xb tb (ix2 ⟨sb.val * 128 + r.val, by omega⟩ l) := by
  rw [stats_apply]
  show _ = statsAt xq xkp xk xb tb ⟨sb.val * 128 + r.val, by omega⟩ l
  unfold statsAt
  have hs := fun (p : Fin 8) (h : Fin 2) (H : Fin 16) (hH : H.val = p.val * 2 + h.val) => funext fun j =>
    scores_eq_block xq xkp xk xb tb sb p (q p) (k p) (b p) (hq p) (hk p) (hb p) r h j ⟨sb.val * 128 + r.val, by omega⟩ rfl H hH
  by_cases h : l.val < 16
  · rw [if_pos h, dif_pos h, maxima_apply]
    exact congrArg AttnRow.top (hs (Fin.ofNat 8 (l.val / 2)) ⟨l.val % 2, by omega⟩ ⟨l.val, h⟩ (by simp [Fin.ofNat]; omega))
  · rw [if_neg h, dif_neg h]
    by_cases h' : l.val < 32
    · rw [if_pos h', dif_pos h', sums_apply]
      exact congrArg AttnRow.den2 (hs (Fin.ofNat 8 ((l.val - 16) / 2)) ⟨(l.val - 16) % 2, by omega⟩ ⟨l.val - 16, by omega⟩ (by simp [Fin.ofNat]; omega))
    · rw [if_neg h', dif_neg h']

end Cert.Attn4Ideal.Tile

end
-- ==== Proof.Attn4Store.lean ====
/-
  The stores of one grid point of the attention kernel at dilation four, read as pieces of the block of weighted sums and of the block of
  statistics.
-/
module

public import proofs.«01_k».proof.Proof.Attn4Block

@[expose] public section

set_option maxRecDepth 16384

noncomputable section

namespace Cert.Attn4Ideal.Tile

open Cert.Attn4Ideal Cert.Attn4Ideal.Gen Idealize.ShloMosaic Idealize.ShloMosaic.TcCoe Idealize.SL.Sem

/-- The bias table of a tile at grid point `i`: table 0 for the first tile of a sequence, else table 1. -/
def tableAt (i : grid0.Coords) : Fin 2 := ⟨min (i 0).val 1, by omega⟩

/-- The word the kernel computes the table's number with. -/
theorem table_word : ∀ n : Fin 1, (Scalar.indexCast (Scalar.minsi (BitVec.ofNat 32 n.val) 1#32)).toNat = min n.val 1 := by decide

/-- The offsets of the bias tables at a sequence's first row block. -/
theorem off1 (i : grid0.Coords) : k0_off1 i = ![(tableAt i).val, 0, 0, 0] := congrArg (fun n => ![n, 0, 0, 0]) (table_word (i 0))
/-- The bias table that head pair 1 of the first block reads starts at the table the point picks. -/
theorem off2 (i : grid0.Coords) : k0_off2 i = ![(tableAt i).val, 1, 0, 0] := congrArg (fun n => ![n, 1, 0, 0]) (table_word (i 0))
/-- The bias table that head pair 2 of the first block reads starts at the table the point picks. -/
theorem off3 (i : grid0.Coords) : k0_off3 i = ![(tableAt i).val, 2, 0, 0] := congrArg (fun n => ![n, 2, 0, 0]) (table_word (i 0))
/-- The bias table that head pair 3 of the first block reads starts at the table the point picks. -/
theorem off4 (i : grid0.Coords) : k0_off4 i = ![(tableAt i).val, 3, 0, 0] := congrArg (fun n => ![n, 3, 0, 0]) (table_word (i 0))
/-- The bias table that head pair 4 of the first block reads starts at the table the point picks. -/
theorem off5 (i : grid0.Coords) : k0_off5 i = ![(tableAt i).val, 4, 0, 0] := congrArg (fun n => ![n, 4, 0, 0]) (table_word (i 0))
/-- The bias table that head pair 5 of the first block reads starts at the table the point picks. -/
theorem off6 (i : grid0.Coords) : k0_off6 i = ![(tableAt i).val, 5, 0, 0] := congrArg (fun n => ![n, 5, 0, 0]) (table_word (i 0))
/-- The bias table that head pair 6 of the first block reads starts at the table the point picks. -/
theorem off7 (i : grid0.Coords) : k0_off7 i = ![(tableAt i).val, 6, 0, 0] := congrArg (fun n => ![n, 6, 0, 0]) (table_word (i 0))
/-- The bias table that head pair 7 of the first block reads starts at the table the point picks. -/
theorem off8 (i : grid0.Coords) : k0_off8 i = ![(tableAt i).val, 7, 0, 0] := congrArg (fun n => ![n, 7, 0, 0]) (table_word (i 0))

variable {arg3 : Memref sig .tc .vmem S2048x1024 .bf16} (harg3 : arg3.IsWhole) {arg4 : Memref sig .tc .vmem S128x1024 .bf16} (harg4 : arg4.IsWhole)
  {arg5 : Memref sig .tc .vmem S2048x1024 .bf16} (harg5 : arg5.IsWhole) {arg6 : Memref sig .tc .vmem S128x1024 .bf16} (harg6 : arg6.IsWhole)
  {arg7 : Memref sig .tc .vmem S2048x1024 .bf16} (harg7 : arg7.IsWhole) {arg8 : Memref sig .tc .vmem S2x8x256x256 .f32} (harg8 : arg8.IsWhole)
  (x0 : Vec Ideal S2048x1024 .bf16) (x1 : Vec Ideal S128x1024 .bf16) (x2 : Vec Ideal S2048x1024 .bf16) (x3 : Vec Ideal S128x1024 .bf16)
  (x4 : Vec Ideal S2048x1024 .bf16) (x5 : Vec Ideal S2x8x256x256 .f32)

/-- The tile of 128 rows from `o` and 128 lanes from `cl` of a block. -/
def tile {M : Nat} {arg : Memref sig .tc .vmem ⟨2, ![M, 1024]⟩ .bf16} (harg : arg.IsWhole) (x : Vec Ideal ⟨2, ![M, 1024]⟩ .bf16) (n o cl : Nat)
    (inb : ∀ a, (![o, cl] : Fin 2 → Nat) a + (![n, 128] : Fin 2 → Nat) a ≤ (⟨2, ![M, 1024]⟩ : Shape).size a) : Vec Ideal ⟨2, ![n, 128]⟩ .bf16 :=
  View.readAt (Elt Ideal) arg.view (Rect.unit (s := ⟨2, ![M, 1024]⟩) ![o, cl] ![n, 128] inb).toLoadRect (harg.unread x)

/-- The bias table at offsets `off`. -/
def bias (off : Fin 4 → Nat) (inb : ∀ a, off a + (![1, 1, 256, 256] : Fin 4 → Nat) a ≤ S2x8x256x256.size a) : Vec Ideal S1x1x256x256 .f32 :=
  View.readAt (Elt Ideal) arg8.view (Rect.unit (s := S2x8x256x256) off ![1, 1, 256, 256] inb).toLoadRect (harg8.unread x5)

/-- A tile at an index. -/
theorem tile_apply {M n : Nat} {arg : Memref sig .tc .vmem ⟨2, ![M, 1024]⟩ .bf16} (harg : arg.IsWhole) (x : Vec Ideal ⟨2, ![M, 1024]⟩ .bf16) (o cl : Nat)
    (inb : ∀ a, (![o, cl] : Fin 2 → Nat) a + (![n, 128] : Fin 2 → Nat) a ≤ (⟨2, ![M, 1024]⟩ : Shape).size a) (r : Fin n) (l : Fin 128)
    (R : Fin M) (L : Fin 1024) (hR : R.val = o + r.val) (hL : L.val = cl + l.val) : tile harg x n o cl inb (ix2 r l) = x (ix2 R L) := by
  obtain ⟨R, hR'⟩ := R
  obtain ⟨L, hL'⟩ := L
  simp only [] at hR hL
  subst hR hL
  exact read_tile harg x o cl inb r l hR' hL'

/-- 256 rows loaded from a tile, as the kernel takes them. -/
def rows256 (x : Vec Ideal S256x128 .bf16) : FVec Ideal S256x128 .bf16 := shapeCast S256x128 x shapeCasts_S256x128_S256x128

/-- Two neighbouring blocks of a row tile, read together. -/
theorem rows256_later (x' : Vec Ideal S128x1024 .bf16) {arg : Memref sig .tc .vmem S2048x1024 .bf16} (harg : arg.IsWhole) (x : Vec Ideal S2048x1024 .bf16)
    (sb : Fin 16) (p : Fin 8) {ok : Nat} (hk : sb.val * 128 = ok + 128)
    (inb : ∀ a, (![ok, p.val * 128] : Fin 2 → Nat) a + (![256, 128] : Fin 2 → Nat) a ≤ S2048x1024.size a) (j : Fin 256) (l : Fin 128) :
    rows256 (tile harg x 256 ok (p.val * 128) inb) (ix2 j l) = around x' x sb j ⟨p.val * 128 + l.val, by omega⟩ := by
  have e : rows256 (tile harg x 256 ok (p.val * 128) inb) (ix2 j l) = tile harg x 256 ok (p.val * 128) inb (ix2 j l) := by
    pointwise [rows256]
  rw [e, around, dif_neg (by omega)]
  exact tile_apply harg x ok (p.val * 128) inb j l _ _ (by simp only []; omega) rfl

/-- The block before the tile joined to the first block of the tile. -/
theorem join_first {arg' : Memref sig .tc .vmem S128x1024 .bf16} (harg' : arg'.IsWhole) (x' : Vec Ideal S128x1024 .bf16)
    {arg : Memref sig .tc .vmem S2048x1024 .bf16} (harg : arg.IsWhole) (x : Vec Ideal S2048x1024 .bf16) (p : Fin 8)
    (inb' : ∀ a, (![0, p.val * 128] : Fin 2 → Nat) a + (![128, 128] : Fin 2 → Nat) a ≤ S128x1024.size a)
    (inb : ∀ a, (![0, p.val * 128] : Fin 2 → Nat) a + (![128, 128] : Fin 2 → Nat) a ≤ S2048x1024.size a) (j : Fin 256) (l : Fin 128) :
    k0_pay5 (tile harg' x' 128 0 (p.val * 128) inb') (tile harg x 128 0 (p.val * 128) inb) (ix2 j l) = around x' x 0 j ⟨p.val * 128 + l.val, by omega⟩ := by
  rw [join_apply, around]
  by_cases h : j.val < 128
  · rw [dif_pos h, dif_pos (by simpa using h)]
    exact tile_apply harg' x' 0 (p.val * 128) inb' ⟨j.val, h⟩ l _ _ (by simp) rfl
  · rw [dif_neg h, dif_neg (by simpa using h)]
    exact tile_apply harg x 0 (p.val * 128) inb ⟨j.val - 128, by omega⟩ l _ _ (by simp) rfl

/-- A tile of weighted sums stored for a row block after the first: its part of the block. -/
theorem piece_later (i : grid0.Coords) {o ok cl p : Nat} (ho : o = ok + 128) (hm : ok % 128 = 0) (hp : p < 8) (hc : cl = p * 128)
    (inb : ∀ a, (![o, cl] : Fin 2 → Nat) a + (![128, 128] : Fin 2 → Nat) a ≤ S2048x1024.size a)
    (inbk : ∀ a, (![ok, cl] : Fin 2 → Nat) a + (![256, 128] : Fin 2 → Nat) a ≤ S2048x1024.size a)
    (inbb : ∀ a, (![1, p, 0, 0] : Fin 4 → Nat) a + (![1, 1, 256, 256] : Fin 4 → Nat) a ≤ S2x8x256x256.size a)
    {w : S128x128.Idx → EReal} (hw : w = out (tile harg3 x0 128 o cl inb) (rows256 (tile harg5 x2 256 ok cl inbk)) (rows256 (tile harg7 x4 256 ok cl inbk))
      (bias harg8 x5 ![1, p, 0, 0] inbb)) (x : S128x128.Idx) :
    w x = sumsBlock x0 x1 x2 x3 x4 x5 (tableAt i) ((Rect.unit (s := S2048x1024) ![o, cl] ![128, 128] inb).emb x) := by
  subst hw hc
  have hi : o + 128 ≤ 2048 := inb 0
  obtain ⟨sb, hsb⟩ : ∃ sb : Fin 16, sb.val * 128 = o := ⟨⟨o / 128, by omega⟩, by simp only []; omega⟩
  subst hsb
  obtain ⟨r, l, rfl⟩ : ∃ (r l : Fin 128), x = ix2 r l := ⟨x 0, x 1, eq_ix2 x⟩
  refine (out_eq_block x0 x1 x2 x3 x4 x5 (tableAt i) sb ⟨p, hp⟩ _ _ _ _ (fun r l => tile_apply harg3 x0 _ _ inb r l _ _ rfl rfl)
    (rows256_later x1 harg5 x2 sb ⟨p, hp⟩ ho inbk) (rows256_later x3 harg7 x4 sb ⟨p, hp⟩ ho inbk)
    (read_bias harg8 x5 _ _ ⟨p, hp⟩ ?_ inbb) r l).trans ?_
  · rw [tableOf, if_neg (by omega)]
    rfl
  · refine congrArg (sumsBlock x0 x1 x2 x3 x4 x5 (tableAt i)) (funext fun a => ?_)
    revert a
    exact Fin.forall_fin_two.mpr ⟨Fin.ext (by simp), Fin.ext (by simp)⟩

/-- A tile of weighted sums stored for the first row block: its part of the block. -/
theorem piece_first (i : grid0.Coords) {cl p : Nat} (hp : p < 8) (hc : cl = p * 128) {off : Fin 4 → Nat} (hoff : off = ![(tableAt i).val, p, 0, 0])
    (inb : ∀ a, (![0, cl] : Fin 2 → Nat) a + (![128, 128] : Fin 2 → Nat) a ≤ S2048x1024.size a)
    (inbk : ∀ a, (![0, cl] : Fin 2 → Nat) a + (![128, 128] : Fin 2 → Nat) a ≤ S128x1024.size a)
    (inbb : ∀ a, off a + (![1, 1, 256, 256] : Fin 4 → Nat) a ≤ S2x8x256x256.size a)
    {w : S128x128.Idx → EReal} (hw : w = out (tile harg3 x0 128 0 cl inb) (k0_pay5 (tile harg4 x1 128 0 cl inbk) (tile harg5 x2 128 0 cl inb))
      (k0_pay5 (tile harg6 x3 128 0 cl inbk) (tile harg7 x4 128 0 cl inb)) (bias harg8 x5 off inbb)) (x : S128x128.Idx) :
    w x = sumsBlock x0 x1 x2 x3 x4 x5 (tableAt i) ((Rect.unit (s := S2048x1024) ![0, cl] ![128, 128] inb).emb x) := by
  subst hw hc
  obtain ⟨r, l, rfl⟩ : ∃ (r l : Fin 128), x = ix2 r l := ⟨x 0, x 1, eq_ix2 x⟩
  refine (out_eq_block x0 x1 x2 x3 x4 x5 (tableAt i) 0 ⟨p, hp⟩ _ _ _ _ (fun r l => tile_apply harg3 x0 _ _ inb r l _ _ (by simp) rfl)
    (join_first harg4 x1 harg5 x2 ⟨p, hp⟩ inbk inb) (join_first harg6 x3 harg7 x4 ⟨p, hp⟩ inbk inb)
    (read_bias harg8 x5 _ _ ⟨p, hp⟩ hoff inbb) r l).trans ?_
  refine congrArg (sumsBlock x0 x1 x2 x3 x4 x5 (tableAt i)) (funext fun a => ?_)
  revert a
  exact Fin.forall_fin_two.mpr ⟨Fin.ext (by simp), Fin.ext (by simp)⟩

/-- The bias tables of a tile after a sequence's first row block. -/
theorem table_one (inbb : ∀ (p : Fin 8) (a : Fin 4), (![1, p.val, 0, 0] : Fin 4 → Nat) a + (![1, 1, 256, 256] : Fin 4 → Nat) a ≤ S2x8x256x256.size a)
    (tb : Fin 2) (sb : Fin 16) (h : sb.val ≠ 0) (p : Fin 8) (r j : Fin 256) :
    bias harg8 x5 ![1, p.val, 0, 0] (inbb p) (ix4 0 0 r j) = x5 (ix4 (tableOf tb sb) p r j) :=
  read_bias harg8 x5 _ _ p (by rw [tableOf, if_neg h]; rfl) (inbb p) r j

/-- The tile of statistics stored for a row block after the first: its part of the block. -/
theorem stats_later (i : grid0.Coords) {o ok : Nat} (ho : o = ok + 128) (hm : ok % 128 = 0)
    (inbo : ∀ a, (![o, 0] : Fin 2 → Nat) a + (![128, 128] : Fin 2 → Nat) a ≤ S2048x128.size a)
    (inb : ∀ (p : Fin 8) (a : Fin 2), (![o, p.val * 128] : Fin 2 → Nat) a + (![128, 128] : Fin 2 → Nat) a ≤ S2048x1024.size a)
    (inbk : ∀ (p : Fin 8) (a : Fin 2), (![ok, p.val * 128] : Fin 2 → Nat) a + (![256, 128] : Fin 2 → Nat) a ≤ S2048x1024.size a)
    (inbb : ∀ (p : Fin 8) (a : Fin 4), (![1, p.val, 0, 0] : Fin 4 → Nat) a + (![1, 1, 256, 256] : Fin 4 → Nat) a ≤ S2x8x256x256.size a)
    {w : S128x128.Idx → EReal}
    (hw : w = stats
      (fun p => maxima (tile harg3 x0 128 o (p.val * 128) (inb p)) (rows256 (tile harg5 x2 256 ok (p.val * 128) (inbk p))) (bias harg8 x5 ![1, p.val, 0, 0] (inbb p)))
      (fun p => sums (tile harg3 x0 128 o (p.val * 128) (inb p)) (rows256 (tile harg5 x2 256 ok (p.val * 128) (inbk p))) (bias harg8 x5 ![1, p.val, 0, 0] (inbb p))))
    (x : S128x128.Idx) :
    w x = statsBlock x0 x1 x2 x5 (tableAt i) ((Rect.unit (s := S2048x128) ![o, 0] ![128, 128] inbo).emb x) := by
  subst hw
  have hi : o + 128 ≤ 2048 := inbo 0
  obtain ⟨sb, hsb⟩ : ∃ sb : Fin 16, sb.val * 128 = o := ⟨⟨o / 128, by omega⟩, by simp only []; omega⟩
  subst hsb
  obtain ⟨r, l, rfl⟩ : ∃ (r l : Fin 128), x = ix2 r l := ⟨x 0, x 1, eq_ix2 x⟩
  refine (stats_eq_block x0 x1 x2 x5 (tableAt i) sb _ _ _ (fun p r l => tile_apply harg3 x0 _ _ (inb p) r l _ _ rfl rfl)
    (fun p => rows256_later x1 harg5 x2 sb p ho (inbk p)) (table_one harg8 x5 inbb _ sb (by omega)) r l).trans ?_
  refine congrArg (statsBlock x0 x1 x2 x5 (tableAt i)) (funext fun a => ?_)
  revert a
  exact Fin.forall_fin_two.mpr ⟨Fin.ext (by simp), Fin.ext (by simp)⟩

/-- The tile of statistics stored for the first row block: its part of the block. -/
theorem stats_first (i : grid0.Coords) {b : Fin 8 → Vec Ideal S1x1x256x256 .f32}
    (hb : ∀ (p : Fin 8) (r j : Fin 256), b p (ix4 0 0 r j) = x5 (ix4 (tableAt i) p r j))
    (inbo : ∀ a, (![0, 0] : Fin 2 → Nat) a + (![128, 128] : Fin 2 → Nat) a ≤ S2048x128.size a)
    (inb : ∀ (p : Fin 8) (a : Fin 2), (![0, p.val * 128] : Fin 2 → Nat) a + (![128, 128] : Fin 2 → Nat) a ≤ S2048x1024.size a)
    (inbk : ∀ (p : Fin 8) (a : Fin 2), (![0, p.val * 128] : Fin 2 → Nat) a + (![128, 128] : Fin 2 → Nat) a ≤ S128x1024.size a)
    {w : S128x128.Idx → EReal}
    (hw : w = stats
      (fun p => maxima (tile harg3 x0 128 0 (p.val * 128) (inb p))
        (k0_pay5 (tile harg4 x1 128 0 (p.val * 128) (inbk p)) (tile harg5 x2 128 0 (p.val * 128) (inb p))) (b p))
      (fun p => sums (tile harg3 x0 128 0 (p.val * 128) (inb p))
        (k0_pay5 (tile harg4 x1 128 0 (p.val * 128) (inbk p)) (tile harg5 x2 128 0 (p.val * 128) (inb p))) (b p)))
    (x : S128x128.Idx) :
    w x = statsBlock x0 x1 x2 x5 (tableAt i) ((Rect.unit (s := S2048x128) ![0, 0] ![128, 128] inbo).emb x) := by
  subst hw
  obtain ⟨r, l, rfl⟩ : ∃ (r l : Fin 128), x = ix2 r l := ⟨x 0, x 1, eq_ix2 x⟩
  refine (stats_eq_block x0 x1 x2 x5 (tableAt i) 0 _ _ _ (fun p r l => tile_apply harg3 x0 _ _ (inb p) r l _ _ (by simp) rfl)
    (fun p => join_first harg4 x1 harg5 x2 p (inbk p) (inb p)) hb r l).trans ?_
  refine congrArg (statsBlock x0 x1 x2 x5 (tableAt i)) (funext fun a => ?_)
  revert a
  exact Fin.forall_fin_two.mpr ⟨Fin.ext (by simp), Fin.ext (by simp)⟩

/-- Tiles of 128 lanes lie in a block of 1024. -/
theorem inb_tile {M n o : Nat} (h : o + n ≤ M) (p : Fin 8) (a : Fin 2) :
    (![o, p.val * 128] : Fin 2 → Nat) a + (![n, 128] : Fin 2 → Nat) a ≤ (⟨2, ![M, 1024]⟩ : Shape).size a := by
  revert a
  exact Fin.forall_fin_two.mpr ⟨by simpa using h, by simp; omega⟩

/-- One table of the bias lies in the tables. -/
theorem inb_bias {t : Nat} (h : t < 2) (p : Fin 8) (a : Fin 4) :
    (![t, p.val, 0, 0] : Fin 4 → Nat) a + (![1, 1, 256, 256] : Fin 4 → Nat) a ≤ S2x8x256x256.size a := by
  fin_cases a <;> simp [S2x8x256x256] <;> omega

variable (c : Dev nD) (i : grid0.Coords) {arg9 : Memref sig .tc .vmem S2048x1024 .bf16} (harg9 : arg9.IsWhole)
  {arg10 : Memref sig .tc .vmem S2048x128 .f32} (harg10 : arg10.IsWhole)

set_option maxHeartbeats 4000000 in
/-- Every store of weighted sums is its part of the block. -/
theorem pieces_sums : View.PiecesOf (Val := Elt Ideal) (e := .bf16) (sumsBlock x0 x1 x2 x3 x4 x5 (tableAt i))
    (kernelRun0_A c i arg3 harg3 arg4 harg4 arg5 harg5 arg6 harg6 arg7 harg7 arg8 harg8 arg9 harg9 arg10 harg10 x0 x1 x2 x3 x4 x5).1 := by
  unfold kernelRun0_A
  dsimp only
  iterate 120 refine ⟨piece_later harg3 harg5 harg7 harg8 x0 x1 x2 x3 x4 x5 i (by decide) (by decide) (by decide) (by decide) _ _ _ rfl, ?_⟩
  refine ⟨piece_first harg3 harg4 harg5 harg6 harg7 harg8 x0 x1 x2 x3 x4 x5 i (p := 7) (by decide) (by decide) (off8 i) _ _ _ rfl, ?_⟩
  refine ⟨piece_first harg3 harg4 harg5 harg6 harg7 harg8 x0 x1 x2 x3 x4 x5 i (p := 6) (by decide) (by decide) (off7 i) _ _ _ rfl, ?_⟩
  refine ⟨piece_first harg3 harg4 harg5 harg6 harg7 harg8 x0 x1 x2 x3 x4 x5 i (p := 5) (by decide) (by decide) (off6 i) _ _ _ rfl, ?_⟩
  refine ⟨piece_first harg3 harg4 harg5 harg6 harg7 harg8 x0 x1 x2 x3 x4 x5 i (p := 4) (by decide) (by decide) (off5 i) _ _ _ rfl, ?_⟩
  refine ⟨piece_first harg3 harg4 harg5 harg6 harg7 harg8 x0 x1 x2 x3 x4 x5 i (p := 3) (by decide) (by decide) (off4 i) _ _ _ rfl, ?_⟩
  refine ⟨piece_first harg3 harg4 harg5 harg6 harg7 harg8 x0 x1 x2 x3 x4 x5 i (p := 2) (by decide) (by decide) (off3 i) _ _ _ rfl, ?_⟩
  refine ⟨piece_first harg3 harg4 harg5 harg6 harg7 harg8 x0 x1 x2 x3 x4 x5 i (p := 1) (by decide) (by decide) (off2 i) _ _ _ rfl, ?_⟩
  exact ⟨piece_first harg3 harg4 harg5 harg6 harg7 harg8 x0 x1 x2 x3 x4 x5 i (p := 0) (by decide) (by decide) (off1 i) _ _ _ rfl, trivial⟩

end Cert.Attn4Ideal.Tile

end
-- ==== Proof.Attn4Stats.lean ====
/-
  The stores of statistics of one grid point of the attention kernel at dilation four are pieces of the block of statistics.
-/
module

public import proofs.«01_k».proof.Proof.Attn4Store

@[expose] public section

set_option maxRecDepth 16384

noncomputable section

namespace Cert.Attn4Ideal.Tile

open Cert.Attn4Ideal Cert.Attn4Ideal.Gen Idealize.ShloMosaic Idealize.ShloMosaic.TcCoe Idealize.SL.Sem

variable {arg3 : Memref sig .tc .vmem S2048x1024 .bf16} (harg3 : arg3.IsWhole) {arg4 : Memref sig .tc .vmem S128x1024 .bf16} (harg4 : arg4.IsWhole)
  {arg5 : Memref sig .tc .vmem S2048x1024 .bf16} (harg5 : arg5.IsWhole) {arg6 : Memref sig .tc .vmem S128x1024 .bf16} (harg6 : arg6.IsWhole)
  {arg7 : Memref sig .tc .vmem S2048x1024 .bf16} (harg7 : arg7.IsWhole) {arg8 : Memref sig .tc .vmem S2x8x256x256 .f32} (harg8 : arg8.IsWhole)
  (x0 : Vec Ideal S2048x1024 .bf16) (x1 : Vec Ideal S128x1024 .bf16) (x2 : Vec Ideal S2048x1024 .bf16) (x3 : Vec Ideal S128x1024 .bf16)
  (x4 : Vec Ideal S2048x1024 .bf16) (x5 : Vec Ideal S2x8x256x256 .f32)
  (c : Dev nD) (i : grid0.Coords) {arg9 : Memref sig .tc .vmem S2048x1024 .bf16} (harg9 : arg9.IsWhole)
  {arg10 : Memref sig .tc .vmem S2048x128 .f32} (harg10 : arg10.IsWhole)

/-- The offsets of bias table `p` at a sequence's first row block, as the kernel computes them. -/
def firstOff (i : grid0.Coords) (p : Fin 8) : Fin 4 → Nat :=
  match p with
  | 0 => k0_off1 i | 1 => k0_off2 i | 2 => k0_off3 i | 3 => k0_off4 i | 4 => k0_off5 i | 5 => k0_off6 i | 6 => k0_off7 i | 7 => k0_off8 i

/-- Those offsets are the table's number and the pair's. -/
theorem firstOff_eq (p : Fin 8) : firstOff i p = ![(tableAt i).val, p.val, 0, 0] :=
  match p with
  | 0 => off1 i | 1 => off2 i | 2 => off3 i | 3 => off4 i | 4 => off5 i | 5 => off6 i | 6 => off7 i | 7 => off8 i

/-- The bias table there lies in the tables. -/
theorem inb_first (p : Fin 8) (a : Fin 4) : firstOff i p a + (![1, 1, 256, 256] : Fin 4 → Nat) a ≤ S2x8x256x256.size a := by
  rw [firstOff_eq]
  exact inb_bias (tableAt i).isLt p a

/-- The bias tables of a sequence's first row block, read at an index. -/
theorem first_apply (p : Fin 8) (r j : Fin 256) :
    bias harg8 x5 (firstOff i p) (inb_first i p) (ix4 0 0 r j) = x5 (ix4 (tableAt i) p r j) :=
  read_bias harg8 x5 _ _ p (firstOff_eq i p) (inb_first i p) r j

/-- A tile of 128 rows of statistics lies in the block of them. -/
theorem inb_stats {o : Nat} (h : o + 128 ≤ 2048) (a : Fin 2) : (![o, 0] : Fin 2 → Nat) a + (![128, 128] : Fin 2 → Nat) a ≤ S2048x128.size a := by
  revert a
  exact Fin.forall_fin_two.mpr ⟨h, le_refl 128⟩

/-- `stats_later` at the row block from `o`. -/
theorem stats_step {o : Nat} (ho : 128 ≤ o) (hm : o % 128 = 0)
    (inbo : ∀ a, (![o, 0] : Fin 2 → Nat) a + (![128, 128] : Fin 2 → Nat) a ≤ S2048x128.size a)
    (inb : ∀ (p : Fin 8) (a : Fin 2), (![o, p.val * 128] : Fin 2 → Nat) a + (![128, 128] : Fin 2 → Nat) a ≤ S2048x1024.size a)
    (inbk : ∀ (p : Fin 8) (a : Fin 2), (![o - 128, p.val * 128] : Fin 2 → Nat) a + (![256, 128] : Fin 2 → Nat) a ≤ S2048x1024.size a)
    (inbb : ∀ (p : Fin 8) (a : Fin 4), (![1, p.val, 0, 0] : Fin 4 → Nat) a + (![1, 1, 256, 256] : Fin 4 → Nat) a ≤ S2x8x256x256.size a)
    {w : S128x128.Idx → EReal}
    (hw : w = stats
      (fun p => maxima (tile harg3 x0 128 o (p.val * 128) (inb p)) (rows256 (tile harg5 x2 256 (o - 128) (p.val * 128) (inbk p))) (bias harg8 x5 ![1, p.val, 0, 0] (inbb p)))
      (fun p => sums (tile harg3 x0 128 o (p.val * 128) (inb p)) (rows256 (tile harg5 x2 256 (o - 128) (p.val * 128) (inbk p))) (bias harg8 x5 ![1, p.val, 0, 0] (inbb p))))
    (x : S128x128.Idx) :
    w x = statsBlock x0 x1 x2 x5 (tableAt i) ((Rect.unit (s := S2048x128) ![o, 0] ![128, 128] inbo).emb x) :=
  stats_later harg3 harg5 harg8 x0 x1 x2 x5 i (by omega) (by omega) inbo inb inbk inbb hw x

/-- Where lane `a` is. -/
def lane (a : BitVec 32) : IVec S128x128 1 := cmpi .eq (iota .tc S128x128 32 [1] iota_S128x128_d1_w32) (broadcast S128x128 a)

/-- Rows `o` on of a column, spread over all lanes. -/
def spread (o : Nat) (h : S256x1.Slices ![o, 0] S128x1) (x : FVec Ideal S256x1 .f32) : FVec Ideal S128x128 .f32 :=
  broadcastTo S128x128 (shapeCast S128x1 (extractStridedSlice S128x1 ![o, 0] x h) shapeCasts_S128x1_S128x1) broadcasts_S128x1_S128x128

/-- Two more lanes written from pair `p`'s column continue the chain. -/
theorem chain_congr {o p : Nat} {x : Fin 8 → FVec Ideal S256x1 .f32} {t T X X' : FVec Ideal S128x128 .f32} {a a' : IVec S128x128 1}
    (ha : a = lane (BitVec.ofNat 32 (o + 2 * p))) (ha' : a' = lane (BitVec.ofNat 32 (o + (2 * p + 1))))
    (hX : X = spread 0 slices_S256x1_o0_0_S128x1 (x (Fin.ofNat 8 p))) (hX' : X' = spread 128 slices_S256x1_o128_0_S128x1 (x (Fin.ofNat 8 p)))
    (hT : T = chain o x t p) : select a' X' (select a X T) = chain o x t (p + 1) := by
  subst ha ha' hX hX' hT
  rfl

/-- The two chains chosen by lane are the tile of statistics. -/
theorem stats_congr {m d : Fin 8 → FVec Ideal S256x1 .f32} {A B : FVec Ideal S128x128 .f32} (hA : A = chain 0 m k0_pay3 8) (hB : B = chain 16 d k0_pay4 8) :
    select (cmpi .slt (iota .tc S128x128 32 [1] iota_S128x128_d1_w32) (broadcast S128x128 16#32)) A B = stats m d := by
  subst hA hB
  rfl

set_option maxHeartbeats 4000000 in
/-- Every store of statistics is its part of the block. -/
theorem pieces_stats : View.PiecesOf (Val := Elt Ideal) (e := .f32) (statsBlock x0 x1 x2 x5 (tableAt i))
    (kernelRun0_A c i arg3 harg3 arg4 harg4 arg5 harg5 arg6 harg6 arg7 harg7 arg8 harg8 arg9 harg9 arg10 harg10 x0 x1 x2 x3 x4 x5).2.1 := by
  unfold kernelRun0_A
  dsimp only
  iterate 15
    refine ⟨?_, ?_⟩
    · refine stats_step harg3 harg5 harg8 x0 x1 x2 x5 i (by decide) (by decide) (inb_stats (by decide)) (inb_tile (by decide)) (inb_tile (by decide)) (inb_bias (by decide)) ?_
      refine stats_congr ?_ ?_
      · iterate 8
          refine chain_congr ?_ ?_ ?_ ?_ ?_
          · rfl
          · rfl
          · rfl
          · rfl
        rfl
      · iterate 8
          refine chain_congr ?_ ?_ ?_ ?_ ?_
          · rfl
          · rfl
          · rfl
          · rfl
        rfl
  refine ⟨?_, trivial⟩
  refine stats_first harg3 harg4 harg5 x0 x1 x2 x5 i (first_apply harg8 x5 i) (inb_stats (by decide)) (inb_tile (by decide)) (inb_tile (by decide)) ?_
  refine stats_congr ?_ ?_
  · iterate 8
      refine chain_congr ?_ ?_ ?_ ?_ ?_
      · rfl
      · rfl
      · rfl
      · rfl
    rfl
  · iterate 8
      refine chain_congr ?_ ?_ ?_ ?_ ?_
      · rfl
      · rfl
      · rfl
      · rfl
    rfl

/-- What a grid point leaves in the block of weighted sums. -/
theorem out_sums (arg9 : Memref sig .tc .vmem S2048x1024 .bf16) (harg9 : arg9.IsWhole) (arg10 : Memref sig .tc .vmem S2048x128 .f32) (harg10 : arg10.IsWhole)
    (y : S2048x1024.Idx) :
    out0_A_6 c i arg3 harg3 arg4 harg4 arg5 harg5 arg6 harg6 arg7 harg7 arg8 harg8 arg9 harg9 arg10 harg10 x0 x1 x2 x3 x4 x5 y
      = sumsBlock x0 x1 x2 x3 x4 x5 (tableAt i) y := by
  unfold out0_A_6
  rw [View.read_writes_junk_eq_canon]
  exact View.canon_apply_of_pieces _ _ (pieces_sums harg3 harg4 harg5 harg6 harg7 harg8 x0 x1 x2 x3 x4 x5 c i harg9 harg10).mem y
    (cover0_A_6 c i arg3 harg3 arg4 harg4 arg5 harg5 arg6 harg6 arg7 harg7 arg8 harg8 arg9 harg9 arg10 harg10 x0 x1 x2 x3 x4 x5 y)

/-- What a grid point leaves in the block of statistics. -/
theorem out_stats (arg9 : Memref sig .tc .vmem S2048x1024 .bf16) (harg9 : arg9.IsWhole) (arg10 : Memref sig .tc .vmem S2048x128 .f32) (harg10 : arg10.IsWhole)
    (y : S2048x128.Idx) :
    out0_A_7 c i arg3 harg3 arg4 harg4 arg5 harg5 arg6 harg6 arg7 harg7 arg8 harg8 arg9 harg9 arg10 harg10 x0 x1 x2 x3 x4 x5 y
      = statsBlock x0 x1 x2 x5 (tableAt i) y := by
  unfold out0_A_7
  rw [View.read_writes_junk_eq_canon]
  exact View.canon_apply_of_pieces _ _ (pieces_stats harg3 harg4 harg5 harg6 harg7 harg8 x0 x1 x2 x3 x4 x5 c i harg9 harg10).mem y
    (cover0_A_7 c i arg3 harg3 arg4 harg4 arg5 harg5 arg6 harg6 arg7 harg7 arg8 harg8 arg9 harg9 arg10 harg10 x0 x1 x2 x3 x4 x5 y)

end Cert.Attn4Ideal.Tile

end
-- ==== Proof.Attn4Load.lean ====
/-
  What a grid point of the attention kernel at dilation four loads, read off the arrays it is launched on, and its scores in the reference's
  terms.
-/
module

public import proofs.«01_k».proof.Proof.Attn4Host
public import proofs.«01_k».proof.Proof.Attn4Stats

@[expose] public section

set_option maxRecDepth 16384

noncomputable section

namespace Cert.Attn4Ideal.Arrays

open Cert.Attn4Ideal Cert.Attn4Ideal.Gen Idealize.ShloMosaic Idealize.ShloMosaic.TcCoe Idealize.SL.Sem Cert.Attn4Spec Cert.Attn4Ideal.Tile

/-- Indices with the same coordinates are equal. -/
theorem ix3_congr {b b' : Fin 4} {n n' : Fin 8192} {l l' : Fin 1024} (hb : b.val = b'.val) (hn : n.val = n'.val) (hl : l.val = l'.val) :
    (ix3 b n l : (⟨3, ![4, 8192, 1024]⟩ : Shape).Idx) = ix3 b' n' l' := by
  rw [Fin.ext hb, Fin.ext hn, Fin.ext hl]

section Point

variable (q k v : FVec Ideal S4x8192x1024 .f32) (a : FVec Ideal S16 .f32) (b r : Fin 4)
  {xq : Vec Ideal S2048x1024 .bf16} {xp : Vec Ideal S128x1024 .bf16} {x : Vec Ideal S2048x1024 .bf16} {xb : Vec Ideal S2x8x256x256 .f32}

/-- The rows around a block of a tile are the rows of the strided sequence's block and the one before it, where there is
    one. -/
theorem around_eq (hx : ∀ (i : Fin 2048) (l : Fin 1024), x (ix2 i l) = flat k (ix2 ⟨b.val * 2048 + i.val, by omega⟩ ⟨r.val * 1024 + l.val, by omega⟩))
    (sb : Fin 16) (j : Fin 256) (l : Fin 1024) (h : ¬(sb.val = 0 ∧ j.val < 128)) :
    around xp x sb j l = keyAt k b sb r j l := by
  have h' : ¬(sb.val * 128 + j.val < 128) := by omega
  refine Eq.trans ?_ (dif_neg h').symm
  unfold around
  rw [dif_neg h', hx, flat_apply]
  exact congrArg k (ix3_congr (by show (b.val * 2048 + (sb.val * 128 + j.val - 128)) / 2048 = b.val; omega)
    (by show (b.val * 2048 + (sb.val * 128 + j.val - 128)) % 2048 * 4 + (r.val * 1024 + l.val) / 1024 = (sb.val * 128 + j.val - 128) * 4 + r.val; omega)
    (by show (r.val * 1024 + l.val) % 1024 = l.val; omega))

/-- The kernel's scores are the reference's in units of the logarithm of two. -/
theorem rowScore_eq (hq : ∀ (i : Fin 2048) (l : Fin 1024), xq (ix2 i l) = scaled q (ix2 ⟨b.val * 2048 + i.val, by omega⟩ ⟨r.val * 1024 + l.val, by omega⟩))
    (hx : ∀ (i : Fin 2048) (l : Fin 1024), x (ix2 i l) = flat k (ix2 ⟨b.val * 2048 + i.val, by omega⟩ ⟨r.val * 1024 + l.val, by omega⟩))
    (hb : ∀ (tb : Fin 2) (p : Fin 8) (R j : Fin 256), xb (ix4 tb p R j) = tables a (ix4 tb p R j))
    (tb : Fin 2) (ht : tb.val = 0) (R : Fin 2048) (h : Fin 16) (j : Fin 256) :
    rowScore xq xp x xb tb R h j = AttnRow.perLog2 * row q k a b (sub R) r ⟨R.val % 128, by omega⟩ h j := by
  have hu : (⟨(h.val % 2 * 128 + R.val % 128) % 128, by omega⟩ : Fin 128) = ⟨R.val % 128, by omega⟩ := Fin.ext (by simp)
  have hh : (⟨h.val / 2 * 2 + (h.val % 2 * 128 + R.val % 128) / 128, by omega⟩ : Fin 16) = h := Fin.ext (by simp; omega)
  have htb : (tableOf tb (sub R)).val = 0 ↔ (sub R).val = 0 := by
    unfold tableOf
    by_cases h0 : (sub R).val = 0
    · rw [if_pos h0, ht]; omega
    · rw [if_neg h0]; simp; omega
  unfold rowScore row
  rw [hb, tables_apply]
  simp only [hu, hh]
  by_cases hv : Valid (sub R) ⟨R.val % 128, by omega⟩ j
  · rw [if_pos hv, if_pos ⟨hv.1, fun h' => hv.2 ⟨htb.1 h'.1, h'.2⟩⟩, ← AttnRow.score_scale]
    refine congrArg (· + _) (Finset.sum_congr rfl fun e _ => ?_)
    rw [around_eq k b r hx (sub R) j _ hv.2, hq, scaled_apply]
    refine congrArg₂ (· * ·) (congrArg (· * _) (congrArg q (ix3_congr ?_ ?_ ?_))) rfl
    · show (b.val * 2048 + R.val) / 2048 = b.val
      omega
    · show (b.val * 2048 + R.val) % 2048 * 4 + (r.val * 1024 + (h.val * 64 + e.val)) / 1024 = R.val / 128 * 512 + R.val % 128 * 4 + r.val
      omega
    · show (r.val * 1024 + (h.val * 64 + e.val)) % 1024 = h.val * 64 + e.val
      omega
  · rw [if_neg hv, if_neg fun h' => hv ⟨h'.1, fun h'' => h'.2 ⟨htb.2 h''.1, h''.2⟩⟩, AttnRow.perLog2_mul_bot, EReal.add_bot]

/-- A key that is not before the sequence, or whose score is minus infinity. -/
theorem row_bot (n : Fin 16) (u : Fin 128) (h : Fin 16) (j : Fin 256) (hn : n.val = 0 ∧ j.val < 128) : row q k a b n r u h j = ⊥ :=
  if_neg fun hv => hv.2 hn

end Point

variable (m : (ℓ : Loc nD τ sig) → Buf (Elt Ideal) ℓ)

/-- Which sequence grid point `t` works on. -/
def seqOf (t : Fin cfg0.N) : Fin 4 := ⟨t.val / 4, by have : t.val < 16 := t.isLt; omega⟩

/-- Which of the four strided sequences grid point `t` works on. -/
def resOf (t : Fin cfg0.N) : Fin 4 := ⟨t.val % 4, by omega⟩

/-- Where each window's block sits in its array at point `t`. -/
theorem index_facts : ∀ t : Fin cfg0.N, win0_0.index t = ![(seqOf t).val, (resOf t).val]
    ∧ win0_2.index t = ![(seqOf t).val, (resOf t).val] ∧ win0_4.index t = ![(seqOf t).val, (resOf t).val]
    ∧ win0_5.index t = ![0, 0, 0, 0] ∧ win0_6.index t = ![(seqOf t).val, (resOf t).val] ∧ win0_7.index t = ![(seqOf t).val, (resOf t).val]
    ∧ (tableAt (grid0.coords t)).val = 0 := by decide +kernel

/-- The queries a point loads are those of its row tile. -/
theorem blk_q (c : Dev nD) (t : Fin cfg0.N) (r : Fin 2048) (l : Fin 1024) :
    iblk m c 0 t (ix2 r l) = scaled (m ((c.tc : Thread nD τ).loc main_arg0)) (ix2 ⟨(seqOf t).val * 2048 + r.val, by omega⟩ ⟨(resOf t).val * 1024 + l.val, by omega⟩) := by
  rw [← V_q]
  have i := (index_facts t).1
  blk_ext! [iblk, i]

/-- The keys a point loads are those of its row tile. -/
theorem blk_k (c : Dev nD) (t : Fin cfg0.N) (r : Fin 2048) (l : Fin 1024) :
    iblk m c 2 t (ix2 r l) = flat (m ((c.tc : Thread nD τ).loc main_arg1)) (ix2 ⟨(seqOf t).val * 2048 + r.val, by omega⟩ ⟨(resOf t).val * 1024 + l.val, by omega⟩) := by
  rw [← V_k]
  have i := (index_facts t).2.1
  blk_ext! [iblk, i]

/-- The values a point loads are those of its row tile. -/
theorem blk_v (c : Dev nD) (t : Fin cfg0.N) (r : Fin 2048) (l : Fin 1024) :
    iblk m c 4 t (ix2 r l) = flat (m ((c.tc : Thread nD τ).loc main_arg2)) (ix2 ⟨(seqOf t).val * 2048 + r.val, by omega⟩ ⟨(resOf t).val * 1024 + l.val, by omega⟩) := by
  rw [← V_v]
  have i := (index_facts t).2.2.1
  blk_ext! [iblk, i]

/-- A point loads both bias tables whole. -/
theorem blk_b (c : Dev nD) (t : Fin cfg0.N) (tb : Fin 2) (p : Fin 8) (R j : Fin 256) :
    iblk m c 5 t (ix4 tb p R j) = tables (m ((c.tc : Thread nD τ).loc main_arg3)) (ix4 tb p R j) := by
  rw [← V_b]
  have i := (index_facts t).2.2.2.1
  blk_ext! [iblk, i]

end Cert.Attn4Ideal.Arrays

end
-- ==== Proof.Attn4Value.lean ====
/-
  The attention call at dilation four: the kernel's two result arrays and the reference's are the same arrays, and the claim that says so.
-/
module

public import proofs.«01_k».proof.Defs
public import proofs.«01_k».proof.Proof.Attn4Load
public import Idealize.ShloMosaic.Lib.Claim

@[expose] public section

set_option maxRecDepth 16384

noncomputable section

namespace Cert.Attn4Ideal.Arrays

open Cert.Attn4Ideal Cert.Attn4Ideal.Gen Idealize.ShloMosaic Idealize.ShloMosaic.TcCoe Idealize.SL.Sem Cert.Attn4Spec Cert.Attn4Ideal.Tile

variable (m : (ℓ : Loc nD τ sig) → Buf (Elt Ideal) ℓ)

/-- A point's scores are the reference's in units of the logarithm of two. -/
theorem scores_eq (c : Dev nD) (t : Fin cfg0.N) (R : Fin 2048) (h : Fin 16) (j : Fin 256) :
    rowScore (iblk m c 0 t) (iblk m c 1 t) (iblk m c 2 t) (iblk m c 5 t) (tableAt (grid0.coords t)) R h j
      = AttnRow.perLog2 * row (m ((c.tc : Thread nD τ).loc main_arg0)) (m ((c.tc : Thread nD τ).loc main_arg1)) (m ((c.tc : Thread nD τ).loc main_arg3))
        (seqOf t) (sub R) (resOf t) ⟨R.val % 128, by omega⟩ h j :=
  rowScore_eq _ _ _ _ _ (blk_q m c t) (blk_k m c t) (blk_b m c t) _ (index_facts t).2.2.2.2.2.2 R h j

/-- The weighted sums after the run are the reference's. -/
theorem final_sums (c : Dev nD) : (dats m 0 c).arrAt 6 cfg0.N
    = Cert.Attn4RefIdeal.Value.sums (m ((c.tc : Thread nD τ).loc main_arg0)) (m ((c.tc : Thread nD τ).loc main_arg1))
        (m ((c.tc : Thread nD τ).loc main_arg2)) (m ((c.tc : Thread nD τ).loc main_arg3)) := by
  refine (dats m 0 c).arrAt_eq_of_covers 6 _ (by decide +kernel) fun t hf y => ?_
  idx_vars y
  blk_simp
  rw [after0_6]
  have i6 := (index_facts t).2.2.2.2.1
  have he : (win0_6.blk t).view.emb (ix2 y0 y1) = ix2 ⟨(seqOf t).val * 2048 + y0.val, by omega⟩ ⟨(resOf t).val * 1024 + y1.val, by omega⟩ :=
    funext (Fin.forall_fin_two.mpr ⟨Fin.ext (by blk_simp [i6]), Fin.ext (by blk_simp [i6])⟩)
  have eb : (⟨((seqOf t).val * 2048 + y0.val) / 2048, by omega⟩ : Fin 4) = seqOf t := Fin.ext (by simp; omega)
  have en : (⟨((seqOf t).val * 2048 + y0.val) / 128 % 16, by omega⟩ : Fin 16) = sub y0 := Fin.ext (by simp [sub]; omega)
  have eu : (⟨((seqOf t).val * 2048 + y0.val) % 128, by omega⟩ : Fin 128) = ⟨y0.val % 128, by omega⟩ := Fin.ext (by simp; omega)
  have er : (⟨((resOf t).val * 1024 + y1.val) / 1024, by omega⟩ : Fin 4) = resOf t := Fin.ext (by simp; omega)
  have el : (⟨((resOf t).val * 1024 + y1.val) % 1024, by omega⟩ : Fin 1024) = y1 := Fin.ext (by simp)
  have eh : (⟨((resOf t).val * 1024 + y1.val) / 64 % 16, by omega⟩ : Fin 16) = ⟨y1.val / 64, by omega⟩ := Fin.ext (by simp; omega)
  rw [he, Cert.Attn4RefIdeal.Value.sums_apply]
  simp only [eb, en, eu, er, el, eh]
  unfold outsAt0
  dsimp only
  rw [out_sums]
  refine AttnRow.num_scale (fun j => scores_eq m c t y0 _ j) fun j => ?_
  by_cases hn : (sub y0).val = 0 ∧ j.val < 128
  · exact Or.inl (row_bot _ _ _ _ _ _ _ _ j hn)
  · exact Or.inr (around_eq _ _ _ (blk_v m c t) (sub y0) j y1 hn)

/-- The statistics after the run are the reference's. -/
theorem final_stats (c : Dev nD) : (dats m 0 c).arrAt 7 cfg0.N
    = Cert.Attn4RefIdeal.Value.stats (m ((c.tc : Thread nD τ).loc main_arg0)) (m ((c.tc : Thread nD τ).loc main_arg1))
        (m ((c.tc : Thread nD τ).loc main_arg3)) := by
  refine (dats m 0 c).arrAt_eq_of_covers 7 _ (by decide +kernel) fun t hf y => ?_
  idx_vars y
  blk_simp
  rw [after0_7]
  have i7 := (index_facts t).2.2.2.2.2.1
  have he : (win0_7.blk t).view.emb (ix2 y0 y1) = ix2 ⟨(seqOf t).val * 2048 + y0.val, by omega⟩ ⟨(resOf t).val * 128 + y1.val, by omega⟩ :=
    funext (Fin.forall_fin_two.mpr ⟨Fin.ext (by blk_simp [i7]), Fin.ext (by blk_simp [i7])⟩)
  have eb : (⟨((seqOf t).val * 2048 + y0.val) / 2048, by omega⟩ : Fin 4) = seqOf t := Fin.ext (by simp; omega)
  have en : (⟨((seqOf t).val * 2048 + y0.val) / 128 % 16, by omega⟩ : Fin 16) = sub y0 := Fin.ext (by simp [sub]; omega)
  have eu : (⟨((seqOf t).val * 2048 + y0.val) % 128, by omega⟩ : Fin 128) = ⟨y0.val % 128, by omega⟩ := Fin.ext (by simp; omega)
  have er : (⟨((resOf t).val * 128 + y1.val) / 128, by omega⟩ : Fin 4) = resOf t := Fin.ext (by simp; omega)
  have el : ((resOf t).val * 128 + y1.val) % 128 = y1.val := by omega
  rw [he, Cert.Attn4RefIdeal.Value.stats_apply]
  simp only [eb, en, eu, er, el]
  unfold outsAt0
  dsimp only
  rw [out_stats]
  show statsAt _ _ _ _ _ y0 y1 = _
  unfold statsAt
  by_cases h0 : y1.val < 16
  · rw [dif_pos h0, dif_pos h0]
    exact AttnRow.top_scale (scores_eq m c t y0 _)
  · rw [dif_neg h0, dif_neg h0]
    by_cases h1 : y1.val < 32
    · rw [dif_pos h1, dif_pos h1]
      exact AttnRow.den_scale (scores_eq m c t y0 _)
    · rw [dif_neg h1, dif_neg h1]

end Cert.Attn4Ideal.Arrays

namespace Cert.Attn4Ideal

open Idealize.ShloMosaic Idealize.ShloMosaic.TcCoe Idealize.SL.Sem

/-- The attention kernel at dilation four and the reference, run on the same arguments, end with the same weighted sums and statistics. -/
theorem algebraic : Cert.algebraic_Attn4Ideal_Attn4RefIdeal (hAttn4Ideal := Cert.Attn4Ideal.Gen.facts) (hAttn4RefIdeal := Cert.Attn4RefIdeal.Gen.facts) := by
  intro m g m' g' _ hagree
  refine ⟨fun c => Cert.Attn4RefIdeal.Value.sums (m ((c.tc : Thread nD τ).loc main_arg0)) (m ((c.tc : Thread nD τ).loc main_arg1))
      (m ((c.tc : Thread nD τ).loc main_arg2)) (m ((c.tc : Thread nD τ).loc main_arg3)),
    fun c => Cert.Attn4RefIdeal.Value.stats (m ((c.tc : Thread nD τ).loc main_arg0)) (m ((c.tc : Thread nD τ).loc main_arg1))
      (m ((c.tc : Thread nD τ).loc main_arg3)), ?_, ?_⟩
  · refine (θ_run _ _ _).mono (fun r h c => ?_) (Cert.Attn4Ideal.Value.run_blocks (F := Ideal) m g)
    exact ⟨(h c).1.trans (Arrays.final_sums m c), (h c).2.1.trans (Arrays.final_stats m c), (h c).2.2⟩
  · refine (θ_run _ _ _).mono (fun r h c => ?_) (Cert.Attn4RefIdeal.Value.run (F := Ideal) m' g')
    obtain ⟨h0, h1, h2, h3⟩ := hagree c
    refine ⟨(h c).1.trans ?_, (h c).2.1.trans ?_, (h c).2.2⟩
    · rw [Cert.Attn4RefIdeal.Value.res_sums, h0, h1, h2, h3]
    · rw [Cert.Attn4RefIdeal.Value.res_stats, h0, h1, h3]

end Cert.Attn4Ideal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.Attn4
public import proofs.«01_k».proof.Proof.Gen.Attn4.Frame
public import proofs.«01_k».proof.Proof.Gen.Attn4Ideal
public import proofs.«01_k».proof.Proof.Gen.Attn4Ideal.Frame
public import proofs.«01_k».proof.Proof.Gen.Attn4Ideal.Value
public import proofs.«01_k».proof.Proof.Gen.Attn4RefIdeal
public import proofs.«01_k».proof.Proof.Gen.Attn4RefIdeal.Run
public import proofs.«01_k».proof.Proof.FfnValue
public import proofs.«01_k».proof.Proof.AttnValue
public import proofs.«01_k».proof.Proof.ConvValue
public import proofs.«01_k».proof.Proof.Attn4Value
public import Idealize.ShloMosaic.Adequacy
public import Idealize.ShloMosaic.Init
public import Idealize.ShloMosaic.Lib.Quiescent

@[expose] public section

noncomputable section

namespace Cert

open Idealize.ShloMosaic Idealize.ShloMosaic.TcCoe Idealize.SL.Sem

/-- The attention reference keeps its arguments, and ends with every semaphore counter at zero. -/
theorem ReferenceIdeal.frame (m : (ℓ : Loc ReferenceIdeal.nD ReferenceIdeal.τ ReferenceIdeal.sig) → Buf (Elt Ideal) ℓ) (ρ : Dev ReferenceIdeal.nD → PrngReg) :
    θ_run ReferenceIdeal.defs (onTc (τ := ReferenceIdeal.τ) (ReferenceIdeal.main (F := Ideal))) ⟨m, fun _ => 0, ρ⟩ fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)) ∧ r.2.sem = fun _ => 0 :=
  (θ_run _ _ _).mono (fun r h => ⟨fun c => (h c).2.2, sem_eq_zero_of_no_sems (by decide) r.2⟩) (ReferenceIdeal.Value.run (F := Ideal) m ρ)

/-- The feed-forward reference keeps its arguments, and ends with every semaphore counter at zero. -/
theorem FfnRefIdeal.frame (m : (ℓ : Loc FfnRefIdeal.nD FfnRefIdeal.τ FfnRefIdeal.sig) → Buf (Elt Ideal) ℓ) (ρ : Dev FfnRefIdeal.nD → PrngReg) :
    θ_run FfnRefIdeal.defs (onTc (τ := FfnRefIdeal.τ) (FfnRefIdeal.main (F := Ideal))) ⟨m, fun _ => 0, ρ⟩ fun r => (∀ c : Dev FfnRefIdeal.nD,
      r.2.mem ((c.tc : Thread FfnRefIdeal.nD FfnRefIdeal.τ).loc FfnRefIdeal.main_arg0) = m ((c.tc : Thread FfnRefIdeal.nD FfnRefIdeal.τ).loc FfnRefIdeal.main_arg0)
      ∧ r.2.mem ((c.tc : Thread FfnRefIdeal.nD FfnRefIdeal.τ).loc FfnRefIdeal.main_arg1) = m ((c.tc : Thread FfnRefIdeal.nD FfnRefIdeal.τ).loc FfnRefIdeal.main_arg1)
      ∧ r.2.mem ((c.tc : Thread FfnRefIdeal.nD FfnRefIdeal.τ).loc FfnRefIdeal.main_arg2) = m ((c.tc : Thread FfnRefIdeal.nD FfnRefIdeal.τ).loc FfnRefIdeal.main_arg2)
      ∧ r.2.mem ((c.tc : Thread FfnRefIdeal.nD FfnRefIdeal.τ).loc FfnRefIdeal.main_arg3) = m ((c.tc : Thread FfnRefIdeal.nD FfnRefIdeal.τ).loc FfnRefIdeal.main_arg3)) ∧ r.2.sem = fun _ => 0 :=
  (θ_run _ _ _).mono (fun r h => ⟨fun c => (h c).2, sem_eq_zero_of_no_sems (by decide) r.2⟩) (FfnRefIdeal.Value.run (F := Ideal) m ρ)

/-- The convolution mixer's reference keeps its arguments, and ends with every semaphore counter at zero. -/
theorem ConvRefIdeal.frame (m : (ℓ : Loc ConvRefIdeal.nD ConvRefIdeal.τ ConvRefIdeal.sig) → Buf (Elt Ideal) ℓ) (ρ : Dev ConvRefIdeal.nD → PrngReg) :
    θ_run ConvRefIdeal.defs (onTc (τ := ConvRefIdeal.τ) (ConvRefIdeal.main (F := Ideal))) ⟨m, fun _ => 0, ρ⟩ fun r => (∀ c : Dev ConvRefIdeal.nD,
      r.2.mem ((c.tc : Thread ConvRefIdeal.nD ConvRefIdeal.τ).loc ConvRefIdeal.main_arg0) = m ((c.tc : Thread ConvRefIdeal.nD ConvRefIdeal.τ).loc ConvRefIdeal.main_arg0)
      ∧ r.2.mem ((c.tc : Thread ConvRefIdeal.nD ConvRefIdeal.τ).loc ConvRefIdeal.main_arg1) = m ((c.tc : Thread ConvRefIdeal.nD ConvRefIdeal.τ).loc ConvRefIdeal.main_arg1)
      ∧ r.2.mem ((c.tc : Thread ConvRefIdeal.nD ConvRefIdeal.τ).loc ConvRefIdeal.main_arg2) = m ((c.tc : Thread ConvRefIdeal.nD ConvRefIdeal.τ).loc ConvRefIdeal.main_arg2)
      ∧ r.2.mem ((c.tc : Thread ConvRefIdeal.nD ConvRefIdeal.τ).loc ConvRefIdeal.main_arg3) = m ((c.tc : Thread ConvRefIdeal.nD ConvRefIdeal.τ).loc ConvRefIdeal.main_arg3)
      ∧ r.2.mem ((c.tc : Thread ConvRefIdeal.nD ConvRefIdeal.τ).loc ConvRefIdeal.main_arg4) = m ((c.tc : Thread ConvRefIdeal.nD ConvRefIdeal.τ).loc ConvRefIdeal.main_arg4)) ∧ r.2.sem = fun _ => 0 :=
  (θ_run _ _ _).mono (fun r h => ⟨fun c => (h c).2, sem_eq_zero_of_no_sems (by decide) r.2⟩) (ConvRefIdeal.Value.run (F := Ideal) m ρ)

/-- The reference of the attention at dilation four keeps its arguments, and ends with every semaphore counter at zero. -/
theorem Attn4RefIdeal.frame (m : (ℓ : Loc Attn4RefIdeal.nD Attn4RefIdeal.τ Attn4RefIdeal.sig) → Buf (Elt Ideal) ℓ) (ρ : Dev Attn4RefIdeal.nD → PrngReg) :
    θ_run Attn4RefIdeal.defs (onTc (τ := Attn4RefIdeal.τ) (Attn4RefIdeal.main (F := Ideal))) ⟨m, fun _ => 0, ρ⟩ fun r => (∀ c : Dev Attn4RefIdeal.nD,
      r.2.mem ((c.tc : Thread Attn4RefIdeal.nD Attn4RefIdeal.τ).loc Attn4RefIdeal.main_arg0) = m ((c.tc : Thread Attn4RefIdeal.nD Attn4RefIdeal.τ).loc Attn4RefIdeal.main_arg0)
      ∧ r.2.mem ((c.tc : Thread Attn4RefIdeal.nD Attn4RefIdeal.τ).loc Attn4RefIdeal.main_arg1) = m ((c.tc : Thread Attn4RefIdeal.nD Attn4RefIdeal.τ).loc Attn4RefIdeal.main_arg1)
      ∧ r.2.mem ((c.tc : Thread Attn4RefIdeal.nD Attn4RefIdeal.τ).loc Attn4RefIdeal.main_arg2) = m ((c.tc : Thread Attn4RefIdeal.nD Attn4RefIdeal.τ).loc Attn4RefIdeal.main_arg2)
      ∧ r.2.mem ((c.tc : Thread Attn4RefIdeal.nD Attn4RefIdeal.τ).loc Attn4RefIdeal.main_arg3) = m ((c.tc : Thread Attn4RefIdeal.nD Attn4RefIdeal.τ).loc Attn4RefIdeal.main_arg3)) ∧ r.2.sem = fun _ => 0 :=
  (θ_run _ _ _).mono (fun r h => ⟨fun c => (h c).2.2, sem_eq_zero_of_no_sems (by decide) r.2⟩) (Attn4RefIdeal.Value.run (F := Ideal) m ρ)

end Cert

namespace Cert.Proof

open Idealize.ShloMosaic Idealize.SL.Sem

/-- Every claim of the certificate holds. -/
theorem claim : Cert.Claim := ⟨Cert.Kernel.Gen.facts, Cert.KernelIdeal.Gen.facts, Cert.ReferenceIdeal.Gen.facts,
    Cert.Ffn.Gen.facts, Cert.FfnIdeal.Gen.facts, Cert.FfnRefIdeal.Gen.facts,
    Cert.Conv.Gen.facts, Cert.ConvIdeal.Gen.facts, Cert.ConvRefIdeal.Gen.facts,
    Cert.Attn4.Gen.facts, Cert.Attn4Ideal.Gen.facts, Cert.Attn4RefIdeal.Gen.facts,
    fun m ρ _ => Cert.Kernel.Gen.frame m ρ, fun m ρ _ => Cert.KernelIdeal.Gen.frame m ρ,
    fun m ρ _ => Cert.ReferenceIdeal.frame m ρ,
    fun m ρ _ => Cert.Ffn.Gen.frame m ρ, fun m ρ _ => Cert.FfnIdeal.Gen.frame m ρ,
    fun m ρ _ => Cert.FfnRefIdeal.frame m ρ,
    fun m ρ _ => Cert.Conv.Gen.frame m ρ, fun m ρ _ => Cert.ConvIdeal.Gen.frame m ρ,
    fun m ρ _ => Cert.ConvRefIdeal.frame m ρ,
    fun m ρ _ => Cert.Attn4.Gen.frame m ρ, fun m ρ _ => Cert.Attn4Ideal.Gen.frame m ρ,
    fun m ρ _ => Cert.Attn4RefIdeal.frame m ρ,
    trivial, Cert.KernelIdeal.algebraic, trivial, Cert.FfnIdeal.algebraic,
    trivial, Cert.ConvIdeal.algebraic,
    trivial, Cert.Attn4Ideal.algebraic⟩

end Cert.Proof

end
